-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_v57) = v5 c
          ∧ r.2.mem ((c.tc : Thread Cert.Reference3Ideal.nD Cert.Reference3Ideal.τ).loc Cert.Reference3Ideal.main_v60) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "tiny" .f32 0x179ABE15#32 ((5316911940649 / 5316911983139663491615228241121378304 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)) (v7 : (c : Dev Cert.Kernel4Ideal.nD) → Buf (Elt Ideal) ((c.tc : Thread Cert.Kernel4Ideal.nD Cert.Kernel4Ideal.τ).loc Cert.Kernel4Ideal.main_v14_7)) (v8 : (c : Dev Cert.Kernel4Ideal.nD) → Buf (Elt Ideal) ((c.tc : Thread Cert.Kernel4Ideal.nD Cert.Kernel4Ideal.τ).loc Cert.Kernel4Ideal.main_v14_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_v14_7) = v7 c
          ∧ r.2.mem ((c.tc : Thread Cert.Kernel4Ideal.nD Cert.Kernel4Ideal.τ).loc Cert.Kernel4Ideal.main_v14_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v113) = v1 c
          ∧ r.2.mem ((c.tc : Thread Cert.Reference4Ideal.nD Cert.Reference4Ideal.τ).loc Cert.Reference4Ideal.main_v114) = v2 c
          ∧ r.2.mem ((c.tc : Thread Cert.Reference4Ideal.nD Cert.Reference4Ideal.τ).loc Cert.Reference4Ideal.main_v115) = v3 c
          ∧ r.2.mem ((c.tc : Thread Cert.Reference4Ideal.nD Cert.Reference4Ideal.τ).loc Cert.Reference4Ideal.main_v116) = v4 c
          ∧ r.2.mem ((c.tc : Thread Cert.Reference4Ideal.nD Cert.Reference4Ideal.τ).loc Cert.Reference4Ideal.main_v117) = v5 c
          ∧ r.2.mem ((c.tc : Thread Cert.Reference4Ideal.nD Cert.Reference4Ideal.τ).loc Cert.Reference4Ideal.main_v118) = v6 c
          ∧ r.2.mem ((c.tc : Thread Cert.Reference4Ideal.nD Cert.Reference4Ideal.τ).loc Cert.Reference4Ideal.main_v119) = v7 c
          ∧ r.2.mem ((c.tc : Thread Cert.Reference4Ideal.nD Cert.Reference4Ideal.τ).loc Cert.Reference4Ideal.main_v120) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x512 : Shape := ⟨3, ![2, 8192, 512]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn_part1 {F : FTy → Type} [FloatOps F] (main_arg4 : FVec F S2x8192x512 .f32) (main_arg5 : FVec F S2x8192x512 .f32) (main_v13 : IVec S_ 1) (main_v16 : IVec S2x8192x512 1) : IVec S_ 1 :=
  let main_c_5 : IVec S_ 1 := constantI S_ 1 1#1
  let main_v17 : IVec S_ 1 := (fun x v => Host.reduce IntOp.andi x v reducesTo_S2x8192x512_S_d0_1_2 h_S_) main_v16 main_c_5
  let main_v18 : IVec S_ 1 := andi main_v13 main_v17
  let main_v19 : FVec F S2x8192x512 .f32 := Host.absf main_arg4
  let main_cst_6 : FVec F S_ .f32 := constant S_ .f32 0x7F800000#32
  let main_v20 : FVec F S2x8192x512 .f32 := broadcastInDim S2x8192x512 ![] bcast_S_S2x8192x512 main_cst_6
  let main_v21 : IVec S2x8192x512 1 := cmpf .olt main_v19 main_v20
  let main_c_7 : IVec S_ 1 := constantI S_ 1 1#1
  let main_v22 : IVec S_ 1 := (fun x v => Host.reduce IntOp.andi x v reducesTo_S2x8192x512_S_d0_1_2 h_S_) main_v21 main_c_7
  let main_v23 : IVec S_ 1 := andi main_v18 main_v22
  let main_v24 : FVec F S2x8192x512 .f32 := Host.absf main_arg5
  let main_cst_8 : FVec F S_ .f32 := constant S_ .f32 0x7F800000#32
  let main_v25 : FVec F S2x8192x512 .f32 := broadcastInDim S2x8192x512 ![] bcast_S_S2x8192x512 main_cst_8
  let main_v26 : IVec S2x8192x512 1 := cmpf .olt main_v24 main_v25
  let main_c_9 : IVec S_ 1 := constantI S_ 1 1#1
  let main_v27 : IVec S_ 1 := (fun x v => Host.reduce IntOp.andi x v reducesTo_S2x8192x512_S_d0_1_2 h_S_) main_v26 main_c_9
  let main_v28 : IVec S_ 1 := andi main_v23 main_v27
  main_v28

def fn {F : FTy → Type} [FloatOps F] (main_arg0 : FVec F S2x8192x512 .f32) (main_arg1 : FVec F S2x8192x512 .f32) (main_arg2 : FVec F S2x8192x512 .f32) (main_arg3 : FVec F S2x8192x512 .f32) (main_arg4 : FVec F S2x8192x512 .f32) (main_arg5 : FVec F S2x8192x512 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8192x512 .f32 := Host.absf main_arg1
  let main_cst_0 : FVec F S_ .f32 := constant S_ .f32 0x7F800000#32
  let main_v5 : FVec F S2x8192x512 .f32 := broadcastInDim S2x8192x512 ![] bcast_S_S2x8192x512 main_cst_0
  let main_v6 : IVec S2x8192x512 1 := cmpf .olt main_v4 main_v5
  let main_c_1 : IVec S_ 1 := constantI S_ 1 1#1
  let main_v7 : IVec S_ 1 := (fun x v => Host.reduce IntOp.andi x v reducesTo_S2x8192x512_S_d0_1_2 h_S_) main_v6 main_c_1
  let main_v8 : IVec S_ 1 := andi main_v3 main_v7
  let main_v9 : FVec F S2x8192x512 .f32 := Host.absf main_arg2
  let main_cst_2 : FVec F S_ .f32 := constant S_ .f32 0x7F800000#32
  let main_v10 : FVec F S2x8192x512 .f32 := broadcastInDim S2x8192x512 ![] bcast_S_S2x8192x512 main_cst_2
  let main_v11 : IVec S2x8192x512 1 := cmpf .olt main_v9 main_v10
  let main_c_3 : IVec S_ 1 := constantI S_ 1 1#1
  let main_v12 : IVec S_ 1 := (fun x v => Host.reduce IntOp.andi x v reducesTo_S2x8192x512_S_d0_1_2 h_S_) main_v11 main_c_3
  let main_v13 : IVec S_ 1 := andi main_v8 main_v12
  let main_v14 : FVec F S2x8192x512 .f32 := Host.absf main_arg3
  let main_cst_4 : FVec F S_ .f32 := constant S_ .f32 0x7F800000#32
  let main_v15 : FVec F S2x8192x512 .f32 := broadcastInDim S2x8192x512 ![] bcast_S_S2x8192x512 main_cst_4
  let main_v16 : IVec S2x8192x512 1 := cmpf .olt main_v14 main_v15
  fn_part1 (F := F) main_arg4 main_arg5 main_v13 main_v16
-- ==== Kernel.lean ====
abbrev S2x8192x512 : Shape := ⟨3, ![2, 8192, 512]⟩
abbrev S2x512x512 : Shape := ⟨3, ![2, 512, 512]⟩
abbrev S2x4x128x128 : Shape := ⟨4, ![2, 4, 128, 128]⟩
abbrev S64x128 : Shape := ⟨2, ![64, 128]⟩
abbrev S128x128 : Shape := ⟨2, ![128, 128]⟩
abbrev S1x1x128x128 : Shape := ⟨4, ![1, 1, 128, 128]⟩
abbrev S1x64x512 : Shape := ⟨3, ![1, 64, 512]⟩
abbrev S64x512 : Shape := ⟨2, ![64, 512]⟩
abbrev S8x8x512 : Shape := ⟨3, ![8, 8, 512]⟩
abbrev S1x8x512 : Shape := ⟨3, ![1, 8, 512]⟩
abbrev S8x512 : Shape := ⟨2, ![8, 512]⟩
abbrev S1x512 : Shape := ⟨2, ![1, 512]⟩
abbrev S1x128 : Shape := ⟨2, ![1, 128]⟩
abbrev S128 : Shape := ⟨1, ![128]⟩
abbrev S128x1 : Shape := ⟨2, ![128, 1]⟩
abbrev S256x128 : Shape := ⟨2, ![256, 128]⟩
abbrev S128x256 : Shape := ⟨2, ![128, 256]⟩
abbrev S64x256 : Shape := ⟨2, ![64, 256]⟩
abbrev S64x384 : Shape := ⟨2, ![64, 384]⟩
abbrev S384x128 : Shape := ⟨2, ![384, 128]⟩
abbrev S1x64x128 : Shape := ⟨3, ![1, 64, 128]⟩

abbrev nBuf : Space → Nat
  | .hbm => 7
  | .vmem => 15
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | .local _ .vmem, ⟨12, _⟩ => ⟨S2x512x512, .f32⟩
  | .local _ .vmem, ⟨13, _⟩ => ⟨S2x512x512, .f32⟩
  | .local _ .vmem, ⟨14, _⟩ => ⟨S2x4x128x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x8192x512 : Shape := ⟨3, ![2, 8192, 512]⟩
abbrev S2x8192x8x64 : Shape := ⟨4, ![2, 8192, 8, 64]⟩
abbrev S8192x2x8x64 : Shape := ⟨4, ![8192, 2, 8, 64]⟩
abbrev S_ : Shape := ⟨0, ![]⟩
abbrev S2x8x64x64 : Shape := ⟨4, ![2, 8, 64, 64]⟩
abbrev S1x2x8x64 : Shape := ⟨4, ![1, 2, 8, 64]⟩
abbrev S2x8x64 : Shape := ⟨3, ![2, 8, 64]⟩
abbrev S2x8x1x64 : Shape := ⟨4, ![2, 8, 1, 64]⟩
abbrev S2x8x64x1 : Shape := ⟨4, ![2, 8, 64, 1]⟩

abbrev nBuf : Space → Nat
  | .hbm => 93
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x8x64, .f32⟩
  | .hbm, ⟨7, _⟩ => ⟨S2x8192x8x64, .f32⟩
  | .hbm, ⟨8, _⟩ => ⟨S2x8192x8x64, .f32⟩
  | .hbm, ⟨9, _⟩ => ⟨S2x8192x512, .f32⟩
  | .hbm, ⟨10, _⟩ => ⟨S2x8192x8x64, .f32⟩
  | .hbm, ⟨11, _⟩ => ⟨S2x8192x8x64, .f32⟩
  | .hbm, ⟨12, _⟩ => ⟨S2x8192x8x64, .f32⟩
  | .hbm, ⟨13, _⟩ => ⟨S2x8192x8x64, .f32⟩
  | .hbm, ⟨14, _⟩ => ⟨S2x8192x8x64, .f32⟩
  | .hbm, ⟨15, _⟩ => ⟨S8192x2x8x64, .f32⟩
  | .hbm, ⟨16, _⟩ => ⟨S8192x2x8x64, .f32⟩
  | .hbm, ⟨17, _⟩ => ⟨S8192x2x8x64, .f32⟩
  | .hbm, ⟨18, _⟩ => ⟨S8192x2x8x64, .f32⟩
  | .hbm, ⟨19, _⟩ => ⟨S8192x2x8x64, .f32⟩
  | .hbm, ⟨20, _⟩ => ⟨S8192x2x8x64, .f32⟩
  | .hbm, ⟨21, _⟩ => ⟨S_, .f32⟩
  | .hbm, ⟨22, _⟩ => ⟨S2x8x64x64, .f32⟩
  | .hbm, ⟨23, _⟩ => ⟨S_, .f32⟩
  | .hbm, ⟨24, _⟩ => ⟨S8192x2x8x64, .f32⟩
  | .hbm, ⟨25, _⟩ => ⟨S_, .i32⟩
  | .hbm, ⟨26, _⟩ => ⟨S8192x2x8x64, .f32⟩
  | .hbm, ⟨27, _⟩ => ⟨S8192x2x8x64, .f32⟩
  | .hbm, ⟨28, _⟩ => ⟨S8192x2x8x64, .f32⟩
  | .hbm, ⟨29, _⟩ => ⟨S8192x2x8x64, .f32⟩
  | .hbm, ⟨30, _⟩ => ⟨S8192x2x8x64, .f32⟩
  | .hbm, ⟨31, _⟩ => ⟨S8192x2x8x64, .f32⟩
  | .hbm, ⟨32, _⟩ => ⟨S_, .i32⟩
  | .hbm, ⟨33, _⟩ => ⟨S2x8x64x64, .f32⟩
  | .hbm, ⟨34, _⟩ => ⟨S8192x2x8x64, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2x8x64, .f32⟩
  | .hbm, ⟨41, _⟩ => ⟨S2x8x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x8x64, .f32⟩
  | .hbm, ⟨46, _⟩ => ⟨S2x8x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x2x8x64, .f32⟩
  | .hbm, ⟨51, _⟩ => ⟨S2x8x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x2x8x64, .f32⟩
  | .hbm, ⟨56, _⟩ => ⟨S2x8x64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x2x8x64, .f32⟩
  | .hbm, ⟨61, _⟩ => ⟨S2x8x64, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x8x64, .f32⟩
  | .hbm, ⟨66, _⟩ => ⟨S2x8x64, .f32⟩
  | .hbm, ⟨67, _⟩ => ⟨S2x8x64, .f32⟩
  | .hbm, ⟨68, _⟩ => ⟨S2x8x1x64, .f32⟩
  | .hbm, ⟨69, _⟩ => ⟨S2x8x64x64, .f32⟩
  | .hbm, ⟨70, _⟩ => ⟨S2x8x64x64, .f32⟩
  | .hbm, ⟨71, _⟩ => ⟨S2x8x64x1, .f32⟩
  | .hbm, ⟨72, _⟩ => ⟨S2x8x1x64, .f32⟩
  | .hbm, ⟨73, _⟩ => ⟨S2x8x64x64, .f32⟩
  | .hbm, ⟨74, _⟩ => ⟨S2x8x64x64, .f32⟩
  | .hbm, ⟨75, _⟩ => ⟨S2x8x64x64, .f32⟩
  | .hbm, ⟨76, _⟩ => ⟨S2x8x64x64, .f32⟩
  | .hbm, ⟨77, _⟩ => ⟨S2x8x64x1, .f32⟩
  | .hbm, ⟨78, _⟩ => ⟨S2x8x1x64, .f32⟩
  | .hbm, ⟨79, _⟩ => ⟨S2x8x64x64, .f32⟩
  | .hbm, ⟨80, _⟩ => ⟨S2x8x64x64, .f32⟩
  | .hbm, ⟨81, _⟩ => ⟨S2x8x64x64, .f32⟩
  | .hbm, ⟨82, _⟩ => ⟨S2x8x64x64, .f32⟩
  | .hbm, ⟨83, _⟩ => ⟨S2x8x64, .f32⟩
  | .hbm, ⟨84, _⟩ => ⟨S1x2x8x64, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S8192x2x8x64, .f32⟩
  | .hbm, ⟨89, _⟩ => ⟨S_, .i32⟩
  | .hbm, ⟨90, _⟩ => ⟨S_, .i32⟩
  | .hbm, ⟨91, _⟩ => ⟨S2x8192x8x64, .f32⟩
  | .hbm, ⟨92, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_c : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev main_v17_7 : Ref sig .tc := ⟨.hbm, 33, rfl⟩
abbrev main_v17_8 : Ref sig .tc := ⟨.hbm, 34, rfl⟩
abbrev main_while0c_c_9 : Ref sig .tc := ⟨.hbm, 35, rfl⟩
abbrev main_while0c_v20 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v20 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v21 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v22 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v23 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v24 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_c_1 : Ref sig .tc := ⟨.hbm, 64, rfl⟩
abbrev main_while0b_call5_v0 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_v41 : Ref sig .tc := ⟨.hbm, 82, rfl⟩
abbrev main_while0b_v42 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v43 : Ref sig .tc := ⟨.hbm, 88, rfl⟩
abbrev main_while0b_c_9 : Ref sig .tc := ⟨.hbm, 89, rfl⟩
abbrev main_while0b_v44 : Ref sig .tc := ⟨.hbm, 90, rfl⟩
abbrev main_v18 : Ref sig .tc := ⟨.hbm, 91, rfl⟩
abbrev main_v19 : Ref sig .tc := ⟨.hbm, 92, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S2x6x1024 : Shape := ⟨3, ![2, 6, 1024]⟩
abbrev S1024x5632 : Shape := ⟨2, ![1024, 5632]⟩
abbrev S2816x1024 : Shape := ⟨2, ![2816, 1024]⟩
abbrev S1024x1024 : Shape := ⟨2, ![1024, 1024]⟩
abbrev S1x6x1024 : Shape := ⟨3, ![1, 6, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S2x6x1024 : Shape := ⟨3, ![2, 6, 1024]⟩
abbrev S1024x5632 : Shape := ⟨2, ![1024, 5632]⟩
abbrev S2816x1024 : Shape := ⟨2, ![2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x5632, .bf16⟩
  | .hbm, ⟨3, _⟩ => ⟨S2816x1024, .bf16⟩
  | .hbm, ⟨4, _⟩ => ⟨S1x6x1024, .f32⟩
  | .hbm, ⟨5, _⟩ => ⟨S6x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x5632, .f32⟩
  | .hbm, ⟨25, _⟩ => ⟨S2816x1024, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S1x1024, .f32⟩
  | .hbm, ⟨41, _⟩ => ⟨S1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel3.lean ====
abbrev S16384x1024 : Shape := ⟨2, ![16384, 1024]⟩
abbrev S2x6x1024 : Shape := ⟨3, ![2, 6, 1024]⟩
abbrev S1024x5632 : Shape := ⟨2, ![1024, 5632]⟩
abbrev S2816x1024 : Shape := ⟨2, ![2816, 1024]⟩
abbrev S2x1024x4864 : Shape := ⟨3, ![2, 1024, 4864]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1024x4864 : Shape := ⟨2, ![1024, 4864]⟩
abbrev S512x1024 : Shape := ⟨2, ![512, 1024]⟩
abbrev S1024x1024 : Shape := ⟨2, ![1024, 1024]⟩
abbrev S1x6x1024 : Shape := ⟨3, ![1, 6, 1024]⟩
abbrev S1x64x4864 : Shape := ⟨3, ![1, 64, 4864]⟩
abbrev S1x32x1024 : Shape := ⟨3, ![1, 32, 1024]⟩
abbrev S1x64x1024 : Shape := ⟨3, ![1, 64, 1024]⟩
abbrev S1x64x5632 : Shape := ⟨3, ![1, 64, 5632]⟩
abbrev S1x176x1024 : Shape := ⟨3, ![1, 176, 1024]⟩
abbrev S64x4864 : Shape := ⟨2, ![64, 4864]⟩
abbrev S32x1024 : Shape := ⟨2, ![32, 1024]⟩
abbrev S64x1024 : Shape := ⟨2, ![64, 1024]⟩
abbrev S64x5632 : Shape := ⟨2, ![64, 5632]⟩
abbrev S176x1024 : Shape := ⟨2, ![176, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 17
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x5632, .bf16⟩
  | .hbm, ⟨3, _⟩ => ⟨S2816x1024, .bf16⟩
  | .hbm, ⟨4, _⟩ => ⟨S2x1024x4864, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1024x5632, .f32⟩
  | .hbm, ⟨9, _⟩ => ⟨S2x2816x1024, .f32⟩
  | .hbm, ⟨10, _⟩ => ⟨S16384x1024, .f32⟩
  | .hbm, ⟨11, _⟩ => ⟨S1024x4864, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1024x5632, .bf16⟩
  | .hbm, ⟨16, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x64x4864, .f32⟩
  | .local _ .vmem, ⟨6, _⟩ => ⟨S1x64x4864, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x5632, .f32⟩
  | .local _ .vmem, ⟨14, _⟩ => ⟨S1x64x5632, .f32⟩
  | .local _ .vmem, ⟨15, _⟩ => ⟨S1x176x1024, .f32⟩
  | .local _ .vmem, ⟨16, _⟩ => ⟨S1x176x1024, .f32⟩
  | .local _ .vmem, ⟨17, _⟩ => ⟨S1024x1024, .f32⟩
  | .local _ .vmem, ⟨18, _⟩ => ⟨S1024x1024, .f32⟩
  | .local _ .vmem, ⟨19, _⟩ => ⟨S64x4864, .bf16⟩
  | .local _ .vmem, ⟨20, _⟩ => ⟨S64x4864, .bf16⟩
  | .local _ .vmem, ⟨21, _⟩ => ⟨S32x1024, .bf16⟩
  | .local _ .vmem, ⟨22, _⟩ => ⟨S32x1024, .bf16⟩
  | .local _ .vmem, ⟨23, _⟩ => ⟨S32x1024, .bf16⟩
  | .local _ .vmem, ⟨24, _⟩ => ⟨S32x1024, .bf16⟩
  | .local _ .vmem, ⟨25, _⟩ => ⟨S64x1024, .bf16⟩
  | .local _ .vmem, ⟨26, _⟩ => ⟨S64x1024, .bf16⟩
  | .local _ .vmem, ⟨27, _⟩ => ⟨S64x5632, .bf16⟩
  | .local _ .vmem, ⟨28, _⟩ => ⟨S64x5632, .bf16⟩
  | .local _ .vmem, ⟨29, _⟩ => ⟨S176x1024, .bf16⟩
  | .local _ .vmem, ⟨30, _⟩ => ⟨S176x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x4864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x4864 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16384x1024 : Shape := ⟨2, ![16384, 1024]⟩
abbrev S2x6x1024 : Shape := ⟨3, ![2, 6, 1024]⟩
abbrev S1024x5632 : Shape := ⟨2, ![1024, 5632]⟩
abbrev S2816x1024 : Shape := ⟨2, ![2816, 1024]⟩
abbrev S2x1024x4864 : Shape := ⟨3, ![2, 1024, 4864]⟩
abbrev S2x512x1024 : Shape := ⟨3, ![2, 512, 1024]⟩
abbrev S2x1024x1024 : Shape := ⟨3, ![2, 1024, 1024]⟩
abbrev S2x1024x5632 : Shape := ⟨3, ![2, 1024, 5632]⟩
abbrev S2x2816x1024 : Shape := ⟨3, ![2, 2816, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x1024x4864 : Shape := ⟨3, ![1, 1024, 4864]⟩
abbrev S1024x4864 : Shape := ⟨2, ![1024, 4864]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1x2816x1024 : Shape := ⟨3, ![1, 2816, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x5632, .bf16⟩
  | .hbm, ⟨3, _⟩ => ⟨S2816x1024, .bf16⟩
  | .hbm, ⟨4, _⟩ => ⟨S2x1024x4864, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1024x5632, .f32⟩
  | .hbm, ⟨9, _⟩ => ⟨S2x2816x1024, .f32⟩
  | .hbm, ⟨10, _⟩ => ⟨S1x6x1024, .f32⟩
  | .hbm, ⟨11, _⟩ => ⟨S6x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1024x5632, .f32⟩
  | .hbm, ⟨31, _⟩ => ⟨S2816x1024, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x1024x4864, .f32⟩
  | .hbm, ⟨69, _⟩ => ⟨S1024x4864, .f32⟩
  | .hbm, ⟨70, _⟩ => ⟨S1024x4864, .bf16⟩
  | .hbm, ⟨71, _⟩ => ⟨S1x512x1024, .f32⟩
  | .hbm, ⟨72, _⟩ => ⟨S512x1024, .f32⟩
  | .hbm, ⟨73, _⟩ => ⟨S512x1024, .bf16⟩
  | .hbm, ⟨74, _⟩ => ⟨S1x512x1024, .f32⟩
  | .hbm, ⟨75, _⟩ => ⟨S512x1024, .f32⟩
  | .hbm, ⟨76, _⟩ => ⟨S512x1024, .bf16⟩
  | .hbm, ⟨77, _⟩ => ⟨S1x1024x1024, .f32⟩
  | .hbm, ⟨78, _⟩ => ⟨S1024x1024, .f32⟩
  | .hbm, ⟨79, _⟩ => ⟨S1024x1024, .bf16⟩
  | .hbm, ⟨80, _⟩ => ⟨S1x1024x5632, .f32⟩
  | .hbm, ⟨81, _⟩ => ⟨S1024x5632, .f32⟩
  | .hbm, ⟨82, _⟩ => ⟨S1024x5632, .bf16⟩
  | .hbm, ⟨83, _⟩ => ⟨S1x2816x1024, .f32⟩
  | .hbm, ⟨84, _⟩ => ⟨S2816x1024, .f32⟩
  | .hbm, ⟨85, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Kernel4.lean ====
abbrev S16384x1024 : Shape := ⟨2, ![16384, 1024]⟩
abbrev S2x6x1024 : Shape := ⟨3, ![2, 6, 1024]⟩
abbrev S1024x4864 : Shape := ⟨2, ![1024, 4864]⟩
abbrev S2x1792 : Shape := ⟨2, ![2, 1792]⟩
abbrev S2x512 : Shape := ⟨2, ![2, 512]⟩
abbrev S2x64x512 : Shape := ⟨3, ![2, 64, 512]⟩
abbrev S2x128x512 : Shape := ⟨3, ![2, 128, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S512x1024 : Shape := ⟨2, ![512, 1024]⟩
abbrev S1x6x1024 : Shape := ⟨3, ![1, 6, 1024]⟩
abbrev S1024x2816 : Shape := ⟨2, ![1024, 2816]⟩
abbrev S1x128x512 : Shape := ⟨3, ![1, 128, 512]⟩
abbrev S512x512 : Shape := ⟨2, ![512, 512]⟩
abbrev S512x2816 : Shape := ⟨2, ![512, 2816]⟩
abbrev S8x1792 : Shape := ⟨2, ![8, 1792]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x1792 : Shape := ⟨2, ![512, 1792]⟩
abbrev S520x1792 : Shape := ⟨2, ![520, 1792]⟩
abbrev S1x1792 : Shape := ⟨2, ![1, 1792]⟩
abbrev S512x128 : Shape := ⟨2, ![512, 128]⟩
abbrev S1x512 : Shape := ⟨2, ![1, 512]⟩
abbrev S128x512 : Shape := ⟨2, ![128, 512]⟩

abbrev nBuf : Space → Nat
  | .hbm => 53
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1024x4864, .bf16⟩
  | .hbm, ⟨3, _⟩ => ⟨S2x1792, .f32⟩
  | .hbm, ⟨4, _⟩ => ⟨S2x512, .f32⟩
  | .hbm, ⟨5, _⟩ => ⟨S2x64x512, .f32⟩
  | .hbm, ⟨6, _⟩ => ⟨S2x512, .f32⟩
  | .hbm, ⟨7, _⟩ => ⟨S2x64x512, .f32⟩
  | .hbm, ⟨8, _⟩ => ⟨S2x128x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S1x256, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .bf16⟩
  | .hbm, ⟨37, _⟩ => ⟨S_, .f32⟩
  | .hbm, ⟨38, _⟩ => ⟨S2x64x512, .f32⟩
  | .hbm, ⟨39, _⟩ => ⟨S2x128x512, .f32⟩
  | .hbm, ⟨40, _⟩ => ⟨S2x128x512, .bf16⟩
  | .hbm, ⟨41, _⟩ => ⟨S2x128x512, .f32⟩
  | .hbm, ⟨42, _⟩ => ⟨S2x128x512, .bf16⟩
  | .hbm, ⟨43, _⟩ => ⟨S2x128x512, .bf16⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1024x2816, .bf16⟩
  | .local _ .vmem, ⟨4, _⟩ => ⟨S2x1792, .f32⟩
  | .local _ .vmem, ⟨5, _⟩ => ⟨S2x512, .f32⟩
  | .local _ .vmem, ⟨6, _⟩ => ⟨S1x128x512, .bf16⟩
  | .local _ .vmem, ⟨7, _⟩ => ⟨S2x512, .f32⟩
  | .local _ .vmem, ⟨8, _⟩ => ⟨S1x128x512, .bf16⟩
  | .local _ .vmem, ⟨9, _⟩ => ⟨S1x128x512, .bf16⟩
  | .local _ .vmem, ⟨10, _⟩ => ⟨S2x512, .f32⟩
  | .local _ .vmem, ⟨11, _⟩ => ⟨S2x512, .f32⟩
  | .local _ .vmem, ⟨12, _⟩ => ⟨S2x512, .f32⟩
  | .local _ .vmem, ⟨13, _⟩ => ⟨S256x256, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x1024, .f32⟩
  | .local _ .vmem, ⟨31, _⟩ => ⟨S512x1024, .f32⟩
  | .local _ .vmem, ⟨32, _⟩ => ⟨S512x2816, .f32⟩
  | .local _ .vmem, ⟨33, _⟩ => ⟨S512x2816, .f32⟩
  | .local _ .vmem, ⟨34, _⟩ => ⟨S8x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14_0 : Ref sig .tc := ⟨.hbm, 44, rfl⟩
abbrev main_v14_1 : Ref sig .tc := ⟨.hbm, 45, rfl⟩
abbrev main_v14_2 : Ref sig .tc := ⟨.hbm, 46, rfl⟩
abbrev main_v14_3 : Ref sig .tc := ⟨.hbm, 47, rfl⟩
abbrev main_v14_4 : Ref sig .tc := ⟨.hbm, 48, rfl⟩
abbrev main_v14_5 : Ref sig .tc := ⟨.hbm, 49, rfl⟩
abbrev main_v14_6 : Ref sig .tc := ⟨.hbm, 50, rfl⟩
abbrev main_v14_7 : Ref sig .tc := ⟨.hbm, 51, rfl⟩
abbrev main_v14_8 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c2_i32 : BitVec 32 := 2#32
  let c0_i32_10 : BitVec 32 := 0#32
  let v20 : BitVec 1 := Scalar.cmpi .eq c2_i32 c0_i32_10
  let c1_i32_11 : BitVec 32 := 1#32
  let v21 : BitVec 32 := Scalar.select v20 c1_i32_11 c2_i32
  let v22 : BitVec 32 := Scalar.remsi arg0 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c0_i32_15 : BitVec 32 := 0#32
  let v30 : BitVec 1 := Scalar.cmpi .eq v29 c0_i32_15
  let v31 : BitVec 32 := Scalar.extui v30
  let c0_i32_16 : BitVec 32 := 0#32
  let v32 : BitVec 1 := Scalar.cmpi .ne v31 c0_i32_16
  v32

def k0_cond4 (i : grid0.Coords) : BitVec 1 :=
  let arg0 : BitVec 32 := BitVec.ofNat 32 (i 0).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_23 : BitVec 32 := 1#32
  let v43 : BitVec 1 := Scalar.cmpi .eq v42 c1_i32_23
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel4Ideal.lean ====
variable {F : FTy → Type} [FloatOps F] [Named F]
def κ : String → Option EReal := fun
  | "tiny" => some ((5316911940649 / 5316911983139663491615228241121378304 : ℝ) : EReal)
  | _ => none
-- ==== Reference4Ideal.lean ====
abbrev S16384x1024 : Shape := ⟨2, ![16384, 1024]⟩
abbrev S2x6x1024 : Shape := ⟨3, ![2, 6, 1024]⟩
abbrev S1024x4864 : Shape := ⟨2, ![1024, 4864]⟩
abbrev S2x1792 : Shape := ⟨2, ![2, 1792]⟩
abbrev S2x512 : Shape := ⟨2, ![2, 512]⟩
abbrev S2x64x512 : Shape := ⟨3, ![2, 64, 512]⟩
abbrev S2x128x512 : Shape := ⟨3, ![2, 128, 512]⟩
abbrev S2x8192x1024 : Shape := ⟨3, ![2, 8192, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S2x8192x4864 : Shape := ⟨3, ![2, 8192, 4864]⟩
abbrev S2x8192x1792 : Shape := ⟨3, ![2, 8192, 1792]⟩
abbrev S1x1792 : Shape := ⟨2, ![1, 1792]⟩
abbrev S1792 : Shape := ⟨1, ![1792]⟩
abbrev S2x8191x1792 : Shape := ⟨3, ![2, 8191, 1792]⟩
abbrev S1x1x1792 : Shape := ⟨3, ![1, 1, 1792]⟩
abbrev S2x8192x512 : Shape := ⟨3, ![2, 8192, 512]⟩
abbrev S2x8192x64 : Shape := ⟨3, ![2, 8192, 64]⟩
abbrev S2x8192x128 : Shape := ⟨3, ![2, 8192, 128]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S1x1x512 : Shape := ⟨3, ![1, 1, 512]⟩
abbrev S1x128x512 : Shape := ⟨3, ![1, 128, 512]⟩
abbrev S128x512 : Shape := ⟨2, ![128, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S8x64 : Shape := ⟨2, ![8, 64]⟩
abbrev S1x1x8x64 : Shape := ⟨4, ![1, 1, 8, 64]⟩
abbrev S16384x512 : Shape := ⟨2, ![16384, 512]⟩

abbrev nBuf : Space → Nat
  | .hbm => 161
  | .vmem => 0
  | .smem => 0
  | _ => 0

abbrev hbmTy0_0 (i : Nat) : BufTy := match i % 128 with
  | 0 => ⟨S16384x1024, .f32⟩
  | 1 => ⟨S2x6x1024, .f32⟩
  | 2 => ⟨S1024x4864, .bf16⟩
  | 3 => ⟨S2x1792, .f32⟩
  | 4 => ⟨S2x512, .f32⟩
  | 5 => ⟨S2x64x512, .f32⟩
  | 6 => ⟨S2x512, .f32⟩
  | 7 => ⟨S2x64x512, .f32⟩
  | 8 => ⟨S2x128x512, .f32⟩
  | 9 => ⟨S2x512, .f32⟩
  | 10 => ⟨S2x512, .f32⟩
  | 11 => ⟨S2x512, .f32⟩
  | 12 => ⟨S2x8192x1024, .f32⟩
  | 13 => ⟨S1x1x1024, .f32⟩
  | 14 => ⟨S1024, .f32⟩
  | 15 => ⟨S2x8192x1024, .f32⟩
  | 16 => ⟨S_, .f32⟩
  | 17 => ⟨S2x8192, .f32⟩
  | 18 => ⟨S2x8192x1, .f32⟩
  | 19 => ⟨S_, .f32⟩
  | 20 => ⟨S2x8192x1, .f32⟩
  | 21 => ⟨S2x8192x1, .f32⟩
  | 22 => ⟨S_, .f32⟩
  | 23 => ⟨S2x8192x1, .f32⟩
  | 24 => ⟨S2x8192x1, .f32⟩
  | 25 => ⟨S2x8192x1, .f32⟩
  | 26 => ⟨S2x8192x1024, .f32⟩
  | 27 => ⟨S2x8192x1024, .f32⟩
  | 28 => ⟨S1x1x1024, .f32⟩
  | 29 => ⟨S2x8192x1024, .f32⟩
  | 30 => ⟨S2x8192x1024, .f32⟩
  | 31 => ⟨S1024x4864, .f32⟩
  | 32 => ⟨S2x8192x4864, .f32⟩
  | 33 => ⟨S2x8192x1792, .f32⟩
  | 34 => ⟨S2x8192x1024, .f32⟩
  | 35 => ⟨S1x1792, .f32⟩
  | 36 => ⟨S1792, .f32⟩
  | 37 => ⟨S2x8191x1792, .f32⟩
  | 38 => ⟨S_, .i32⟩
  | 39 => ⟨S_, .f32⟩
  | 40 => ⟨S2x8192x1792, .f32⟩
  | 41 => ⟨S2x8192x1792, .f32⟩
  | 42 => ⟨S1x1x1792, .f32⟩
  | 43 => ⟨S2x8192x1792, .f32⟩
  | 44 => ⟨S2x8192x1792, .f32⟩
  | 45 => ⟨S2x8192x1792, .f32⟩
  | 46 => ⟨S2x8192x512, .f32⟩
  | 47 => ⟨S2x8192x512, .f32⟩
  | 48 => ⟨S2x8192x512, .f32⟩
  | 49 => ⟨S2x8192x64, .f32⟩
  | 50 => ⟨S2x8192x64, .f32⟩
  | 51 => ⟨S2x8192x128, .f32⟩
  | 52 => ⟨S1x512, .f32⟩
  | 53 => ⟨S512, .f32⟩
  | 54 => ⟨S2x8192x64, .f32⟩
  | 55 => ⟨S1x64x512, .f32⟩
  | 56 => ⟨S64x512, .f32⟩
  | 57 => ⟨S2x8192x512, .f32⟩
  | 58 => ⟨S1x1x512, .f32⟩
  | 59 => ⟨S2x8192x512, .f32⟩
  | 60 => ⟨S2x8192x512, .f32⟩
  | 61 => ⟨S2x8192x512, .f32⟩
  | 62 => ⟨S_, .f32⟩
  | 63 => ⟨S2x8192x512, .f32⟩
  | 64 => ⟨S2x8192x512, .f32⟩
  | 65 => ⟨S2x8192x512, .f32⟩
  | 66 => ⟨S2x8192x512, .f32⟩
  | 67 => ⟨S2x8192x512, .i1⟩
  | 68 => ⟨S2x8192x512, .f32⟩
  | 69 => ⟨S2x8192x512, .f32⟩
  | 70 => ⟨S2x8192x512, .f32⟩
  | 71 => ⟨S2x8192x512, .f32⟩
  | 72 => ⟨S2x8192x512, .f32⟩
  | 73 => ⟨S2x8192x512, .f32⟩
  | 74 => ⟨S2x8192x512, .f32⟩
  | 75 => ⟨S2x8192x512, .f32⟩
  | 76 => ⟨S2x8192x512, .f32⟩
  | 77 => ⟨S_, .f32⟩
  | 78 => ⟨S2x8192x512, .f32⟩
  | 79 => ⟨S2x8192x512, .f32⟩
  | 80 => ⟨S1x512, .f32⟩
  | 81 => ⟨S512, .f32⟩
  | 82 => ⟨S1x64x512, .f32⟩
  | 83 => ⟨S64x512, .f32⟩
  | 84 => ⟨S2x8192x512, .f32⟩
  | 85 => ⟨S1x1x512, .f32⟩
  | 86 => ⟨S2x8192x512, .f32⟩
  | 87 => ⟨S2x8192x512, .f32⟩
  | 88 => ⟨S2x8192x512, .f32⟩
  | 89 => ⟨S2x8192x512, .f32⟩
  | 90 => ⟨S_, .f32⟩
  | 91 => ⟨S2x8192x512, .f32⟩
  | 92 => ⟨S2x8192x512, .f32⟩
  | 93 => ⟨S_, .f32⟩
  | 94 => ⟨S2x8192x512, .f32⟩
  | 95 => ⟨S2x8192x512, .f32⟩
  | 96 => ⟨S2x8192x128, .f32⟩
  | 97 => ⟨S2x8192x128, .f32⟩
  | 98 => ⟨S_, .f32⟩
  | 99 => ⟨S2x8192x128, .f32⟩
  | 100 => ⟨S2x8192x128, .f32⟩
  | 101 => ⟨S_, .f32⟩
  | 102 => ⟨S2x8192x128, .f32⟩
  | 103 => ⟨S2x8192x128, .f32⟩
  | 104 => ⟨S1x128x512, .f32⟩
  | 105 => ⟨S128x512, .f32⟩
  | 106 => ⟨S2x8192x512, .f32⟩
  | 107 => ⟨S1x512, .f32⟩
  | 108 => ⟨S512, .f32⟩
  | 109 => ⟨S1x1x512, .f32⟩
  | 110 => ⟨S2x8192x512, .f32⟩
  | 111 => ⟨S2x8192x512, .f32⟩
  | 112 => ⟨S2x8192x8x64, .f32⟩
  | 113 => ⟨S2x8192x8x64, .f32⟩
  | 114 => ⟨S_, .f32⟩
  | 115 => ⟨S2x8192x8, .f32⟩
  | 116 => ⟨S2x8192x8x1, .f32⟩
  | 117 => ⟨S2x8192x8x1, .f32⟩
  | 118 => ⟨S_, .f32⟩
  | 119 => ⟨S2x8192x8x1, .f32⟩
  | 120 => ⟨S2x8192x8x1, .f32⟩
  | 121 => ⟨S2x8192x8x64, .f32⟩
  | 122 => ⟨S2x8192x8x64, .f32⟩
  | 123 => ⟨S_, .f32⟩
  | 124 => ⟨S2x8192x512, .f32⟩
  | 125 => ⟨S2x8192x512, .f32⟩
  | 126 => ⟨S1x512, .f32⟩
  | 127 => ⟨S512, .f32⟩
  | _ => ⟨S16384x1024, .f32⟩

abbrev hbmTy0_1 (i : Nat) : BufTy := match i % 128 with
  | 0 => ⟨S1x1x512, .f32⟩
  | 1 => ⟨S2x8192x512, .f32⟩
  | 2 => ⟨S2x8192x512, .f32⟩
  | 3 => ⟨S_, .f32⟩
  | 4 => ⟨S2x8192x512, .f32⟩
  | 5 => ⟨S2x8192x512, .f32⟩
  | 6 => ⟨S2x8192x512, .f32⟩
  | 7 => ⟨S2x8192x8x64, .f32⟩
  | 8 => ⟨S2x8192x8x64, .f32⟩
  | 9 => ⟨S2x8192x8x64, .f32⟩
  | 10 => ⟨S1x512, .f32⟩
  | 11 => ⟨S512, .f32⟩
  | 12 => ⟨S8x64, .f32⟩
  | 13 => ⟨S1x1x8x64, .f32⟩
  | 14 => ⟨S2x8192x8x64, .f32⟩
  | 15 => ⟨S2x8192x8x64, .f32⟩
  | 16 => ⟨S_, .f32⟩
  | 17 => ⟨S2x8192x8, .f32⟩
  | 18 => ⟨S2x8192x8x1, .f32⟩
  | 19 => ⟨S2x8192x8x64, .f32⟩
  | 20 => ⟨S2x8192x8x64, .f32⟩
  | 21 => ⟨S2x8192x8x64, .f32⟩
  | 22 => ⟨S2x8192x512, .f32⟩
  | 23 => ⟨S2x8192x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_3 : Ref sig .tc := ⟨.hbm, 90, rfl⟩
abbrev main_v59 : Ref sig .tc := ⟨.hbm, 91, rfl⟩
abbrev main_v60 : Ref sig .tc := ⟨.hbm, 92, rfl⟩
abbrev main_cst_4 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_5 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_7 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_8 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_9 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_10 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_11 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]
-- ==== Proof.Body.lean ====
/-
  The kernel's body as functions of arrays: what it prepares of a chunk's six blocks, the state one chunk leaves for a
  pair of heads, and the chunk's outputs for that pair. `Body` says only what is computed, over any floats; the
  modules after it say what it computes over the reals.
-/
module

public import proofs.«01_k».proof.Proof.Gen.KernelIdeal.Skeleton.P01

@[expose] public section

noncomputable section

namespace Rwkv.Body

open Idealize.ShloMosaic Cert.KernelIdeal Cert.KernelIdeal.Gen

variable {F : FTy → Type} [FloatOps F]

/-- A loaded block as a matrix: tokens by lanes. -/
def flat (x : Vec F S1x64x512 .f32) : FVec F S64x512 .f32 := shapeCast S64x512 x shapeCasts_S1x64x512_S64x512

/-- Each token of a group of eight plus the one `d` before it in the group. -/
def shiftAdd (d : ℕ) (x : FVec F S8x8x512 .f32) : FVec F S8x8x512 .f32 :=
  addf x (select (cmpi .sge (iota .tc S8x8x512 32 [1] iota_S8x8x512_d1_w32) (broadcast S8x8x512 (BitVec.ofNat 32 d)))
    (dynamicRotate 1 (BitVec.ofNat 32 d) none x rotates_S8x8x512_d1)
    (broadcast S8x8x512 (Scalar.ofBits .f32 0x00000000#32 : F .f32)))

/-- The running sums inside each group of eight tokens. -/
def groups (x : FVec F S64x512 .f32) : FVec F S8x8x512 .f32 :=
  shiftAdd 4 (shiftAdd 2 (shiftAdd 1 (shapeCast S8x8x512 x shapeCasts_S64x512_S8x8x512)))

theorem slices_group (i : ℕ) (h : i < 8) : S8x8x512.Slices ![i, 0, 0] S1x8x512 :=
  match i, h with
  | 0, _ => by decide
  | 1, _ => by decide
  | 2, _ => by decide
  | 3, _ => by decide
  | 4, _ => by decide
  | 5, _ => by decide
  | 6, _ => by decide
  | 7, _ => by decide

/-- Group `i` of eight. -/
def group (x : FVec F S8x8x512 .f32) (i : ℕ) (h : i < 8) : FVec F S8x512 .f32 :=
  shapeCast S8x512 (extractStridedSlice S1x8x512 ![i, 0, 0] x (slices_group i h)) shapeCasts_S1x8x512_S8x512

/-- A group's sums plus all before it. -/
def after (x prev : FVec F S8x512 .f32) : FVec F S8x512 .f32 :=
  addf x (broadcastTo S8x512 (extractStridedSlice S1x512 ![7, 0] prev slices_S8x512_o7_0_S1x512) broadcasts_S1x512_S8x512)

def sum0 (x : FVec F S8x8x512 .f32) : FVec F S8x512 .f32 := group x 0 (by decide)
def sum1 (x : FVec F S8x8x512 .f32) : FVec F S8x512 .f32 := after (group x 1 (by decide)) (sum0 x)
def sum2 (x : FVec F S8x8x512 .f32) : FVec F S8x512 .f32 := after (group x 2 (by decide)) (sum1 x)
def sum3 (x : FVec F S8x8x512 .f32) : FVec F S8x512 .f32 := after (group x 3 (by decide)) (sum2 x)
def sum4 (x : FVec F S8x8x512 .f32) : FVec F S8x512 .f32 := after (group x 4 (by decide)) (sum3 x)
def sum5 (x : FVec F S8x8x512 .f32) : FVec F S8x512 .f32 := after (group x 5 (by decide)) (sum4 x)
def sum6 (x : FVec F S8x8x512 .f32) : FVec F S8x512 .f32 := after (group x 6 (by decide)) (sum5 x)
def sum7 (x : FVec F S8x8x512 .f32) : FVec F S8x512 .f32 := after (group x 7 (by decide)) (sum6 x)

/-- The groups' sums, one below another. -/
def stacked (x : FVec F S8x8x512 .f32) : FVec F S64x512 .f32 :=
  concatenate S64x512 0 [⟨S8x512, sum0 x⟩, ⟨S8x512, sum1 x⟩, ⟨S8x512, sum2 x⟩, ⟨S8x512, sum3 x⟩, ⟨S8x512, sum4 x⟩,
    ⟨S8x512, sum5 x⟩, ⟨S8x512, sum6 x⟩, ⟨S8x512, sum7 x⟩]
    concatenates_S8x512_S8x512_S8x512_S8x512_S8x512_S8x512_S8x512_S8x512_S64x512_d0

/-- The running sums of the log decays over the chunk. -/
def sums (lw : Vec F S1x64x512 .f32) : FVec F S64x512 .f32 := stacked (groups (flat lw))

/-- The log decay of the whole chunk. -/
def last (lw : Vec F S1x64x512 .f32) : FVec F S1x512 .f32 :=
  extractStridedSlice S1x512 ![63, 0] (sums lw) slices_S64x512_o63_0_S1x512

def zero512 : FVec F S64x512 .f32 := broadcast S64x512 (Scalar.ofBits .f32 0x00000000#32 : F .f32)
def zero64 : FVec F S64x128 .f32 := broadcast S64x128 (Scalar.ofBits .f32 0x00000000#32 : F .f32)
def zero128 : FVec F S128x128 .f32 := broadcast S128x128 (Scalar.ofBits .f32 0x00000000#32 : F .f32)

/-- What a chunk's products are made of, from its six blocks. -/
def dirA (lw q : Vec F S1x64x512 .f32) : FVec F S64x512 .f32 := mulf (subf zero512 (flat q)) (exp (subf (sums lw) (flat lw)))
def dirR (r lw : Vec F S1x64x512 .f32) : FVec F S64x512 .f32 := mulf (flat r) (exp (sums lw))
def rate (q al : Vec F S1x64x512 .f32) : FVec F S64x512 .f32 := mulf (flat q) (flat al)
def grow (lw : Vec F S1x64x512 .f32) : FVec F S64x512 .f32 := exp (subf zero512 (sums lw))
def tail (lw : Vec F S1x64x512 .f32) : FVec F S64x512 .f32 :=
  exp (subf (broadcastTo S64x512 (last lw) broadcasts_S1x512_S64x512) (sums lw))
def corB (lw q al : Vec F S1x64x512 .f32) : FVec F S64x512 .f32 := mulf (rate q al) (grow lw)
def keyK (lw k : Vec F S1x64x512 .f32) : FVec F S64x512 .f32 := mulf (flat k) (grow lw)
def corT (lw q al : Vec F S1x64x512 .f32) : FVec F S64x512 .f32 := mulf (rate q al) (tail lw)
def keyT (lw k : Vec F S1x64x512 .f32) : FVec F S64x512 .f32 := mulf (flat k) (tail lw)
def whole (lw : Vec F S1x64x512 .f32) : FVec F S1x512 .f32 := exp (last lw)

theorem slices_pair (p : Fin 4) : S64x512.Slices ![0, 128 * p.val] S64x128 := by fin_cases p <;> decide
theorem slices_row (p : Fin 4) : S1x512.Slices ![0, 128 * p.val] S1x128 := by fin_cases p <;> decide

/-- The lanes of pair `p`. -/
def lanesOf (p : Fin 4) (x : FVec F S64x512 .f32) : FVec F S64x128 .f32 :=
  extractStridedSlice S64x128 ![0, 128 * p.val] x (slices_pair p)

/-- A pair's decays of the whole chunk, as a column. -/
def column (p : Fin 4) (lw : Vec F S1x64x512 .f32) : FVec F S128x1 .f32 :=
  shapeCast S128x1 (multiReduction .add [1] S128 (select k0_pay15 (broadcastTo S128x128
    (shapeCast S1x128 (extractStridedSlice S1x128 ![0, 128 * p.val] (whole lw) (slices_row p)) shapeCasts_S1x128_S1x128)
    broadcasts_S1x128_S128x128) zero128) 0x00000000#32 reduces_S128x128_S128 (.inl rfl) rfl) shapeCasts_S128_S128x1

/-- The two halves on the diagonal. -/
def blocks (w : FVec F S64x128 .f32) : FVec F S128x128 .f32 :=
  concatenate S128x128 0 [⟨S64x128, select k0_pay9 w zero64⟩, ⟨S64x128, select k0_pay9 zero64 w⟩]
    concatenates_S64x128_S64x128_S128x128_d0

/-- One above another. -/
def over (a b : FVec F S64x128 .f32) : FVec F S128x128 .f32 :=
  concatenate S128x128 0 [⟨S64x128, a⟩, ⟨S64x128, b⟩] concatenates_S64x128_S64x128_S128x128_d0

def over2 (a b : FVec F S128x128 .f32) : FVec F S256x128 .f32 :=
  concatenate S256x128 0 [⟨S128x128, a⟩, ⟨S128x128, b⟩] concatenates_S128x128_S128x128_S256x128_d0

/-- Every direction and receptance against every correction and key. -/
def gram (A R B K : FVec F S64x128 .f32) : FVec F S128x256 .f32 :=
  matmul dot_S128x128_S256x128_S128x256_1_1_0_0_n_n none (truncf .bf16 (over A R) bitsLt_bf16_f32)
    (truncf .bf16 (over2 (blocks B) (blocks K)) bitsLt_bf16_f32) (constant S128x256 .f32 0x00000000#32)

def aab (m : FVec F S128x256 .f32) : FVec F S64x128 .f32 :=
  select k0_pay11 (extractStridedSlice S64x128 ![0, 0] m slices_S128x256_o0_0_S64x128) zero64
def aak (m : FVec F S128x256 .f32) : FVec F S64x128 .f32 :=
  select k0_pay11 (extractStridedSlice S64x128 ![0, 128] m slices_S128x256_o0_128_S64x128) zero64
def arb (m : FVec F S128x256 .f32) : FVec F S64x128 .f32 :=
  select k0_pay12 (extractStridedSlice S64x128 ![64, 0] m slices_S128x256_o64_0_S64x128) zero64
def ark (m : FVec F S128x256 .f32) : FVec F S64x128 .f32 :=
  select k0_pay12 (extractStridedSlice S64x128 ![64, 128] m slices_S128x256_o64_128_S64x128) zero64

/-- A product against two halves on the diagonal. -/
def byBlocks (a w : FVec F S64x128 .f32) : FVec F S64x128 .f32 :=
  matmul dot_S64x128_S128x128_S64x128_1_0_0_1_n_n none (truncf .bf16 a bitsLt_bf16_f32) (truncf .bf16 (blocks w) bitsLt_bf16_f32)
    (constant S64x128 .f32 0x00000000#32)

/-- The sum so far and the power, both against the power. -/
def both (t p : FVec F S64x128 .f32) : FVec F S128x128 .f32 :=
  matmul dot_S128x128_S128x128_S128x128_1_0_0_1_n_n none (truncf .bf16 (over t p) bitsLt_bf16_f32) (truncf .bf16 (blocks p) bitsLt_bf16_f32)
    (constant S128x128 .f32 0x00000000#32)

def upSum (t p : FVec F S64x128 .f32) : FVec F S64x128 .f32 :=
  addf t (extractStridedSlice S64x128 ![0, 0] (both t p) slices_S128x128_o0_0_S64x128)
def upPow (t p : FVec F S64x128 .f32) : FVec F S64x128 .f32 :=
  extractStridedSlice S64x128 ![64, 0] (both t p) slices_S128x128_o64_0_S64x128

def t0 (M : FVec F S64x128 .f32) : FVec F S64x128 .f32 := addf k0_pay13 M
def p0 (M : FVec F S64x128 .f32) : FVec F S64x128 .f32 := byBlocks M M
def t1 (M : FVec F S64x128 .f32) : FVec F S64x128 .f32 := upSum (t0 M) (p0 M)
def p1 (M : FVec F S64x128 .f32) : FVec F S64x128 .f32 := upPow (t0 M) (p0 M)
def t2 (M : FVec F S64x128 .f32) : FVec F S64x128 .f32 := upSum (t1 M) (p1 M)
def p2 (M : FVec F S64x128 .f32) : FVec F S64x128 .f32 := upPow (t1 M) (p1 M)
def t3 (M : FVec F S64x128 .f32) : FVec F S64x128 .f32 := upSum (t2 M) (p2 M)
def p3 (M : FVec F S64x128 .f32) : FVec F S64x128 .f32 := upPow (t2 M) (p2 M)
def t4 (M : FVec F S64x128 .f32) : FVec F S64x128 .f32 := upSum (t3 M) (p3 M)
def p4 (M : FVec F S64x128 .f32) : FVec F S64x128 .f32 := upPow (t3 M) (p3 M)

/-- The inverse of the triangular system. -/
def inverse (M : FVec F S64x128 .f32) : FVec F S64x128 .f32 := addf (t4 M) (byBlocks (t4 M) (p4 M))

/-- The right-hand side of the system. -/
def rhs (A ak V : FVec F S64x128 .f32) (P : FVec F S128x128 .f32) : FVec F S64x128 .f32 :=
  matmul dot_S64x256_S256x128_S64x128_1_0_0_1_n_n none
    (truncf .bf16 (concatenate S64x256 1 [⟨S64x128, A⟩, ⟨S64x128, ak⟩] concatenates_S64x128_S64x128_S64x256_d1) bitsLt_bf16_f32)
    (truncf .bf16 (over2 P (blocks V)) bitsLt_bf16_f32) (constant S64x128 .f32 0x00000000#32)

/-- The corrections of a chunk. -/
def fixes (A R B K V : FVec F S64x128 .f32) (P : FVec F S128x128 .f32) : FVec F S64x128 .f32 :=
  byBlocks (inverse (aab (gram A R B K))) (rhs A (aak (gram A R B K)) V P)

/-- The state after a chunk, from the corrections. -/
def advance (Bh Kh V u : FVec F S64x128 .f32) (w : FVec F S128x1 .f32) (P : FVec F S128x128 .f32) : FVec F S128x128 .f32 :=
  addf (mulf (broadcastTo S128x128 w broadcasts_S128x1_S128x128) P)
    (select k0_pay14 (matmul dot_S128x128_S128x128_S128x128_0_0_1_1_n_n none (truncf .bf16 (over Bh Kh) bitsLt_bf16_f32)
      (truncf .bf16 (over u V) bitsLt_bf16_f32) (constant S128x128 .f32 0x00000000#32)) zero128)

/-- The outputs of a chunk, from the corrections. -/
def outputs (R rb rk V u : FVec F S64x128 .f32) (P : FVec F S128x128 .f32) : FVec F S64x128 .f32 :=
  matmul dot_S64x384_S384x128_S64x128_1_0_0_1_n_n none
    (truncf .bf16 (concatenate S64x384 1 [⟨S64x128, R⟩, ⟨S64x128, rb⟩, ⟨S64x128, rk⟩] concatenates_S64x128_S64x128_S64x128_S64x384_d1) bitsLt_bf16_f32)
    (truncf .bf16 (concatenate S384x128 0 [⟨S128x128, P⟩, ⟨S128x128, blocks u⟩, ⟨S128x128, blocks V⟩]
      concatenates_S128x128_S128x128_S128x128_S384x128_d0) bitsLt_bf16_f32) (constant S64x128 .f32 0x00000000#32)

section Chunk
variable (p : Fin 4) (r lw k v q al : Vec F S1x64x512 .f32) (P : FVec F S128x128 .f32)

/-- The corrections of one chunk for pair `p`. -/
def fixesOf : FVec F S64x128 .f32 :=
  fixes (lanesOf p (dirA lw q)) (lanesOf p (dirR r lw)) (lanesOf p (corB lw q al)) (lanesOf p (keyK lw k)) (lanesOf p (flat v)) P

def gramOf : FVec F S128x256 .f32 :=
  gram (lanesOf p (dirA lw q)) (lanesOf p (dirR r lw)) (lanesOf p (corB lw q al)) (lanesOf p (keyK lw k))

/-- The state pair `p` is left in by one chunk. -/
def stateOf : FVec F S128x128 .f32 :=
  advance (lanesOf p (corT lw q al)) (lanesOf p (keyT lw k)) (lanesOf p (flat v)) (fixesOf p r lw k v q al P) (column p lw) P

/-- Pair `p`'s outputs of one chunk. -/
def outputOf : FVec F S64x128 .f32 :=
  outputs (lanesOf p (dirR r lw)) (arb (gramOf p r lw k q al)) (ark (gramOf p r lw k q al)) (lanesOf p (flat v))
    (fixesOf p r lw k v q al P) P

end Chunk

section Point

/-- Pair `p`'s state after `g` chunks, from the state `P` before them; the chunks' blocks by chunk number. -/
def stateAfter (p : Fin 4) (r lw k v q al : ℕ → Vec F S1x64x512 .f32) (P : FVec F S128x128 .f32) (g : ℕ) : FVec F S128x128 .f32 :=
  Nat.rec P (fun n S => stateOf p (r n) (lw n) (k n) (v n) (q n) (al n) S) g

theorem inb_block (b g : ℕ) : ∀ a, (![b % 2, 64 * (g % 8), 0] : Fin 3 → ℕ) a + S1x64x512.size a ≤ S2x512x512.size a := by
  have := Nat.mod_lt b (show 0 < 2 by decide)
  have := Nat.mod_lt g (show 0 < 8 by decide)
  intro a
  fin_cases a
  · show b % 2 + 1 ≤ 2; omega
  · show 64 * (g % 8) + 64 ≤ 512; omega
  · show 0 + 512 ≤ 512; omega

theorem inb_out (n : ℕ) : ∀ a, (![n / 4 % 2, 64 * (n / 8 % 8), 128 * (n % 4)] : Fin 3 → ℕ) a + S1x64x128.size a ≤ S2x512x512.size a := by
  have := Nat.mod_lt (n / 4) (show 0 < 2 by decide)
  have := Nat.mod_lt (n / 8) (show 0 < 8 by decide)
  have := Nat.mod_lt n (show 0 < 4 by decide)
  intro a
  fin_cases a
  · show n / 4 % 2 + 1 ≤ 2; omega
  · show 64 * (n / 8 % 8) + 64 ≤ 512; omega
  · show 128 * (n % 4) + 128 ≤ 512; omega

theorem inb_state (n : ℕ) : ∀ a, (![n / 4 % 2, n % 4, 0, 0] : Fin 4 → ℕ) a + S1x1x128x128.size a ≤ S2x4x128x128.size a := by
  have := Nat.mod_lt (n / 4) (show 0 < 2 by decide)
  have := Nat.mod_lt n (show 0 < 4 by decide)
  intro a
  fin_cases a
  · show n / 4 % 2 + 1 ≤ 2; omega
  · show n % 4 + 1 ≤ 4; omega
  · show 0 + 128 ≤ 128; omega
  · show 0 + 128 ≤ 128; omega

/-- Pair `n`'s number inside its batch element. -/
def pairOf (n : ℕ) : Fin 4 := ⟨n % 4, Nat.mod_lt _ (by decide)⟩

variable (r lw k v q al : ℕ → ℕ → Vec F S1x64x512 .f32) (P : ℕ → FVec F S128x128 .f32)

/-- The state of pair `n` (batch element `n / 4`) after `g` chunks; the blocks by batch element and chunk. -/
def pairAfter (n g : ℕ) : FVec F S128x128 .f32 :=
  stateAfter (pairOf n) (r (n / 4 % 2)) (lw (n / 4 % 2)) (k (n / 4 % 2)) (v (n / 4 % 2)) (q (n / 4 % 2)) (al (n / 4 % 2)) (P (n % 8)) g

/-- The `n`-th output block: pair `n % 4` of batch element `n / 4 % 2` at chunk `n / 8 % 8`. -/
def outBlock (n : ℕ) : FVec F S64x128 .f32 :=
  outputOf (pairOf n) (r (n / 4 % 2) (n / 8 % 8)) (lw (n / 4 % 2) (n / 8 % 8)) (k (n / 4 % 2) (n / 8 % 8)) (v (n / 4 % 2) (n / 8 % 8))
    (q (n / 4 % 2) (n / 8 % 8)) (al (n / 4 % 2) (n / 8 % 8)) (pairAfter r lw k v q al P n (n / 8 % 8))

/-- The output blocks below `n`, each where it is stored, the last stored first. -/
def outPieces (n : ℕ) : List (View.Piece (Elt F) S2x512x512 .f32) :=
  Nat.rec [] (fun n L => ⟨Rect.unit (s := S2x512x512) ![n / 4 % 2, 64 * (n / 8 % 8), 128 * (n % 4)] S1x64x128.size (inb_out n),
    shapeCast S1x64x128 (outBlock r lw k v q al P n) shapeCasts_S64x128_S1x64x128⟩ :: L) n

/-- The states below `n` after the eight chunks, each where it is stored, above the pieces `base`. -/
def statePieces (base : List (View.Piece (Elt F) S2x4x128x128 .f32)) (n : ℕ) : List (View.Piece (Elt F) S2x4x128x128 .f32) :=
  Nat.rec base (fun n L => ⟨Rect.unit (s := S2x4x128x128) ![n / 4 % 2, n % 4, 0, 0] S1x1x128x128.size (inb_state n),
    shapeCast S1x1x128x128 (pairAfter r lw k v q al P n 8) shapeCasts_S128x128_S1x1x128x128⟩ :: L) n

end Point

end Rwkv.Body
-- ==== Proof.RunA.lean ====
/-
  The pieces that the generated run finds for one grid point are the output blocks and states of `Body`.
-/
module

public import proofs.«01_k».proof.Proof.Body
public import proofs.«01_k».proof.Proof.Gen.KernelIdeal.Frame.RunA

@[expose] public section

noncomputable section

namespace Rwkv.Body

open Idealize.ShloMosaic Idealize.ShloMosaic.TcCoe Idealize.ShloMosaic.Tactic Cert.KernelIdeal Cert.KernelIdeal.Gen

variable {F : FTy → Type} [FloatOps F]

/-- The block of batch element `b` at chunk `g`, read off a staged window. -/
def blockAt (arg : Memref sig .tc .vmem S2x512x512 .f32) (harg : arg.IsWhole) (x : Vec F S2x512x512 .f32) (b g : ℕ) : Vec F S1x64x512 .f32 :=
  View.readAt (Elt F) arg.view (Rect.unit (s := S2x512x512) ![b % 2, 64 * (g % 8), 0] S1x64x512.size (inb_block b g)).toLoadRect (harg.unread x)

/-- The first point's states: zero. -/
def base : List (View.Piece (Elt F) S2x4x128x128 .f32) :=
  [⟨Rect.unit (s := S2x4x128x128) ![0, 0, 0, 0] S2x4x128x128.size inb_S2x4x128x128_S2x4x128x128_0_0_0_0, k0_pay8⟩]

/-- The state a pair starts the first point with. -/
def startA (arg8 : Memref sig .tc .vmem S2x4x128x128 .f32) (n : ℕ) : FVec F S128x128 .f32 :=
  shapeCast S128x128 (arg8.view.readCov (base (F := F))
    (Rect.unit (s := S2x4x128x128) ![n / 4 % 2, n % 4, 0, 0] S1x1x128x128.size (inb_state n)).toLoadRect) shapeCasts_S1x1x128x128_S128x128

section
variable (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S2x4x128x128 .f32) (harg8 : arg8.IsWhole)
  (hc0 : cond0_0 i) (x0 x1 x2 x3 x4 x5 : Vec F S2x512x512 .f32)

theorem scratchA : (kernelRun0_A c i arg1 harg1 arg2 harg2 arg3 harg3 arg4 harg4 arg5 harg5 arg6 harg6 arg7 harg7 arg8 harg8 hc0 x0 x1 x2 x3 x4 x5).2.1
    = statePieces (blockAt arg1 harg1 x0) (blockAt arg2 harg2 x1) (blockAt arg3 harg3 x2) (blockAt arg4 harg4 x3) (blockAt arg5 harg5 x4) (blockAt arg6 harg6 x5) (startA arg8) base 8 := by
  sl_kernel_rfl

theorem outA : (kernelRun0_A c i arg1 harg1 arg2 harg2 arg3 harg3 arg4 harg4 arg5 harg5 arg6 harg6 arg7 harg7 arg8 harg8 hc0 x0 x1 x2 x3 x4 x5).1
    = outPieces (blockAt arg1 harg1 x0) (blockAt arg2 harg2 x1) (blockAt arg3 harg3 x2) (blockAt arg4 harg4 x3) (blockAt arg5 harg5 x4) (blockAt arg6 harg6 x5) (startA arg8) 64 := by
  sl_kernel_rfl

end

end Rwkv.Body
-- ==== Proof.RunB.lean ====
/-
  The pieces that the generated run finds for one grid point are the output blocks and states of `Body`.
-/
module

public import proofs.«01_k».proof.Proof.RunA
public import proofs.«01_k».proof.Proof.Gen.KernelIdeal.Frame.RunB

@[expose] public section

noncomputable section

namespace Rwkv.Body

open Idealize.ShloMosaic Idealize.ShloMosaic.TcCoe Idealize.ShloMosaic.Tactic Cert.KernelIdeal Cert.KernelIdeal.Gen

variable {F : FTy → Type} [FloatOps F]

/-- The state a pair starts a later point with: what the point before left. -/
def startB (arg8 : Memref sig .tc .vmem S2x4x128x128 .f32) (harg8 : arg8.IsWhole) (xs0 : Vec F S2x4x128x128 .f32) (n : ℕ) : FVec F S128x128 .f32 :=
  shapeCast S128x128 (View.readAt (Elt F) arg8.view
    (Rect.unit (s := S2x4x128x128) ![n / 4 % 2, n % 4, 0, 0] S1x1x128x128.size (inb_state n)).toLoadRect (harg8.unread xs0)) shapeCasts_S1x1x128x128_S128x128

section
variable (c : Dev nD) (i : grid0.Coords) (arg1 : Memref sig .tc .vmem S2x512x512 .f32) (harg1 : arg1.IsWhole) (arg2 : Memref sig .tc .vmem S2x512x512 .f32) (harg2 : arg2.IsWhole) (arg3 : Memref sig .tc .vmem S2x512x512 .f32) (harg3 : arg3.IsWhole) (arg4 : Memref sig .tc .vmem S2x512x512 .f32) (harg4 : arg4.IsWhole) (arg5 : Memref sig .tc .vmem S2x512x512 .f32) (harg5 : arg5.IsWhole) (arg6 : Memref sig .tc .vmem S2x512x512 .f32) (harg6 : arg6.IsWhole) (arg7 : Memref sig .tc .vmem S2x512x512 .f32) (harg7 : arg7.IsWhole) (arg8 : Memref sig .tc .vmem S2x4x128x128 .f32) (harg8 : arg8.IsWhole)
  (hc0 : ¬ cond0_0 i) (x0 x1 x2 x3 x4 x5 : Vec F S2x512x512 .f32) (xs0 : Vec F S2x4x128x128 .f32)

theorem scratchB : (kernelRun0_B c i arg1 harg1 arg2 harg2 arg3 harg3 arg4 harg4 arg5 harg5 arg6 harg6 arg7 harg7 arg8 harg8 hc0 x0 x1 x2 x3 x4 x5 xs0).2.1
    = statePieces (blockAt arg1 harg1 x0) (blockAt arg2 harg2 x1) (blockAt arg3 harg3 x2) (blockAt arg4 harg4 x3) (blockAt arg5 harg5 x4) (blockAt arg6 harg6 x5) (startB arg8 harg8 xs0) [] 8 := by
  sl_kernel_rfl

theorem outB : (kernelRun0_B c i arg1 harg1 arg2 harg2 arg3 harg3 arg4 harg4 arg5 harg5 arg6 harg6 arg7 harg7 arg8 harg8 hc0 x0 x1 x2 x3 x4 x5 xs0).1
    = outPieces (blockAt arg1 harg1 x0) (blockAt arg2 harg2 x1) (blockAt arg3 harg3 x2) (blockAt arg4 harg4 x3) (blockAt arg5 harg5 x4) (blockAt arg6 harg6 x5) (startB arg8 harg8 xs0) 64 := by
  sl_kernel_rfl

end

end Rwkv.Body
-- ==== Proof.Recur.lean ====
/-
  The RWKV-7 recurrence of one head over the reals, and its closed form over a stretch of tokens.

  The state of a head is a matrix with a row per value lane `i` and a column per key lane `j`. A token decays
  every column, adds the rank-one correction of the state along `a`, and adds the rank-one product of the
  token's value and key. Everything is indexed by natural numbers; only lanes below 64 are ever read.
-/
module

public import Mathlib.Analysis.SpecialFunctions.Exp
public import Mathlib.Tactic.LinearCombination
public import Mathlib.Tactic.Ring

@[expose] public section

noncomputable section

namespace Rwkv

open Finset

/-- The state before token `t`, from the state `S0` before token 0. -/
def run (S0 : ℕ → ℕ → ℝ) (lw k v a b : ℕ → ℕ → ℝ) : ℕ → ℕ → ℕ → ℝ
  | 0 => S0
  | t + 1 => fun i j =>
      run S0 lw k v a b t i j * Real.exp (lw t j)
        + (∑ m ∈ range 64, run S0 lw k v a b t i m * a t m) * b t j + v t i * k t j

/-- What token `t` removes: the state before it applied to `a`. -/
def corr (S0 : ℕ → ℕ → ℝ) (lw k v a b : ℕ → ℕ → ℝ) (t i : ℕ) : ℝ :=
  ∑ m ∈ range 64, run S0 lw k v a b t i m * a t m

/-- The log decays before token `t`, summed. -/
def cum (lw : ℕ → ℕ → ℝ) (t j : ℕ) : ℝ := ∑ s ∈ range t, lw s j

/-- Running `t` tokens and then `u` more is running `t + u`. -/
theorem run_add (S0 : ℕ → ℕ → ℝ) (lw k v a b : ℕ → ℕ → ℝ) (t u : ℕ) :
    run S0 lw k v a b (t + u)
      = run (run S0 lw k v a b t) (fun s => lw (t + s)) (fun s => k (t + s)) (fun s => v (t + s))
          (fun s => a (t + s)) (fun s => b (t + s)) u := by
  induction u with
  | zero => rfl
  | succ u ih => rw [← Nat.add_assoc]; funext i j; simp only [run, ih]

/-- The closed form: the decayed start plus what every token added, each decayed from its own place on. -/
theorem run_closed (S0 : ℕ → ℕ → ℝ) (lw k v a b : ℕ → ℕ → ℝ) (t i j : ℕ) :
    run S0 lw k v a b t i j
      = Real.exp (cum lw t j) * (S0 i j + ∑ s ∈ range t,
          (corr S0 lw k v a b s i * (b s j * Real.exp (-cum lw (s + 1) j))
            + v s i * (k s j * Real.exp (-cum lw (s + 1) j)))) := by
  induction t with
  | zero => simp [run, cum]
  | succ t ih =>
    rw [sum_range_succ, ← add_assoc, mul_add]
    have hc : cum lw (t + 1) j = cum lw t j + lw t j := by simp [cum, sum_range_succ]
    have h1 : Real.exp (cum lw (t + 1) j) * Real.exp (-cum lw (t + 1) j) = 1 := by
      rw [← Real.exp_add]; simp
    have h2 : Real.exp (cum lw (t + 1) j) = Real.exp (cum lw t j) * Real.exp (lw t j) := by
      rw [hc, Real.exp_add]
    have h3 : Real.exp (cum lw (t + 1) j) *
        (corr S0 lw k v a b t i * (b t j * Real.exp (-cum lw (t + 1) j))
          + v t i * (k t j * Real.exp (-cum lw (t + 1) j)))
        = corr S0 lw k v a b t i * b t j + v t i * k t j := by
      linear_combination (corr S0 lw k v a b t i * b t j + v t i * k t j) * h1
    rw [h3, h2, mul_right_comm, ← ih]
    simp only [run, corr]
    ring

end Rwkv

end
-- ==== Proof.Inverse.lean ====
/-
  A strictly lower triangular matrix is nilpotent, and the doubling product
  `(1 + M)(1 + M²)(1 + M⁴)…(1 + M³²)` is then the left inverse of `1 - M`.
-/
module

public import Mathlib.Data.Matrix.Mul
public import Mathlib.LinearAlgebra.Matrix.Defs
public import Mathlib.Tactic.NoncommRing
public import Mathlib.Tactic.Abel
public import Mathlib.Data.Real.Basic
public import Mathlib.Tactic.NormNum

@[expose] public section

noncomputable section

namespace Rwkv

/-- A square matrix over the 64 tokens of a chunk. -/
abbrev Mat := Matrix (Fin 64) (Fin 64) ℝ

/-- The doubling: the product so far and the next power. -/
def doubled (M : Mat) : ℕ → Mat × Mat
  | 0 => (1 + M, M * M)
  | n + 1 => let q := doubled M n; (q.1 + q.1 * q.2, q.2 * q.2)

theorem doubled_snd (M : Mat) (n : ℕ) : (doubled M n).2 = M ^ 2 ^ (n + 1) := by
  induction n with
  | zero => simp [doubled, pow_two]
  | succ n ih => simp only [doubled, ih, ← pow_add]; congr 1; omega

theorem doubled_fst (M : Mat) (n : ℕ) : (doubled M n).1 * (1 - M) = 1 - M ^ 2 ^ (n + 1) := by
  induction n with
  | zero => simp only [doubled, zero_add, pow_one, pow_two]; noncomm_ring
  | succ n ih =>
    have hs := doubled_snd M n
    have hcomm : (doubled M n).2 * (1 - M) = (1 - M) * (doubled M n).2 := by
      rw [hs]; exact ((Commute.one_left _).sub_left (Commute.self_pow M _)).eq.symm
    simp only [doubled]
    rw [add_mul, mul_assoc, hcomm, ← mul_assoc, ih, hs, sub_mul, one_mul, ← pow_add]
    have : 2 ^ (n + 1) + 2 ^ (n + 1) = 2 ^ (n + 1 + 1) := by omega
    rw [this]; abel

/-- Powers of a strictly lower triangular matrix move off the diagonal. -/
theorem pow_lower (M : Mat) (hM : ∀ t s : Fin 64, t ≤ s → M t s = 0) (n : ℕ) (t s : Fin 64)
    (h : t.val < s.val + n) : (M ^ n) t s = 0 := by
  induction n generalizing t s with
  | zero =>
    have hne : t ≠ s := by rintro rfl; omega
    simp [Matrix.one_apply, hne]
  | succ n ih =>
    rw [pow_succ, Matrix.mul_apply]
    refine Finset.sum_eq_zero fun q _ => ?_
    by_cases hq : t.val < q.val + n
    · rw [ih t q hq, zero_mul]
    · rw [hM q s (by rw [Fin.le_def]; omega), mul_zero]

/-- Five doublings invert `1 - M`. -/
theorem doubled_inverse (M : Mat) (hM : ∀ t s : Fin 64, t ≤ s → M t s = 0) :
    (doubled M 5).1 * (1 - M) = 1 := by
  have h0 : M ^ 2 ^ (5 + 1) = 0 := by
    ext t s
    exact pow_lower M hM _ t s (by have := t.isLt; norm_num; omega)
  rw [doubled_fst, h0, sub_zero]

end Rwkv

end
-- ==== Proof.Head.lean ====
/-
  One head over one chunk of 64 tokens: the chunked form of the recurrence.

  Reading the state of the recurrence against any weight is the start state read against the decayed weight, plus
  one term per earlier token. Applied to the removal direction of every token this is a unit lower triangular system
  for the corrections, which the inverse of `1 - M` solves; applied to the receptance it is the output.
-/
module

public import proofs.«01_k».proof.Proof.Recur
public import proofs.«01_k».proof.Proof.Inverse

@[expose] public section

noncomputable section

namespace Rwkv

open Finset

/-- A sum over the first `t` of 64 tokens, as a sum over all of them. -/
theorem sum_lt (t : ℕ) (ht : t ≤ 64) (f : ℕ → ℝ) :
    ∑ s ∈ range 64, (if s < t then f s else 0) = ∑ s ∈ range t, f s := by
  rw [← sum_filter]
  congr 1
  ext s
  simp only [mem_filter, mem_range]
  omega

variable (S0 : ℕ → ℕ → ℝ) (lw k v a b : ℕ → ℕ → ℝ)

/-- A key or correction direction brought back to the start of the chunk. -/
def back (f : ℕ → ℕ → ℝ) (s j : ℕ) : ℝ := f s j * Real.exp (-cum lw (s + 1) j)

/-- The state before token `t` read against the weight `w`. -/
theorem read_run (w : ℕ → ℝ) (t : ℕ) (ht : t ≤ 64) (i : ℕ) :
    ∑ m ∈ range 64, run S0 lw k v a b t i m * w m
      = ∑ m ∈ range 64, (w m * Real.exp (cum lw t m)) * S0 i m
        + (∑ s ∈ range 64, (if s < t then ∑ m ∈ range 64, (w m * Real.exp (cum lw t m)) * back lw b s m else 0)
              * corr S0 lw k v a b s i
          + ∑ s ∈ range 64, (if s < t then ∑ m ∈ range 64, (w m * Real.exp (cum lw t m)) * back lw k s m else 0)
              * v s i) := by
  simp only [ite_mul, zero_mul]
  rw [sum_lt t ht, sum_lt t ht]
  simp only [sum_mul]
  rw [sum_comm (s := range t), sum_comm (s := range t), ← sum_add_distrib, ← sum_add_distrib]
  refine sum_congr rfl fun m _ => ?_
  rw [run_closed, ← sum_add_distrib, mul_comm, ← mul_assoc, mul_add, mul_sum]
  congr 1
  refine sum_congr rfl fun s _ => ?_
  simp only [back]
  ring

/-- The removal direction decayed to the start of the chunk. -/
def dirA (t m : ℕ) : ℝ := a t m * Real.exp (cum lw (t + 1) m - lw t m)

/-- The receptance decayed to the start of the chunk. -/
def dirR (r : ℕ → ℕ → ℝ) (t m : ℕ) : ℝ := r t m * Real.exp (cum lw (t + 1) m)

theorem dirA_eq (t m : ℕ) : dirA lw a t m = a t m * Real.exp (cum lw t m) := by
  simp [dirA, cum, sum_range_succ]

/-- The right-hand side of the triangular system. -/
def rhs (t i : ℕ) : ℝ :=
  ∑ m ∈ range 64, dirA lw a t m * S0 i m
    + ∑ s ∈ range 64, (if s < t then ∑ m ∈ range 64, dirA lw a t m * back lw k s m else 0) * v s i

/-- The strictly lower triangular matrix of the system. -/
def tri : Mat := Matrix.of fun t s =>
  if s.val < t.val then ∑ m ∈ range 64, dirA lw a t.val m * back lw b s.val m else 0

theorem tri_apply (t s : Fin 64) : tri lw a b t s
    = if s.val < t.val then ∑ m ∈ range 64, dirA lw a t.val m * back lw b s.val m else 0 := rfl

theorem tri_lower (t s : Fin 64) (h : t ≤ s) : tri lw a b t s = 0 := by
  have : ¬ s.val < t.val := by rw [Fin.le_def] at h; omega
  rw [tri_apply, if_neg this]

/-- The corrections solve the system. -/
theorem corr_eq (t : Fin 64) (i : ℕ) :
    corr S0 lw k v a b t.val i
      = rhs S0 lw k v a t.val i + ∑ s : Fin 64, tri lw a b t s * corr S0 lw k v a b s.val i := by
  have h := read_run S0 lw k v a b (a t.val) t.val (by omega) i
  simp only [← dirA_eq] at h
  simp only [tri_apply]
  rw [corr, h, rhs, Finset.sum_range fun s => (if s < t.val then ∑ m ∈ range 64, dirA lw a t.val m * back lw b s m else 0)
    * corr S0 lw k v a b s i]
  ring

/-- The doubling product applied to the right-hand side gives the corrections. -/
theorem solve (t : Fin 64) (i : ℕ) :
    ∑ s : Fin 64, (doubled (tri lw a b) 5).1 t s * rhs S0 lw k v a s.val i = corr S0 lw k v a b t.val i := by
  have hx : (fun s : Fin 64 => rhs S0 lw k v a s.val i)
      = Matrix.mulVec (1 - tri lw a b) (fun s : Fin 64 => corr S0 lw k v a b s.val i) := by
    funext s
    rw [Matrix.sub_mulVec, Matrix.one_mulVec, Pi.sub_apply, corr_eq]
    simp [Matrix.mulVec, dotProduct]
  have := congrFun (congrArg (Matrix.mulVec (doubled (tri lw a b) 5).1) hx) t
  rw [Matrix.mulVec_mulVec, doubled_inverse _ (tri_lower lw a b), Matrix.one_mulVec] at this
  exact this

/-- The output of a token: the state after it read against its receptance. -/
theorem read_out (r : ℕ → ℕ → ℝ) (t : ℕ) (ht : t < 64) (i : ℕ) :
    ∑ m ∈ range 64, run S0 lw k v a b (t + 1) i m * r t m
      = ∑ m ∈ range 64, dirR lw r t m * S0 i m
        + (∑ s ∈ range 64, (if s ≤ t then ∑ m ∈ range 64, dirR lw r t m * back lw b s m else 0)
              * corr S0 lw k v a b s i
          + ∑ s ∈ range 64, (if s ≤ t then ∑ m ∈ range 64, dirR lw r t m * back lw k s m else 0) * v s i) := by
  have h := read_run S0 lw k v a b (r t) (t + 1) (by omega) i
  simpa only [Nat.lt_succ_iff, dirR] using h

/-- A direction brought forward to the end of the chunk. -/
def fwd (f : ℕ → ℕ → ℝ) (s j : ℕ) : ℝ := f s j * Real.exp (cum lw 64 j - cum lw (s + 1) j)

/-- The state after the chunk. -/
theorem run_chunk (i j : ℕ) :
    run S0 lw k v a b 64 i j
      = Real.exp (cum lw 64 j) * S0 i j
        + (∑ s ∈ range 64, fwd lw b s j * corr S0 lw k v a b s i + ∑ s ∈ range 64, fwd lw k s j * v s i) := by
  rw [run_closed, mul_add, mul_sum, ← sum_add_distrib]
  congr 1
  refine sum_congr rfl fun s _ => ?_
  rw [fwd, fwd, sub_eq_add_neg, Real.exp_add]
  ring

end Rwkv

end
-- ==== Proof.Lanes.lean ====
/-
  Two heads side by side in 128 lanes: the products of a 64-token block with a block-diagonal matrix are the
  two heads' own products.

  A block is a function of a row and a lane, both natural numbers. `bd w` stands the two halves of a block on
  the diagonal of a 128 × 128 matrix. Lane `l` belongs to head `l / 64` and is that head's lane `l % 64`.
-/
module

public import proofs.«01_k».proof.Proof.Head

@[expose] public section

noncomputable section

namespace Rwkv

open Finset

/-- Rows by columns over `K` terms. -/
def mm (K : ℕ) (f g : ℕ → ℕ → ℝ) (i j : ℕ) : ℝ := ∑ m ∈ range K, f i m * g m j

/-- Rows by rows. -/
def mmT (K : ℕ) (f g : ℕ → ℕ → ℝ) (i j : ℕ) : ℝ := ∑ m ∈ range K, f i m * g j m

/-- Columns by columns. -/
def tmm (K : ℕ) (f g : ℕ → ℕ → ℝ) (i j : ℕ) : ℝ := ∑ m ∈ range K, f m i * g m j

/-- One block above another. -/
def catR (n : ℕ) (f g : ℕ → ℕ → ℝ) (i j : ℕ) : ℝ := if i < n then f i j else g (i - n) j

/-- One block beside another. -/
def catC (n : ℕ) (f g : ℕ → ℕ → ℝ) (i j : ℕ) : ℝ := if j < n then f i j else g i (j - n)

/-- The left half kept, the right half zero. -/
def leftOf (w : ℕ → ℕ → ℝ) (i j : ℕ) : ℝ := if j < 64 then w i j else 0

/-- The right half kept, the left half zero. -/
def rightOf (w : ℕ → ℕ → ℝ) (i j : ℕ) : ℝ := if j < 64 then 0 else w i j

/-- The two halves on the diagonal. -/
def bd (w : ℕ → ℕ → ℝ) : ℕ → ℕ → ℝ := catR 64 (leftOf w) (rightOf w)

/-- The lanes of head `h`. -/
def lanes (h : ℕ) (f : ℕ → ℕ → ℝ) (t j : ℕ) : ℝ := f t (64 * h + j)

theorem mm_cat (p q : ℕ) (f g f' g' : ℕ → ℕ → ℝ) (i j : ℕ) :
    mm (p + q) (catC p f g) (catR p f' g') i j = mm p f f' i j + mm q g g' i j := by
  rw [mm, sum_range_add]
  congr 1
  · exact sum_congr rfl fun m hm => by simp [catC, catR, mem_range.1 hm]
  · exact sum_congr rfl fun m _ => by simp [catC, catR]

theorem tmm_cat (p q : ℕ) (f g f' g' : ℕ → ℕ → ℝ) (i j : ℕ) :
    tmm (p + q) (catR p f g) (catR p f' g') i j = tmm p f f' i j + tmm q g g' i j := by
  rw [tmm, sum_range_add]
  congr 1
  · exact sum_congr rfl fun m hm => by simp [catR, mem_range.1 hm]
  · exact sum_congr rfl fun m _ => by simp [catR]

/-- A lane below 128 belongs to head 0 or to head 1. -/
theorem lane_cases (j : ℕ) (hj : j < 128) : (j < 64 ∧ j / 64 = 0 ∧ j % 64 = j) ∨ (¬ j < 64 ∧ j / 64 = 1 ∧ j % 64 = j - 64) := by
  omega

/-- A block times a block-diagonal matrix: head by head. -/
theorem mm_bd (X w : ℕ → ℕ → ℝ) (t j : ℕ) (hj : j < 128) :
    mm 128 X (bd w) t j = ∑ s ∈ range 64, X t (64 * (j / 64) + s) * w s j := by
  rw [mm, show (128 : ℕ) = 64 + 64 from rfl, sum_range_add]
  have h1 : ∀ s ∈ range 64, X t s * bd w s j = X t s * leftOf w s j := fun s hs => by
    simp [bd, catR, mem_range.1 hs]
  have h2 : ∀ s ∈ range 64, X t (64 + s) * bd w (64 + s) j = X t (64 + s) * rightOf w s j := fun s _ => by
    simp [bd, catR]
  rw [sum_congr rfl h1, sum_congr rfl h2]
  rcases lane_cases j hj with ⟨h, hd, _⟩ | ⟨h, hd, _⟩ <;> simp [leftOf, rightOf, h, hd]

/-- A block against the rows of a block-diagonal matrix: head by head. -/
theorem mmT_bd (X w : ℕ → ℕ → ℝ) (t l : ℕ) (hl : l < 128) :
    mmT 128 X (bd w) t l = ∑ s ∈ range 64, X t (64 * (l / 64) + s) * w (l % 64) (64 * (l / 64) + s) := by
  rw [mmT, show (128 : ℕ) = 64 + 64 from rfl, sum_range_add]
  rcases lane_cases l hl with ⟨h, hd, hm⟩ | ⟨h, hd, hm⟩
  · have h1 : ∀ s ∈ range 64, X t s * bd w l s = X t s * w l s := fun s hs => by
      simp [bd, catR, leftOf, mem_range.1 hs, h]
    have h2 : ∀ s ∈ range 64, X t (64 + s) * bd w l (64 + s) = 0 := fun s _ => by
      simp [bd, catR, leftOf, h]
    rw [sum_congr rfl h1, sum_congr rfl h2]
    simp [hd, hm]
  · have h1 : ∀ s ∈ range 64, X t s * bd w l s = 0 := fun s hs => by
      simp [bd, catR, rightOf, mem_range.1 hs, h]
    have h2 : ∀ s ∈ range 64, X t (64 + s) * bd w l (64 + s) = X t (64 + s) * w (l - 64) (64 + s) := fun s _ => by
      simp [bd, catR, rightOf, h]
    rw [sum_congr rfl h1, sum_congr rfl h2]
    simp [hd, hm]

/-- The head `h` of a 64 × 128 block of token-by-token weights, as a matrix. -/
def headMat (h : ℕ) (X : ℕ → ℕ → ℝ) : Mat := Matrix.of fun t s => X t.val (64 * h + s.val)

theorem headMat_apply (h : ℕ) (X : ℕ → ℕ → ℝ) (t s : Fin 64) : headMat h X t s = X t.val (64 * h + s.val) := rfl

theorem headMat_mm (h : ℕ) (hh : h < 2) (X w : ℕ → ℕ → ℝ) :
    headMat h (mm 128 X (bd w)) = headMat h X * headMat h w := by
  ext t s
  have hd : (64 * h + s.val) / 64 = h := by omega
  rw [headMat_apply, mm_bd X w _ _ (by omega), Matrix.mul_apply, hd, Finset.sum_range]
  rfl

theorem headMat_add (h : ℕ) (X Y : ℕ → ℕ → ℝ) :
    headMat h (fun t l => X t l + Y t l) = headMat h X + headMat h Y := rfl

/-- One at a lane's own token. -/
def eyeW (t l : ℕ) : ℝ := if t = l % 64 then 1 else 0

theorem headMat_eye (h : ℕ) : headMat h eyeW = 1 := by
  ext t s
  have : (64 * h + s.val) % 64 = s.val := by omega
  rw [headMat_apply, eyeW, this, Matrix.one_apply]
  simp [Fin.ext_iff]

/-- The doubling on blocks: the product so far and the next power. -/
def doubledW (M : ℕ → ℕ → ℝ) : ℕ → (ℕ → ℕ → ℝ) × (ℕ → ℕ → ℝ)
  | 0 => (fun t l => eyeW t l + M t l, mm 128 M (bd M))
  | n + 1 => let q := doubledW M n
    (fun t l => q.1 t l + mm 128 q.1 (bd q.2) t l, mm 128 q.2 (bd q.2))

theorem headMat_doubledW (h : ℕ) (hh : h < 2) (M : ℕ → ℕ → ℝ) (n : ℕ) :
    headMat h (doubledW M n).1 = (doubled (headMat h M) n).1 ∧ headMat h (doubledW M n).2 = (doubled (headMat h M) n).2 := by
  induction n with
  | zero =>
    exact ⟨by rw [doubledW, headMat_add, headMat_eye]; rfl, headMat_mm h hh M M⟩
  | succ n ih =>
    refine ⟨?_, ?_⟩
    · simp only [doubledW, doubled]
      rw [headMat_add, headMat_mm h hh, ih.1, ih.2]
    · simp only [doubledW, doubled]
      rw [headMat_mm h hh, ih.2]

/-- A pair's state: keys by values, block-diagonal, each head's block the transpose of its recurrence state. -/
def pairState (S : ℕ → ℕ → ℕ → ℝ) (m l : ℕ) : ℝ := if m / 64 = l / 64 then S (l / 64) (l % 64) (m % 64) else 0

theorem mm_pairState (X : ℕ → ℕ → ℝ) (S : ℕ → ℕ → ℕ → ℝ) (P : ℕ → ℕ → ℝ)
    (hP : ∀ m < 128, ∀ l < 128, P m l = pairState S m l) (t l : ℕ) (hl : l < 128) :
    mm 128 X P t l = ∑ j ∈ range 64, X t (64 * (l / 64) + j) * S (l / 64) (l % 64) j := by
  rw [mm, sum_congr rfl fun m hm => by rw [hP m (mem_range.1 hm) l hl], show (128 : ℕ) = 64 + 64 from rfl, sum_range_add]
  have e1 : ∀ s < 64, s / 64 = 0 := by omega
  have e2 : ∀ s < 64, (64 + s) / 64 = 1 := by omega
  have e3 : ∀ s < 64, s % 64 = s := by omega
  have e4 : ∀ s < 64, (64 + s) % 64 = s := by omega
  rcases lane_cases l hl with ⟨h, hd, hm⟩ | ⟨h, hd, hm⟩
  · rw [sum_congr rfl fun s hs => by rw [pairState, hd, e1 s (mem_range.1 hs), e3 s (mem_range.1 hs), if_pos rfl],
      sum_eq_zero (s := range 64) (f := fun s => X t (64 + s) * pairState S (64 + s) l) fun s hs => by
        rw [pairState, hd, e2 s (mem_range.1 hs), if_neg (by omega), mul_zero]]
    simp [hd]
  · rw [sum_eq_zero (s := range 64) (f := fun s => X t s * pairState S s l) fun s hs => by
        rw [pairState, hd, e1 s (mem_range.1 hs), if_neg (by omega), mul_zero],
      sum_congr rfl fun s hs => by rw [pairState, hd, e2 s (mem_range.1 hs), e4 s (mem_range.1 hs), if_pos rfl]]
    simp [hd]

end Rwkv

end
-- ==== Proof.Lift.lean ====
/-
  Arrays of extended reals whose every element is a real, and the array operations on them: each carries the reals
  through, entry by entry.
-/
module

public import Idealize.ShloMosaic.Lib.Pipeline
public import Idealize.ShloMosaic.Lib.MatmulPlain
public import Idealize.ShloMosaic.Lib.KernelVsHost
public import Idealize.ShloMosaic.Lib.Pointwise
public import Idealize.ShloMosaic.Lib.ValueIdx
public import Idealize.ShloMosaic.Lib.ValueLayout
public import Idealize.ShloMosaic.Lib.ValueLayoutCasts
public import Idealize.ShloMosaic.Lib.WordCmp
public import proofs.«01_k».proof.Proof.Lanes

@[expose] public section

noncomputable section

namespace Rwkv

open Finset
open Idealize.ShloMosaic hiding ix2 ix3 eq_ix2 eq_ix3
open Idealize.ShloMosaic.ValueIdx (ix2 ix3 eq_ix2 eq_ix3 shapeCast_1ab_ab_apply broadcastTo_1b_ab_apply)

/-- The array of reals `f`, of `n` rows and `m` columns. -/
def lift2 (n m : ℕ) (f : ℕ → ℕ → ℝ) : (⟨2, ![n, m]⟩ : Shape).Idx → EReal := fun i => ((f (i 0).val (i 1).val : ℝ) : EReal)

/-- The array of reals `f`, of three axes. -/
def lift3 (n m p : ℕ) (f : ℕ → ℕ → ℕ → ℝ) : (⟨3, ![n, m, p]⟩ : Shape).Idx → EReal :=
  fun i => ((f (i 0).val (i 1).val (i 2).val : ℝ) : EReal)

theorem lift2_congr {n m : ℕ} {f g : ℕ → ℕ → ℝ} (h : ∀ i < n, ∀ j < m, f i j = g i j) : lift2 n m f = lift2 n m g :=
  funext fun i => congrArg _ (h _ (i 0).isLt _ (i 1).isLt)

/-- Two arrays that agree at every row and column are one. -/
theorem ext2 {α : Type} {n m : ℕ} {x y : (⟨2, ![n, m]⟩ : Shape).Idx → α} (h : ∀ (a : Fin n) (b : Fin m), x (ix2 a b) = y (ix2 a b)) : x = y :=
  funext fun i => by rw [eq_ix2 i]; exact h _ _

theorem lift2_ix2 {n m : ℕ} (f : ℕ → ℕ → ℝ) (a : Fin n) (b : Fin m) : lift2 n m f (ix2 a b) = ((f a.val b.val : ℝ) : EReal) := rfl

theorem coe_sum_range (K : ℕ) (f : ℕ → ℝ) : (∑ k : Fin K, ((f k.val : ℝ) : EReal)) = ((∑ k ∈ range K, f k : ℝ) : EReal) := by
  rw [Fin.sum_univ_eq_sum_range (fun k => ((f k : ℝ) : EReal)) K]
  induction K with
  | zero => simp
  | succ n ih => rw [sum_range_succ, sum_range_succ, ih, EReal.coe_add]

/-! ## Entrywise -/

section Entry
variable {n m : ℕ} (f g : ℕ → ℕ → ℝ)

theorem lift_mul : mulf (F := Ideal) (φ := .f32) (s := ⟨2, ![n, m]⟩) (lift2 n m f) (lift2 n m g) = lift2 n m fun i j => f i j * g i j := by
  funext i; exact (EReal.coe_mul _ _).symm

theorem lift_add : addf (F := Ideal) (φ := .f32) (s := ⟨2, ![n, m]⟩) (lift2 n m f) (lift2 n m g) = lift2 n m fun i j => f i j + g i j := by
  funext i; exact (EReal.coe_add _ _).symm

theorem lift_sub : subf (F := Ideal) (φ := .f32) (s := ⟨2, ![n, m]⟩) (lift2 n m f) (lift2 n m g) = lift2 n m fun i j => f i j - g i j := by
  funext i; exact (EReal.coe_sub _ _).symm

theorem lift_exp : exp (F := Ideal) (φ := .f32) (s := ⟨2, ![n, m]⟩) (lift2 n m f) = lift2 n m fun i j => Real.exp (f i j) := rfl

theorem lift_trunc (h) : truncf (F := Ideal) (s := ⟨2, ![n, m]⟩) .bf16 (φ := .f32) (lift2 n m f) h = lift2 n m f := rfl

theorem lift_zero : (broadcast ⟨2, ![n, m]⟩ (Scalar.ofBits .f32 0x00000000#32 : Ideal .f32)) = lift2 n m fun _ _ => 0 := by
  funext i; exact Ideal.ofBits_zero_f32

theorem lift_const : (constant ⟨2, ![n, m]⟩ .f32 0x00000000#32 : FVec Ideal ⟨2, ![n, m]⟩ .f32) = lift2 n m fun _ _ => 0 := by
  funext i; exact Ideal.ofBits_zero_f32

/-- A choice by a mask that holds exactly at the positions `p`. -/
theorem lift_select (p : ℕ → ℕ → Prop) [∀ i j, Decidable (p i j)] (c : IVec ⟨2, ![n, m]⟩ 1)
    (hc : ∀ i, c i = 1 ↔ p (i 0).val (i 1).val) :
    select c (lift2 n m f) (lift2 n m g) = lift2 n m fun i j => if p i j then f i j else g i j := by
  funext i
  by_cases h : p (i 0).val (i 1).val
  · simp [select, Scalar.select, lift2, h, (hc i).2 h]
  · have : ¬ c i = 1 := fun e => h ((hc i).1 e)
    simp only [select, Scalar.select, lift2, h, if_false, if_neg this]

end Entry

/-! ## Products -/

section Products
variable {M K N : ℕ} {φ₁ φ₂ : FTy} (f g c : ℕ → ℕ → ℝ)

theorem lift_mm (prec) : FloatOps.matmul (F := Ideal) (φ₁ := φ₁) (φ₂ := φ₂) (DotDims.plain M K N) prec (lift2 M K f) (lift2 K N g) (lift2 M N fun _ _ => 0)
    = lift2 M N (mm K f g) := by
  refine ext2 fun a b => ?_
  refine (Ideal.matmul_plain_apply prec _ _ _ _ _).trans ?_
  simp only [lift2_ix2, EReal.coe_zero, zero_add, ← EReal.coe_mul]
  exact coe_sum_range K fun k => f a.val k * g k b.val

theorem lift_mmT (prec) : FloatOps.matmul (F := Ideal) (φ₁ := φ₁) (φ₂ := φ₂) (DotDims.transposedRhs M K N) prec (lift2 M K f) (lift2 N K g) (lift2 M N fun _ _ => 0)
    = lift2 M N (mmT K f g) := by
  refine ext2 fun a b => ?_
  refine (Ideal.matmul_transposedRhs_apply prec _ _ _ _ _).trans ?_
  simp only [lift2_ix2, EReal.coe_zero, zero_add, ← EReal.coe_mul]
  exact coe_sum_range K fun k => f a.val k * g b.val k

end Products

/-! ## Blocks side by side, and cut out -/

section Blocks
variable (f g e : ℕ → ℕ → ℝ)

theorem lift_catR {n₁ n₂ n m : ℕ} (h) :
    concatenate (⟨2, ![n, m]⟩ : Shape) 0 [⟨⟨2, ![n₁, m]⟩, lift2 n₁ m f⟩, ⟨⟨2, ![n₂, m]⟩, lift2 n₂ m g⟩] h = lift2 n m (catR n₁ f g) := by
  funext j
  rw [concatenate_pair_apply]
  by_cases hlt : (j 0).val < n₁
  · refine Eq.trans (dif_pos (by exact hlt)) ?_
    exact congrArg Real.toEReal (if_pos hlt).symm
  · refine Eq.trans (dif_neg (by exact hlt)) ?_
    exact congrArg Real.toEReal (if_neg hlt).symm

theorem lift_catC {n m₁ m₂ m : ℕ} (h) :
    concatenate (⟨2, ![n, m]⟩ : Shape) 1 [⟨⟨2, ![n, m₁]⟩, lift2 n m₁ f⟩, ⟨⟨2, ![n, m₂]⟩, lift2 n m₂ g⟩] h = lift2 n m (catC m₁ f g) := by
  funext j
  rw [concatenate_pair_apply]
  by_cases hlt : (j 1).val < m₁
  · refine Eq.trans (dif_pos (by exact hlt)) ?_
    exact congrArg Real.toEReal (if_pos hlt).symm
  · refine Eq.trans (dif_neg (by exact hlt)) ?_
    exact congrArg Real.toEReal (if_neg hlt).symm

theorem lift_catR3 {n₁ n₂ n₃ n m : ℕ} (h) :
    concatenate (⟨2, ![n, m]⟩ : Shape) 0
      [⟨⟨2, ![n₁, m]⟩, lift2 n₁ m f⟩, ⟨⟨2, ![n₂, m]⟩, lift2 n₂ m g⟩, ⟨⟨2, ![n₃, m]⟩, lift2 n₃ m e⟩] h
      = lift2 n m (catR n₁ f (catR n₂ g e)) := by
  funext j
  rw [concatenate_cons_apply, concatenateAt_cons]
  by_cases hlt : (j 0).val < n₁
  · refine Eq.trans (dif_pos (by exact hlt)) ?_
    exact congrArg Real.toEReal (if_pos hlt).symm
  · refine Eq.trans (dif_neg (by exact hlt)) ?_
    rw [concatenateAt_cons]
    by_cases hl2 : (j 0).val - n₁ < n₂
    · refine Eq.trans (dif_pos (by exact hl2)) ?_
      exact congrArg Real.toEReal ((if_neg hlt).trans (if_pos hl2)).symm
    · refine Eq.trans (dif_neg (by exact hl2)) ?_
      rw [concatenateAt_singleton]
      exact congrArg Real.toEReal ((if_neg hlt).trans (if_neg hl2)).symm

theorem lift_catC3 {n m₁ m₂ m₃ m : ℕ} (h) :
    concatenate (⟨2, ![n, m]⟩ : Shape) 1
      [⟨⟨2, ![n, m₁]⟩, lift2 n m₁ f⟩, ⟨⟨2, ![n, m₂]⟩, lift2 n m₂ g⟩, ⟨⟨2, ![n, m₃]⟩, lift2 n m₃ e⟩] h
      = lift2 n m (catC m₁ f (catC m₂ g e)) := by
  funext j
  rw [concatenate_cons_apply, concatenateAt_cons]
  by_cases hlt : (j 1).val < m₁
  · refine Eq.trans (dif_pos (by exact hlt)) ?_
    exact congrArg Real.toEReal (if_pos hlt).symm
  · refine Eq.trans (dif_neg (by exact hlt)) ?_
    rw [concatenateAt_cons]
    by_cases hl2 : (j 1).val - m₁ < m₂
    · refine Eq.trans (dif_pos (by exact hl2)) ?_
      exact congrArg Real.toEReal ((if_neg hlt).trans (if_pos hl2)).symm
    · refine Eq.trans (dif_neg (by exact hl2)) ?_
      rw [concatenateAt_singleton]
      exact congrArg Real.toEReal ((if_neg hlt).trans (if_neg hl2)).symm

theorem lift_slice {n m n' m' : ℕ} (r c : ℕ) (h) :
    extractStridedSlice (s := ⟨2, ![n, m]⟩) ⟨2, ![n', m']⟩ ![r, c] (lift2 n m f) h = lift2 n' m' fun i j => f (r + i) (c + j) := rfl

theorem lift_row {n m : ℕ} (h) :
    broadcastTo (s := ⟨2, ![1, m]⟩) ⟨2, ![n, m]⟩ (lift2 1 m f) h = lift2 n m fun _ j => f 0 j := by
  exact ext2 fun a b => broadcastTo_1b_ab_apply _ h a b

end Blocks

/-! ## Splitting the rows into groups of eight -/

theorem lift_split {a b c n : ℕ} (hn : n = a * b) (f : ℕ → ℕ → ℝ) (h) :
    shapeCast (s := ⟨2, ![n, c]⟩) ⟨3, ![a, b, c]⟩ (lift2 n c f) h = lift3 a b c fun g s l => f (b * g + s) l := by
  subst hn
  funext j
  have h0 : (j 0).val < a := (j 0).isLt
  have h1 : (j 1).val < b := (j 1).isLt
  have hlt : b * (j 0).val + (j 1).val < a * b := by
    calc b * (j 0).val + (j 1).val < b * (j 0).val + b := by omega
      _ = b * ((j 0).val + 1) := by ring
      _ ≤ b * a := Nat.mul_le_mul_left _ h0
      _ = a * b := by ring
  refine (shapeCast_apply _ h j (ix2 (⟨b * (j 0).val + (j 1).val, hlt⟩ : Fin (a * b)) (j 2 : Fin c)) ?_).trans rfl
  rw [Shape.rowMajor_val_two, Shape.rowMajor_val_three]
  show (b * (j 0).val + (j 1).val) * c + (j 2).val = ((j 0).val * b + (j 1).val) * c + (j 2).val
  ring

/-- The rotation of each group and the masked addition: one step of the running sums. -/
theorem lift_step {a c : ℕ} (d : ℕ) (hd : d < 8) (F : ℕ → ℕ → ℕ → ℝ) (hi) (hrot) :
    addf (F := Ideal) (φ := .f32) (s := ⟨3, ![a, 8, c]⟩) (lift3 a 8 c F)
      (select (cmpi .sge (iota .tc ⟨3, ![a, 8, c]⟩ 32 [1] hi) (broadcast ⟨3, ![a, 8, c]⟩ (BitVec.ofNat 32 d)))
        (dynamicRotate 1 (BitVec.ofNat 32 d) none (lift3 a 8 c F) hrot)
        (broadcast ⟨3, ![a, 8, c]⟩ (Scalar.ofBits .f32 0x00000000#32 : Ideal .f32)))
      = lift3 a 8 c fun g s l => F g s l + if d ≤ s then F g (s - d) l else 0 := by
  funext j
  have h1 : (j 1).val < 8 := (j 1).isLt
  have hc : (cmpi .sge (iota .tc ⟨3, ![a, 8, c]⟩ 32 [1] hi) (broadcast ⟨3, ![a, 8, c]⟩ (BitVec.ofNat 32 d)) j = 1) ↔ d ≤ (j 1).val := by
    have e : cmpi .sge (iota .tc ⟨3, ![a, 8, c]⟩ 32 [1] hi) (broadcast ⟨3, ![a, 8, c]⟩ (BitVec.ofNat 32 d)) j
        = IntOp.cmpi .sge (BitVec.ofNat 32 (j 1).val) (BitVec.ofNat 32 d) := by simp [cmpi, iota, broadcast]
    rw [e]
    exact WordCmp.cmpi_sge_ofNat_eq_one_iff (by omega) (by omega)
  have hr : dynamicRotate 1 (BitVec.ofNat 32 d) none (lift3 a 8 c F) hrot j
      = ((F (j 0).val (((j 1).val + 8 - d) % 8) (j 2).val : ℝ) : EReal) := by
    refine (dynamicRotate_apply 1 (BitVec.ofNat 32 d) (lift3 a 8 c F) hrot j
      (ix3 (j 0 : Fin a) (⟨((j 1).val + 8 - d) % 8, Nat.mod_lt _ (by norm_num)⟩ : Fin 8) (j 2 : Fin c)) ?_).trans rfl
    intro b
    have : d % 2 ^ 32 % 8 = d := by omega
    fin_cases b
    · rfl
    · show ((j 1).val + 8 - d) % 8 = ((j 1).val + 8 - (BitVec.ofNat 32 d).toNat % 8) % 8
      rw [BitVec.toNat_ofNat, this]
    · rfl
  show lift3 a 8 c F j + Scalar.select _ _ _ = _
  rw [hr]
  by_cases h : d ≤ (j 1).val
  · rw [hc.2 h]
    have : ((j 1).val + 8 - d) % 8 = (j 1).val - d := by omega
    simp [Scalar.select, lift3, h, this]
  · have hn := mt hc.1 h
    rw [Scalar.select, if_neg hn]
    simp only [lift3, h, if_false, add_zero]
    exact (congrArg _ Ideal.ofBits_zero_f32).trans (add_zero _)

/-- One group out of the split array. -/
theorem lift_group {a b c : ℕ} (g : ℕ) (F : ℕ → ℕ → ℕ → ℝ) (h h') :
    shapeCast (s := ⟨3, ![1, b, c]⟩) ⟨2, ![b, c]⟩ (extractStridedSlice (s := ⟨3, ![a, b, c]⟩) ⟨3, ![1, b, c]⟩ ![g, 0, 0] (lift3 a b c F) h) h'
      = lift2 b c fun s l => F g s l := by
  refine ext2 fun s l => (shapeCast_1ab_ab_apply _ h' s l).trans ?_
  show ((F (g + 0) (0 + s.val) (0 + l.val) : ℝ) : EReal) = _
  rw [add_zero, zero_add, zero_add]
  rfl

/-- Row `k` of blocks of eight rows stacked. -/
def pickAt : List (ℕ → ℕ → ℝ) → ℕ → ℕ → ℝ
  | [], _, _ => 0
  | f :: fs, k, l => if k < 8 then f k l else pickAt fs (k - 8) l

theorem lift_stack {n c : ℕ} (j : (⟨2, ![n, c]⟩ : Shape).Idx) : ∀ (fs : List (ℕ → ℕ → ℝ)) (hs) (k : ℕ) (hc),
    concatenateAt (⟨2, ![n, c]⟩ : Shape) 0 j (fs.map fun f => (⟨⟨2, ![8, c]⟩, lift2 8 c f⟩ : (s : Shape) × (s.Idx → EReal))) hs k hc
      = ((pickAt fs k (j 1).val : ℝ) : EReal)
  | [], hs, k, hc => by simp at hc
  | [f], hs, k, hc => by
    have hk : k < 8 := by simpa [axisSizes] using hc
    refine (concatenateAt_singleton 0 j (lift2 8 c f) hs k hc).trans ?_
    exact congrArg Real.toEReal (if_pos hk).symm
  | f :: g :: fs, hs, k, hc => by
    refine (concatenateAt_cons 0 j (lift2 8 c f) _ _ hs k hc).trans ?_
    by_cases hk : k < 8
    · refine Eq.trans (dif_pos (by exact hk)) ?_
      exact congrArg Real.toEReal (if_pos hk).symm
    · refine Eq.trans (dif_neg (by exact hk)) ?_
      refine (lift_stack j (g :: fs) _ _ _).trans ?_
      exact congrArg Real.toEReal (if_neg hk).symm

/-- Eight blocks of eight rows, one below another. -/
theorem lift_cat8 {c : ℕ} (f : ℕ → ℕ → ℕ → ℝ) (h) :
    concatenate (⟨2, ![64, c]⟩ : Shape) 0
      [⟨⟨2, ![8, c]⟩, lift2 8 c (f 0)⟩, ⟨⟨2, ![8, c]⟩, lift2 8 c (f 1)⟩, ⟨⟨2, ![8, c]⟩, lift2 8 c (f 2)⟩,
       ⟨⟨2, ![8, c]⟩, lift2 8 c (f 3)⟩, ⟨⟨2, ![8, c]⟩, lift2 8 c (f 4)⟩, ⟨⟨2, ![8, c]⟩, lift2 8 c (f 5)⟩,
       ⟨⟨2, ![8, c]⟩, lift2 8 c (f 6)⟩, ⟨⟨2, ![8, c]⟩, lift2 8 c (f 7)⟩] h
      = lift2 64 c fun t l => f (t / 8) (t % 8) l := by
  funext j
  rw [concatenate_cons_apply]
  refine (lift_stack j [f 0, f 1, f 2, f 3, f 4, f 5, f 6, f 7] _ _ _).trans (congrArg Real.toEReal ?_)
  have h0 : (j 0).val < 64 := (j 0).isLt
  generalize (j 0).val = t at h0
  generalize (j 1).val = l
  have hq : t / 8 < 8 := by omega
  have ht : t = 8 * (t / 8) + t % 8 := by omega
  have hr : t % 8 < 8 := by omega
  generalize hqe : t / 8 = q at *
  generalize hre : t % 8 = r at *
  subst ht
  interval_cases q <;> simp (config := { decide := false }) only [pickAt] <;>
    (repeat (first | rw [if_pos (by omega)] | rw [if_neg (by omega)])) <;> congr 1 <;> omega

end Rwkv
-- ==== Proof.Read.lean ====
/-
  Reading what one grid point stores: the output blocks and the states, each at its place, and the blocks it loads.
-/
module

public import proofs.«01_k».proof.Proof.RunB
public import proofs.«01_k».proof.Proof.Lift
public import Idealize.ShloMosaic.Lib.WritesUnit
public import Idealize.ShloMosaic.Lib.WholeRead

@[expose] public section

noncomputable section

namespace Rwkv.Body

open Idealize.ShloMosaic hiding ix1 ix2 ix3 ix4 eq_ix2 eq_ix3
open Idealize.ShloMosaic.ValueIdx (ix1 ix2 ix3 ix4 eq_ix2 eq_ix3 shapeCast_1ab_ab_apply shapeCast_ab_1ab_apply)
open Cert.KernelIdeal Cert.KernelIdeal.Gen

variable {F : FTy → Type} [FloatOps F]

/-- The number of the piece that holds an index of the output block. -/
def pieceOf (y : S2x512x512.Idx) : ℕ := 8 * ((y 1).val / 64) + 4 * (y 0).val + (y 2).val / 128

section
variable (r lw k v q al : ℕ → ℕ → Vec F S1x64x512 .f32) (P : ℕ → FVec F S128x128 .f32)

theorem read_outPieces (V : View sig .tc .vmem S2x512x512 .f32) (f : V.ty.Contents (Elt F)) (y : S2x512x512.Idx) (N : ℕ) (hN : N ≤ 64)
    (hy : pieceOf y < N) :
    V.read (Elt F) (V.writes (Elt F) f (outPieces r lw k v q al P N)) y
      = outBlock r lw k v q al P (pieceOf y) (ix2 ⟨(y 1).val % 64, Nat.mod_lt _ (by decide)⟩ ⟨(y 2).val % 128, Nat.mod_lt _ (by decide)⟩) := by
  have h0 : (y 0).val < 2 := (y 0).isLt
  have h1 : (y 1).val < 512 := (y 1).isLt
  have h2 : (y 2).val < 512 := (y 2).isLt
  induction N with
  | zero => exact absurd hy (Nat.not_lt_zero _)
  | succ N ih =>
    by_cases hn : pieceOf y = N
    · subst hn
      have e0 : pieceOf y / 4 % 2 = (y 0).val := by unfold pieceOf; omega
      have e1 : pieceOf y / 8 % 8 = (y 1).val / 64 := by unfold pieceOf; omega
      have e2 : pieceOf y % 4 = (y 2).val / 128 := by unfold pieceOf; omega
      refine (View.read_writes_cons_unit_of_mem V f (inb_out (pieceOf y)) _ _ y
        (ix3 (0 : Fin 1) ⟨(y 1).val % 64, Nat.mod_lt _ (by decide)⟩ ⟨(y 2).val % 128, Nat.mod_lt _ (by decide)⟩) rfl fun a => ?_).trans ?_
      · match a with
        | ⟨0, _⟩ => show (y 0).val = pieceOf y / 4 % 2 + 0; omega
        | ⟨1, _⟩ => show (y 1).val = 64 * (pieceOf y / 8 % 8) + (y 1).val % 64; omega
        | ⟨2, _⟩ => show (y 2).val = 128 * (pieceOf y % 4) + (y 2).val % 128; omega
      · exact shapeCast_ab_1ab_apply _ _ _ _ _
    · have hlt : pieceOf y < N := by omega
      refine Eq.trans ?_ (ih (by omega) hlt)
      have hd : ¬ ((y 0).val = N / 4 % 2 ∧ (y 1).val / 64 = N / 8 % 8 ∧ (y 2).val / 128 = N % 4) := by
        unfold pieceOf at hn; omega
      by_cases c0 : (y 0).val = N / 4 % 2
      · by_cases c1 : (y 1).val / 64 = N / 8 % 8
        · have c2 : ¬ (y 2).val / 128 = N % 4 := fun c2 => hd ⟨c0, c1, c2⟩
          refine View.read_writes_cons_unit_of_not_mem V f (inb_out N) _ _ y rfl 2 ?_
          show (y 2).val < 128 * (N % 4) ∨ 128 * (N % 4) + 128 ≤ (y 2).val
          omega
        · refine View.read_writes_cons_unit_of_not_mem V f (inb_out N) _ _ y rfl 1 ?_
          show (y 1).val < 64 * (N / 8 % 8) ∨ 64 * (N / 8 % 8) + 64 ≤ (y 1).val
          omega
      · refine View.read_writes_cons_unit_of_not_mem V f (inb_out N) _ _ y rfl 0 ?_
        show (y 0).val < N / 4 % 2 ∨ N / 4 % 2 + 1 ≤ (y 0).val
        omega

/-- The number of the state that holds an index of the states. -/
def slotOf (y : S2x4x128x128.Idx) : ℕ := 4 * (y 0).val + (y 1).val

/-- A state among the states. -/
theorem cast_state {α : Type} (x : S128x128.Idx → α) (i j : Fin 128) :
    shapeCast S1x1x128x128 x shapeCasts_S128x128_S1x1x128x128 (ix4 (0 : Fin 1) (0 : Fin 1) i j) = x (ix2 i j) :=
  shapeCast_apply x _ _ _ (by
    rw [Shape.rowMajor_val_two, Shape.rowMajor_val_four]
    show i.val * 128 + j.val = ((0 * 1 + 0) * 128 + i.val) * 128 + j.val
    omega)

theorem cast_state' {α : Type} (x : S1x1x128x128.Idx → α) (i j : Fin 128) :
    shapeCast S128x128 x shapeCasts_S1x1x128x128_S128x128 (ix2 i j) = x (ix4 (0 : Fin 1) (0 : Fin 1) i j) :=
  shapeCast_apply x _ _ _ (by
    rw [Shape.rowMajor_val_two, Shape.rowMajor_val_four]
    show ((0 * 1 + 0) * 128 + i.val) * 128 + j.val = i.val * 128 + j.val
    omega)

theorem read_statePieces (V : View sig .tc .vmem S2x4x128x128 .f32) (f : V.ty.Contents (Elt F))
    (base : List (View.Piece (Elt F) S2x4x128x128 .f32)) (y : S2x4x128x128.Idx) (N : ℕ) (hN : N ≤ 8) (hy : slotOf y < N) :
    V.read (Elt F) (V.writes (Elt F) f (statePieces r lw k v q al P base N)) y
      = pairAfter r lw k v q al P (slotOf y) 8 (ix2 (y 2) (y 3)) := by
  have h0 : (y 0).val < 2 := (y 0).isLt
  have h1 : (y 1).val < 4 := (y 1).isLt
  induction N with
  | zero => exact absurd hy (Nat.not_lt_zero _)
  | succ N ih =>
    by_cases hn : slotOf y = N
    · subst hn
      have e0 : slotOf y / 4 % 2 = (y 0).val := by unfold slotOf; omega
      have e1 : slotOf y % 4 = (y 1).val := by unfold slotOf; omega
      refine (View.read_writes_cons_unit_of_mem V f (inb_state (slotOf y)) _ _ y
        (ix4 (0 : Fin 1) (0 : Fin 1) (y 2) (y 3)) rfl fun a => ?_).trans ?_
      · match a with
        | ⟨0, _⟩ => show (y 0).val = slotOf y / 4 % 2 + 0; omega
        | ⟨1, _⟩ => show (y 1).val = slotOf y % 4 + 0; omega
        | ⟨2, _⟩ => show (y 2).val = 0 + (y 2).val; omega
        | ⟨3, _⟩ => show (y 3).val = 0 + (y 3).val; omega
      · exact cast_state _ _ _
    · have hlt : slotOf y < N := by omega
      refine Eq.trans ?_ (ih (by omega) hlt)
      have hd : ¬ ((y 0).val = N / 4 % 2 ∧ (y 1).val = N % 4) := by
        unfold slotOf at hn; omega
      by_cases c0 : (y 0).val = N / 4 % 2
      · have c1 : ¬ (y 1).val = N % 4 := fun c1 => hd ⟨c0, c1⟩
        refine View.read_writes_cons_unit_of_not_mem V f (inb_state N) _ _ y rfl 1 ?_
        show (y 1).val < N % 4 ∨ N % 4 + 1 ≤ (y 1).val
        omega
      · refine View.read_writes_cons_unit_of_not_mem V f (inb_state N) _ _ y rfl 0 ?_
        show (y 0).val < N / 4 % 2 ∨ N / 4 % 2 + 1 ≤ (y 0).val
        omega

end

/-! ## What a point loads -/

/-- The block of batch element `b` at chunk `g` of a staged window, as a matrix. -/
theorem flat_blockAt (arg : Memref sig .tc .vmem S2x512x512 .f32) (harg : arg.IsWhole) (x : Vec F S2x512x512 .f32) (b g : ℕ)
    (i : Fin 64) (j : Fin 512) :
    flat (blockAt arg harg x b g) (ix2 i j)
      = x (ix3 (⟨b % 2, Nat.mod_lt _ (by decide)⟩ : Fin 2) (⟨64 * (g % 8) + i.val, by omega⟩ : Fin 512) j) := by
  refine (shapeCast_1ab_ab_apply _ _ i j).trans ((Memref.IsWhole.readAt_unread harg x _ _).trans (congrArg x ?_))
  funext a
  apply Fin.ext
  match a with
  | ⟨0, _⟩ => show b % 2 + 1 * 0 = b % 2; omega
  | ⟨1, _⟩ => show 64 * (g % 8) + 1 * i.val = 64 * (g % 8) + i.val; omega
  | ⟨2, _⟩ => show 0 + 1 * j.val = j.val; omega

/-- The state a later point starts with is the one before it. -/
theorem startB_apply (arg8 : Memref sig .tc .vmem S2x4x128x128 .f32) (harg8 : arg8.IsWhole) (xs0 : Vec F S2x4x128x128 .f32) (n : ℕ) (i j : Fin 128) :
    startB arg8 harg8 xs0 n (ix2 i j)
      = xs0 (ix4 (⟨n / 4 % 2, Nat.mod_lt _ (by decide)⟩ : Fin 2) (⟨n % 4, Nat.mod_lt _ (by decide)⟩ : Fin 4) i j) := by
  refine (cast_state' _ i j).trans ((Memref.IsWhole.readAt_unread harg8 xs0 _ _).trans (congrArg xs0 ?_))
  funext a
  apply Fin.ext
  match a with
  | ⟨0, _⟩ => show n / 4 % 2 + 1 * 0 = n / 4 % 2; omega
  | ⟨1, _⟩ => show n % 4 + 1 * 0 = n % 4; omega
  | ⟨2, _⟩ => show 0 + 1 * i.val = i.val; omega
  | ⟨3, _⟩ => show 0 + 1 * j.val = j.val; omega

/-- The first point starts with zero states. -/
theorem startA_eq (arg8 : Memref sig .tc .vmem S2x4x128x128 .f32) (n : ℕ) :
    startA (F := Ideal) arg8 n = lift2 128 128 fun _ _ => 0 := by
  refine ext2 fun i j => (cast_state' _ i j).trans ?_
  unfold View.readCov
  rw [View.readAt_apply]
  refine (View.read_writes_cons_unit_of_mem arg8.view _ inb_S2x4x128x128_S2x4x128x128_0_0_0_0 _ [] _
    ((Rect.unit (s := S2x4x128x128) ![n / 4 % 2, n % 4, 0, 0] S1x1x128x128.size (inb_state n)).toLoadRect.idx (ix4 (0 : Fin 1) (0 : Fin 1) i j))
    rfl fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold k0_pay8
    rw [shapeCast_self]
    exact Ideal.ofBits_zero_f32

end Rwkv.Body
-- ==== Proof.Masks.lean ====
/-
  The kernel's masks: which rows and lanes each holds at.
-/
module

public import proofs.«01_k».proof.Proof.Body
public import proofs.«01_k».proof.Proof.Lift

@[expose] public section

noncomputable section

namespace Rwkv.Body

open Idealize.ShloMosaic Cert.KernelIdeal Cert.KernelIdeal.Gen

theorem left_iff (i : S64x128.Idx) : k0_pay9 i = 1 ↔ (i 1).val < 64 := by
  have h1 : (i 1).val < 128 := (i 1).isLt
  have e : k0_pay9 i = IntOp.cmpi .slt (BitVec.ofNat 32 (0 * 128 + (i 1).val)) (BitVec.ofNat 32 64) := rfl
  rw [e, Nat.zero_mul, Nat.zero_add]
  exact WordCmp.cmpi_slt_ofNat_eq_one_iff (by omega) (by omega)

theorem index_eq (i : S64x128.Idx) : k0_pay10 i = BitVec.ofNat 32 ((i 1).val % 64) := by
  have h1 : (i 1).val < 128 := (i 1).isLt
  have e : k0_pay10 i = Scalar.select (k0_pay9 i) (BitVec.ofNat 32 (0 * 128 + (i 1).val)) (BitVec.ofNat 32 (0 * 128 + (i 1).val) - 64#32) := rfl
  rw [e, Nat.zero_mul, Nat.zero_add]
  by_cases h : (i 1).val < 64
  · rw [(left_iff i).2 h, Nat.mod_eq_of_lt h]; rfl
  · rw [Scalar.select, if_neg (mt (left_iff i).1 h)]
    apply BitVec.eq_of_toNat_eq
    simp only [BitVec.toNat_sub, BitVec.toNat_ofNat]
    omega

theorem strict_iff (i : S64x128.Idx) : k0_pay11 i = 1 ↔ (i 1).val % 64 < (i 0).val := by
  have h0 : (i 0).val < 64 := (i 0).isLt
  have h1 : (i 1).val < 128 := (i 1).isLt
  have e : k0_pay11 i = IntOp.cmpi .sgt (BitVec.ofNat 32 (0 * 64 + (i 0).val)) (k0_pay10 i) := rfl
  rw [e, index_eq, Nat.zero_mul, Nat.zero_add]
  exact WordCmp.cmpi_sgt_ofNat_eq_one_iff (by omega) (by omega)

theorem incl_iff (i : S64x128.Idx) : k0_pay12 i = 1 ↔ (i 1).val % 64 ≤ (i 0).val := by
  have h0 : (i 0).val < 64 := (i 0).isLt
  have h1 : (i 1).val < 128 := (i 1).isLt
  have e : k0_pay12 i = IntOp.cmpi .sge (BitVec.ofNat 32 (0 * 64 + (i 0).val)) (k0_pay10 i) := rfl
  rw [e, index_eq, Nat.zero_mul, Nat.zero_add]
  exact WordCmp.cmpi_sge_ofNat_eq_one_iff (by omega) (by omega)

theorem eye_eq : (k0_pay13 : FVec Ideal S64x128 .f32) = lift2 64 128 eyeW := by
  funext i
  have h0 : (i 0).val < 64 := (i 0).isLt
  have h1 : (i 1).val < 128 := (i 1).isLt
  have e : (k0_pay13 : FVec Ideal S64x128 .f32) i
      = (((IntOp.cmpi .eq (BitVec.ofNat 32 (0 * 64 + (i 0).val)) (k0_pay10 i)).zeroExtend 32).toInt : ℝ) := rfl
  rw [e, index_eq, Nat.zero_mul, Nat.zero_add, WordCmp.cmpi_eq_ofNat (by omega) (by omega)]
  show _ = ((eyeW (i 0).val (i 1).val : ℝ) : EReal)
  unfold eyeW
  by_cases h : (i 0).val = (i 1).val % 64 <;> simp [h]

theorem same_iff (i : S128x128.Idx) : k0_pay14 i = 1 ↔ (i 0).val / 64 = (i 1).val / 64 := by
  have h0 : (i 0).val < 128 := (i 0).isLt
  have h1 : (i 1).val < 128 := (i 1).isLt
  have e : k0_pay14 i = (IntOp.cmpi .slt (BitVec.ofNat 32 (0 * 128 + (i 0).val)) (BitVec.ofNat 32 64)
      ^^^ IntOp.cmpi .slt (BitVec.ofNat 32 (0 * 128 + (i 1).val)) (BitVec.ofNat 32 64)) ^^^ 1#1 := rfl
  rw [e, Nat.zero_mul, Nat.zero_add, Nat.zero_add, WordCmp.cmpi_slt_ofNat (by omega) (by omega), WordCmp.cmpi_slt_ofNat (by omega) (by omega)]
  by_cases a : (i 0).val < 64 <;> by_cases b : (i 1).val < 64 <;> simp [a, b] <;> omega

theorem diag_iff (i : S128x128.Idx) : k0_pay15 i = 1 ↔ (i 0).val = (i 1).val := by
  have h0 : (i 0).val < 128 := (i 0).isLt
  have h1 : (i 1).val < 128 := (i 1).isLt
  have e : k0_pay15 i = IntOp.cmpi .eq (BitVec.ofNat 32 (0 * 128 + (i 0).val)) (BitVec.ofNat 32 (0 * 128 + (i 1).val)) := rfl
  rw [e, Nat.zero_mul, Nat.zero_add, Nat.zero_add, WordCmp.cmpi_eq_ofNat (by omega) (by omega)]
  by_cases h : (i 0).val = (i 1).val <;> simp [h]

end Rwkv.Body
-- ==== Proof.Pair.lean ====
/-
  One chunk of one pair of heads, as the kernel computes it, over the reals: from the pair's state and the chunk's
  six inputs it leaves the recurrence's output at every token and the recurrence's state after the chunk.
-/
module

public import proofs.«01_k».proof.Proof.Lanes

@[expose] public section

noncomputable section

namespace Rwkv

open Finset

/-- What the chunk's products are made of: the decayed directions, receptances and keys, the values, and the
    decay of the whole chunk by key lane. -/
structure Ops where
  A : ℕ → ℕ → ℝ
  R : ℕ → ℕ → ℝ
  B : ℕ → ℕ → ℝ
  K : ℕ → ℕ → ℝ
  Bh : ℕ → ℕ → ℝ
  Kh : ℕ → ℕ → ℝ
  V : ℕ → ℕ → ℝ
  W : ℕ → ℝ

namespace Ops

variable (o : Ops) (P : ℕ → ℕ → ℝ)

/-- Every direction and receptance against every correction and key, head by head. -/
def gram : ℕ → ℕ → ℝ := mmT 128 (catR 64 o.A o.R) (catR 128 (bd o.B) (bd o.K))

def aab (t l : ℕ) : ℝ := if l % 64 < t then o.gram t l else 0
def aak (t l : ℕ) : ℝ := if l % 64 < t then o.gram t (128 + l) else 0
def arb (t l : ℕ) : ℝ := if l % 64 ≤ t then o.gram (64 + t) l else 0
def ark (t l : ℕ) : ℝ := if l % 64 ≤ t then o.gram (64 + t) (128 + l) else 0

/-- The inverse of the triangular system. -/
def T : ℕ → ℕ → ℝ := (doubledW o.aab 5).1

/-- The system's right-hand side. -/
def x : ℕ → ℕ → ℝ := mm 256 (catC 128 o.A o.aak) (catR 128 P (bd o.V))

/-- The corrections. -/
def u : ℕ → ℕ → ℝ := mm 128 o.T (bd (o.x P))

/-- What the chunk adds to the state. -/
def ds : ℕ → ℕ → ℝ := tmm 128 (catR 64 o.Bh o.Kh) (catR 64 (o.u P) o.V)

/-- The state after the chunk. -/
def next (m l : ℕ) : ℝ := o.W m * P m l + (if m / 64 = l / 64 then o.ds P m l else 0)

/-- The chunk's outputs. -/
def y : ℕ → ℕ → ℝ :=
  mm 384 (catC 128 o.R (catC 128 o.arb o.ark)) (catR 128 P (catR 128 (bd (o.u P)) (bd o.V)))

end Ops

/-- The chunk's operands, from its six inputs. -/
def mkOps (r lw k v q al : ℕ → ℕ → ℝ) : Ops where
  A t l := (0 - q t l) * Real.exp (cum lw (t + 1) l - lw t l)
  R t l := r t l * Real.exp (cum lw (t + 1) l)
  B t l := q t l * al t l * Real.exp (0 - cum lw (t + 1) l)
  K t l := k t l * Real.exp (0 - cum lw (t + 1) l)
  Bh t l := q t l * al t l * Real.exp (cum lw 64 l - cum lw (t + 1) l)
  Kh t l := k t l * Real.exp (cum lw 64 l - cum lw (t + 1) l)
  V := v
  W l := Real.exp (cum lw 64 l)

section
variable (S : ℕ → ℕ → ℕ → ℝ) (r lw k v q al : ℕ → ℕ → ℝ)

/-- What a head removes, and what it adds for that. -/
def negK (t l : ℕ) : ℝ := -q t l
def rateK (t l : ℕ) : ℝ := q t l * al t l

/-- The state of head `h` after `t` tokens of the chunk. -/
abbrev headRun (h t : ℕ) : ℕ → ℕ → ℝ :=
  run (S h) (lanes h lw) (lanes h k) (lanes h v) (lanes h (negK q)) (lanes h (rateK q al)) t

/-- The corrections of head `h`. -/
abbrev headCorr (h : ℕ) : ℕ → ℕ → ℝ :=
  corr (S h) (lanes h lw) (lanes h k) (lanes h v) (lanes h (negK q)) (lanes h (rateK q al))

theorem mkA (h t j : ℕ) : (mkOps r lw k v q al).A t (64 * h + j) = dirA (lanes h lw) (lanes h (negK q)) t j := by
  simp [mkOps, dirA, lanes, negK, cum]
theorem mkR (h t j : ℕ) : (mkOps r lw k v q al).R t (64 * h + j) = dirR (lanes h lw) (lanes h r) t j := rfl
theorem mkB (h t j : ℕ) : (mkOps r lw k v q al).B t (64 * h + j) = back (lanes h lw) (lanes h (rateK q al)) t j := by
  simp [mkOps, back, lanes, rateK, cum]
theorem mkK (h t j : ℕ) : (mkOps r lw k v q al).K t (64 * h + j) = back (lanes h lw) (lanes h k) t j := by
  simp [mkOps, back, lanes, cum]
theorem mkBh (h t j : ℕ) : (mkOps r lw k v q al).Bh t (64 * h + j) = fwd (lanes h lw) (lanes h (rateK q al)) t j := rfl
theorem mkKh (h t j : ℕ) : (mkOps r lw k v q al).Kh t (64 * h + j) = fwd (lanes h lw) (lanes h k) t j := rfl

theorem mmT_catR_lt (K n : ℕ) (X f g : ℕ → ℕ → ℝ) (t l : ℕ) (hl : l < n) :
    mmT K X (catR n f g) t l = mmT K X f t l := by simp [mmT, catR, hl]
theorem mmT_catR_add (K n : ℕ) (X f g : ℕ → ℕ → ℝ) (t l : ℕ) :
    mmT K X (catR n f g) t (n + l) = mmT K X g t l := by simp [mmT, catR]
theorem mmT_row_lt (K n : ℕ) (X Y f : ℕ → ℕ → ℝ) (t l : ℕ) (ht : t < n) :
    mmT K (catR n X Y) f t l = mmT K X f t l := by simp [mmT, catR, ht]
theorem mmT_row_add (K n : ℕ) (X Y f : ℕ → ℕ → ℝ) (t l : ℕ) :
    mmT K (catR n X Y) f (n + t) l = mmT K Y f t l := by simp [mmT, catR]
theorem mm_row_lt (K n : ℕ) (X Y f : ℕ → ℕ → ℝ) (t l : ℕ) (ht : t < n) :
    mm K (catR n X Y) f t l = mm K X f t l := by simp [mm, catR, ht]
theorem mm_row_add (K n : ℕ) (X Y f : ℕ → ℕ → ℝ) (t l : ℕ) :
    mm K (catR n X Y) f (n + t) l = mm K Y f t l := by simp [mm, catR]

theorem aab_lane (h : ℕ) (hh : h < 2) (t s : ℕ) (ht : t < 64) (hs : s < 64) :
    (mkOps r lw k v q al).aab t (64 * h + s)
      = if s < t then ∑ m ∈ range 64, dirA (lanes h lw) (lanes h (negK q)) t m
          * back (lanes h lw) (lanes h (rateK q al)) s m else 0 := by
  have hd : (64 * h + s) / 64 = h := by omega
  have hm : (64 * h + s) % 64 = s := by omega
  rw [Ops.aab, Ops.gram, mmT_catR_lt _ _ _ _ _ _ _ (by omega), mmT_row_lt _ _ _ _ _ _ _ ht, mmT_bd _ _ _ _ (by omega), hd, hm]
  simp only [mkA, mkB]

theorem aak_lane (h : ℕ) (hh : h < 2) (t s : ℕ) (ht : t < 64) (hs : s < 64) :
    (mkOps r lw k v q al).aak t (64 * h + s)
      = if s < t then ∑ m ∈ range 64, dirA (lanes h lw) (lanes h (negK q)) t m
          * back (lanes h lw) (lanes h k) s m else 0 := by
  have hd : (64 * h + s) / 64 = h := by omega
  have hm : (64 * h + s) % 64 = s := by omega
  rw [Ops.aak, Ops.gram, mmT_catR_add, mmT_row_lt _ _ _ _ _ _ _ ht, mmT_bd _ _ _ _ (by omega), hd, hm]
  simp only [mkA, mkK]

theorem arb_lane (h : ℕ) (hh : h < 2) (t s : ℕ) (hs : s < 64) :
    (mkOps r lw k v q al).arb t (64 * h + s)
      = if s ≤ t then ∑ m ∈ range 64, dirR (lanes h lw) (lanes h r) t m
          * back (lanes h lw) (lanes h (rateK q al)) s m else 0 := by
  have hd : (64 * h + s) / 64 = h := by omega
  have hm : (64 * h + s) % 64 = s := by omega
  rw [Ops.arb, Ops.gram, mmT_catR_lt _ _ _ _ _ _ _ (by omega), mmT_row_add, mmT_bd _ _ _ _ (by omega), hd, hm]
  simp only [mkR, mkB]

theorem ark_lane (h : ℕ) (hh : h < 2) (t s : ℕ) (hs : s < 64) :
    (mkOps r lw k v q al).ark t (64 * h + s)
      = if s ≤ t then ∑ m ∈ range 64, dirR (lanes h lw) (lanes h r) t m
          * back (lanes h lw) (lanes h k) s m else 0 := by
  have hd : (64 * h + s) / 64 = h := by omega
  have hm : (64 * h + s) % 64 = s := by omega
  rw [Ops.ark, Ops.gram, mmT_catR_add, mmT_row_add, mmT_bd _ _ _ _ (by omega), hd, hm]
  simp only [mkR, mkK]

theorem headMat_aab (h : ℕ) (hh : h < 2) :
    headMat h (mkOps r lw k v q al).aab = tri (lanes h lw) (lanes h (negK q)) (lanes h (rateK q al)) := by
  ext t s
  rw [headMat_apply, aab_lane r lw k v q al h hh _ _ t.isLt s.isLt, tri_apply]

theorem lanes_mod (f : ℕ → ℕ → ℝ) (t l : ℕ) : lanes (l / 64) f t (l % 64) = f t l := by
  rw [lanes, Nat.div_add_mod]

variable (P : ℕ → ℕ → ℝ) (hP : ∀ m < 128, ∀ l < 128, P m l = pairState S m l)
include hP

theorem x_lane (t l : ℕ) (ht : t < 64) (hl : l < 128) :
    (mkOps r lw k v q al).x P t l
      = rhs (S (l / 64)) (lanes (l / 64) lw) (lanes (l / 64) k) (lanes (l / 64) v) (lanes (l / 64) (negK q)) t (l % 64) := by
  have hh : l / 64 < 2 := by omega
  rw [Ops.x, show (256 : ℕ) = 128 + 128 from rfl, mm_cat, mm_pairState _ S P hP _ _ hl, mm_bd _ _ _ _ hl, rhs]
  simp only [mkA]
  congr 1
  refine sum_congr rfl fun s hs => ?_
  rw [aak_lane r lw k v q al _ hh t s ht (mem_range.1 hs), lanes_mod]
  rfl

theorem u_lane (t l : ℕ) (ht : t < 64) (hl : l < 128) :
    (mkOps r lw k v q al).u P t l = headCorr S lw k v q al (l / 64) t (l % 64) := by
  have hh : l / 64 < 2 := by omega
  rw [Ops.u, mm_bd _ _ _ _ hl, sum_congr rfl fun s hs => by rw [x_lane S r lw k v q al P hP s l (mem_range.1 hs) hl],
    Finset.sum_range]
  have := solve (S (l / 64)) (lanes (l / 64) lw) (lanes (l / 64) k) (lanes (l / 64) v) (lanes (l / 64) (negK q))
    (lanes (l / 64) (rateK q al)) ⟨t, ht⟩ (l % 64)
  refine Eq.trans ?_ this
  refine sum_congr rfl fun s _ => ?_
  rw [← headMat_aab r lw k v q al _ hh, ← (headMat_doubledW _ hh _ 5).1]
  rfl

/-- The state after the chunk is the recurrence's. -/
theorem next_lane (m l : ℕ) (hm : m < 128) (hl : l < 128) :
    (mkOps r lw k v q al).next P m l = pairState (fun h => headRun S lw k v q al h 64) m l := by
  rw [Ops.next, hP m hm l hl, pairState, pairState]
  by_cases h : m / 64 = l / 64
  · rw [if_pos h, if_pos h, if_pos h]
    refine Eq.trans ?_ (run_chunk ..).symm
    rw [Ops.ds, show (128 : ℕ) = 64 + 64 from rfl, tmm_cat]
    have hml : 64 * (l / 64) + m % 64 = m := by rw [← h, Nat.div_add_mod]
    have e1 : ∀ s, (mkOps r lw k v q al).Bh s m = fwd (lanes (l / 64) lw) (lanes (l / 64) (rateK q al)) s (m % 64) := fun s => by
      rw [← mkBh r lw k v q al, hml]
    have e2 : ∀ s, (mkOps r lw k v q al).Kh s m = fwd (lanes (l / 64) lw) (lanes (l / 64) k) s (m % 64) := fun s => by
      rw [← mkKh r lw k v q al, hml]
    have e3 : (mkOps r lw k v q al).W m = Real.exp (cum (lanes (l / 64) lw) 64 (m % 64)) := by
      simp only [mkOps, cum, lanes, hml]
    rw [e3, tmm, tmm]
    congr 2
    · exact sum_congr rfl fun s hs => by rw [e1, u_lane S r lw k v q al P hP s l (mem_range.1 hs) hl]
    · exact sum_congr rfl fun s hs => by rw [e2, lanes_mod]; rfl
  · simp [h]

/-- The chunk's outputs are the recurrence's. -/
theorem y_lane (t l : ℕ) (ht : t < 64) (hl : l < 128) :
    (mkOps r lw k v q al).y P t l
      = ∑ j ∈ range 64, headRun S lw k v q al (l / 64) (t + 1) (l % 64) j * r t (64 * (l / 64) + j) := by
  have hh : l / 64 < 2 := by omega
  have := read_out (S (l / 64)) (lanes (l / 64) lw) (lanes (l / 64) k) (lanes (l / 64) v) (lanes (l / 64) (negK q))
    (lanes (l / 64) (rateK q al)) (lanes (l / 64) r) t ht (l % 64)
  refine Eq.trans ?_ this.symm
  rw [Ops.y, show (384 : ℕ) = 128 + (128 + 128) from rfl, mm_cat, mm_cat, mm_pairState _ S P hP _ _ hl,
    mm_bd _ _ _ _ hl, mm_bd _ _ _ _ hl]
  simp only [mkR]
  congr 2
  · exact sum_congr rfl fun s hs => by
      rw [arb_lane r lw k v q al _ hh t s (mem_range.1 hs), u_lane S r lw k v q al P hP s l (mem_range.1 hs) hl]
  · exact sum_congr rfl fun s hs => by
      rw [ark_lane r lw k v q al _ hh t s (mem_range.1 hs), lanes_mod]; rfl

end

end Rwkv

end
-- ==== Proof.Prep.lean ====
/-
  What the kernel prepares of one chunk, over the reals: the running sums of the log decays and the decayed copies
  of the chunk's six inputs, for one pair of heads.
-/
module

public import proofs.«01_k».proof.Proof.Masks
public import proofs.«01_k».proof.Proof.Pair

@[expose] public section

noncomputable section

namespace Rwkv.Body

open Finset
open Idealize.ShloMosaic hiding ix1 ix2 ix3 eq_ix2 eq_ix3
open Idealize.ShloMosaic.ValueIdx (ix1 ix2 ix3 eq_ix2 eq_ix3 shapeCast_a_a1_apply)
open Cert.KernelIdeal Cert.KernelIdeal.Gen

/-! ## Running sums -/

/-- Each token of a group plus the one `d` before it. -/
def stepR (d : ℕ) (F : ℕ → ℕ → ℕ → ℝ) (g s l : ℕ) : ℝ := F g s l + if d ≤ s then F g (s - d) l else 0

theorem shiftAdd_lift (d : ℕ) (hd : d < 8) (F : ℕ → ℕ → ℕ → ℝ) :
    shiftAdd (F := Ideal) d (lift3 8 8 512 F) = lift3 8 8 512 (stepR d F) := lift_step d hd F _ _

/-- The running sums inside each group of eight. -/
def groupsR (f : ℕ → ℕ → ℝ) : ℕ → ℕ → ℕ → ℝ := stepR 4 (stepR 2 (stepR 1 fun g s l => f (8 * g + s) l))

theorem groups_lift (f : ℕ → ℕ → ℝ) : groups (F := Ideal) (lift2 64 512 f) = lift3 8 8 512 (groupsR f) := by
  unfold groups
  refine (congrArg (fun x => shiftAdd (F := Ideal) 4 (shiftAdd 2 (shiftAdd 1 x))) (lift_split (a := 8) (b := 8) rfl f _)).trans ?_
  rw [shiftAdd_lift 1 (by decide), shiftAdd_lift 2 (by decide), shiftAdd_lift 4 (by decide)]
  rfl

theorem groupsR_eq (f : ℕ → ℕ → ℝ) (g s l : ℕ) (hs : s < 8) : groupsR f g s l = ∑ i ∈ range (s + 1), f (8 * g + i) l := by
  match s, hs with
  | 0, _ => simp [groupsR, stepR]
  | 1, _ => simp [groupsR, stepR, sum_range_succ]; ring
  | 2, _ => simp [groupsR, stepR, sum_range_succ]; ring
  | 3, _ => simp [groupsR, stepR, sum_range_succ]; ring
  | 4, _ => simp [groupsR, stepR, sum_range_succ]; ring
  | 5, _ => simp [groupsR, stepR, sum_range_succ]; ring
  | 6, _ => simp [groupsR, stepR, sum_range_succ]; ring
  | 7, _ => simp [groupsR, stepR, sum_range_succ]; ring

/-- A group's sums plus the last of the group before it. -/
def accR (F : ℕ → ℕ → ℕ → ℝ) : ℕ → ℕ → ℕ → ℝ
  | 0, s, l => F 0 s l
  | n + 1, s, l => F (n + 1) s l + accR F n (7 + 0) (0 + l)

theorem group_lift (F : ℕ → ℕ → ℕ → ℝ) (i : ℕ) (h : i < 8) :
    group (F := Ideal) (lift3 8 8 512 F) i h = lift2 8 512 fun s l => F i s l := lift_group i F _ _

theorem after_lift (f g : ℕ → ℕ → ℝ) :
    after (F := Ideal) (lift2 8 512 f) (lift2 8 512 g) = lift2 8 512 fun s l => f s l + g (7 + 0) (0 + l) := by
  unfold after
  refine (congrArg (addf (F := Ideal) (φ := .f32) (s := S8x512) (lift2 8 512 f))
    (lift_row (n := 8) (m := 512) (fun i j => g (7 + i) (0 + j)) broadcasts_S1x512_S8x512)).trans ?_
  exact lift_add _ _

section
variable (F : ℕ → ℕ → ℕ → ℝ)

theorem sum0_lift : sum0 (F := Ideal) (lift3 8 8 512 F) = lift2 8 512 (accR F 0) := group_lift F 0 _
theorem sum1_lift : sum1 (F := Ideal) (lift3 8 8 512 F) = lift2 8 512 (accR F 1) := by
  rw [sum1, sum0_lift, group_lift, after_lift]; rfl
theorem sum2_lift : sum2 (F := Ideal) (lift3 8 8 512 F) = lift2 8 512 (accR F 2) := by
  rw [sum2, sum1_lift, group_lift, after_lift]; rfl
theorem sum3_lift : sum3 (F := Ideal) (lift3 8 8 512 F) = lift2 8 512 (accR F 3) := by
  rw [sum3, sum2_lift, group_lift, after_lift]; rfl
theorem sum4_lift : sum4 (F := Ideal) (lift3 8 8 512 F) = lift2 8 512 (accR F 4) := by
  rw [sum4, sum3_lift, group_lift, after_lift]; rfl
theorem sum5_lift : sum5 (F := Ideal) (lift3 8 8 512 F) = lift2 8 512 (accR F 5) := by
  rw [sum5, sum4_lift, group_lift, after_lift]; rfl
theorem sum6_lift : sum6 (F := Ideal) (lift3 8 8 512 F) = lift2 8 512 (accR F 6) := by
  rw [sum6, sum5_lift, group_lift, after_lift]; rfl
theorem sum7_lift : sum7 (F := Ideal) (lift3 8 8 512 F) = lift2 8 512 (accR F 7) := by
  rw [sum7, sum6_lift, group_lift, after_lift]; rfl

theorem stacked_lift : stacked (F := Ideal) (lift3 8 8 512 F) = lift2 64 512 fun t l => accR F (t / 8) (t % 8) l := by
  rw [stacked, sum0_lift, sum1_lift, sum2_lift, sum3_lift, sum4_lift, sum5_lift, sum6_lift, sum7_lift]
  exact lift_cat8 (accR F) _

end

theorem accR_eq (f : ℕ → ℕ → ℝ) (g s l : ℕ) (hs : s < 8) : accR (groupsR f) g s l = cum f (8 * g + s + 1) l := by
  induction g generalizing s l with
  | zero => rw [accR, groupsR_eq f 0 s l hs, cum]; simp
  | succ n ih =>
    rw [accR, groupsR_eq f (n + 1) s l hs, ih (7 + 0) (0 + l) (by omega), cum, cum, show 8 * (n + 1) + s + 1 = 8 * n + (7 + 0) + 1 + (s + 1) by omega,
      sum_range_add (fun i => f i l) (8 * n + (7 + 0) + 1) (s + 1), zero_add, add_comm]
    congr 1

/-! ## The prepared arrays -/

section
variable {x0 x1 x2 x3 x4 x5 : Vec Ideal S1x64x512 .f32} {r lw k v q al : ℕ → ℕ → ℝ}

theorem sums_lift (h : flat x1 = lift2 64 512 lw) : sums x1 = lift2 64 512 fun t l => cum lw (t + 1) l := by
  rw [sums, h, groups_lift, stacked_lift]
  refine lift2_congr fun t _ l _ => ?_
  rw [accR_eq _ _ _ _ (Nat.mod_lt _ (by decide)), show 8 * (t / 8) + t % 8 = t from Nat.div_add_mod t 8]

theorem last_lift (h : flat x1 = lift2 64 512 lw) : last x1 = lift2 1 512 fun _ l => cum lw 64 l := by
  rw [last, sums_lift h]
  refine (lift_slice (n := 64) (m := 512) (n' := 1) (m' := 512) _ 63 0 _).trans (lift2_congr fun i hi j _ => ?_)
  rw [Nat.lt_one_iff.1 hi, zero_add]

theorem zero512_lift : (zero512 : FVec Ideal S64x512 .f32) = lift2 64 512 fun _ _ => 0 := lift_zero
theorem zero64_lift : (zero64 : FVec Ideal S64x128 .f32) = lift2 64 128 fun _ _ => 0 := lift_zero
theorem zero128_lift : (zero128 : FVec Ideal S128x128 .f32) = lift2 128 128 fun _ _ => 0 := lift_zero

theorem dirA_lift (h1 : flat x1 = lift2 64 512 lw) (h4 : flat x4 = lift2 64 512 q) :
    dirA x1 x4 = lift2 64 512 fun t l => (0 - q t l) * Real.exp (cum lw (t + 1) l - lw t l) := by
  rw [dirA, h4, sums_lift h1, h1, zero512_lift]
  erw [lift_sub, lift_sub, lift_exp, lift_mul]

theorem dirR_lift (h0 : flat x0 = lift2 64 512 r) (h1 : flat x1 = lift2 64 512 lw) :
    dirR x0 x1 = lift2 64 512 fun t l => r t l * Real.exp (cum lw (t + 1) l) := by
  rw [dirR, h0, sums_lift h1]
  erw [lift_exp, lift_mul]

theorem grow_lift (h1 : flat x1 = lift2 64 512 lw) :
    grow x1 = lift2 64 512 fun t l => Real.exp (0 - cum lw (t + 1) l) := by
  rw [grow, sums_lift h1, zero512_lift]
  erw [lift_sub, lift_exp]

theorem tail_lift (h1 : flat x1 = lift2 64 512 lw) :
    tail x1 = lift2 64 512 fun t l => Real.exp (cum lw 64 l - cum lw (t + 1) l) := by
  rw [tail, sums_lift h1, last_lift h1]
  erw [lift_row, lift_sub, lift_exp]

theorem rate_lift (h4 : flat x4 = lift2 64 512 q) (h5 : flat x5 = lift2 64 512 al) :
    rate x4 x5 = lift2 64 512 fun t l => q t l * al t l := by
  rw [rate, h4, h5]
  erw [lift_mul]

theorem corB_lift (h1 : flat x1 = lift2 64 512 lw) (h4 : flat x4 = lift2 64 512 q) (h5 : flat x5 = lift2 64 512 al) :
    corB x1 x4 x5 = lift2 64 512 fun t l => q t l * al t l * Real.exp (0 - cum lw (t + 1) l) := by
  rw [corB, rate_lift h4 h5, grow_lift h1]
  erw [lift_mul]

theorem corT_lift (h1 : flat x1 = lift2 64 512 lw) (h4 : flat x4 = lift2 64 512 q) (h5 : flat x5 = lift2 64 512 al) :
    corT x1 x4 x5 = lift2 64 512 fun t l => q t l * al t l * Real.exp (cum lw 64 l - cum lw (t + 1) l) := by
  rw [corT, rate_lift h4 h5, tail_lift h1]
  erw [lift_mul]

theorem keyK_lift (h1 : flat x1 = lift2 64 512 lw) (h2 : flat x2 = lift2 64 512 k) :
    keyK x1 x2 = lift2 64 512 fun t l => k t l * Real.exp (0 - cum lw (t + 1) l) := by
  rw [keyK, h2, grow_lift h1]
  erw [lift_mul]

theorem keyT_lift (h1 : flat x1 = lift2 64 512 lw) (h2 : flat x2 = lift2 64 512 k) :
    keyT x1 x2 = lift2 64 512 fun t l => k t l * Real.exp (cum lw 64 l - cum lw (t + 1) l) := by
  rw [keyT, h2, tail_lift h1]
  erw [lift_mul]

theorem whole_lift (h1 : flat x1 = lift2 64 512 lw) : whole x1 = lift2 1 512 fun _ l => Real.exp (cum lw 64 l) := by
  rw [whole, last_lift h1]
  erw [lift_exp]

end

/-! ## One pair's lanes -/

/-- The lanes of pair `p` of a block. -/
def pairLanes (p : ℕ) (f : ℕ → ℕ → ℝ) (t l : ℕ) : ℝ := f t (128 * p + l)

theorem lanesOf_lift (p : Fin 4) (f : ℕ → ℕ → ℝ) : lanesOf (F := Ideal) p (lift2 64 512 f) = lift2 64 128 (pairLanes p f) :=
  (lift_slice (n := 64) (m := 512) (n' := 64) (m' := 128) _ 0 (128 * p.val) _).trans
    (lift2_congr fun i _ j _ => by rw [zero_add]; rfl)

theorem cum_pairLanes (p : ℕ) (lw : ℕ → ℕ → ℝ) (t l : ℕ) : cum lw t (128 * p + l) = cum (pairLanes p lw) t l := rfl

/-- The column of a pair's whole decays. -/
theorem column_lift (p : Fin 4) {x1 : Vec Ideal S1x64x512 .f32} {lw : ℕ → ℕ → ℝ} (h1 : flat x1 = lift2 64 512 lw) :
    column p x1 = lift2 128 1 fun m _ => Real.exp (cum (pairLanes p lw) 64 m) := by
  unfold column
  rw [whole_lift h1]
  refine ext2 fun m u => (shapeCast_a_a1_apply _ shapeCasts_S128_S128x1 m u).trans ?_
  refine (Ideal.multiReduction_add_single _ _ _ _ _ _).trans ?_
  have e : ∀ c : Fin 128, (select k0_pay15 (broadcastTo S128x128
      (shapeCast S1x128 (extractStridedSlice S1x128 ![0, 128 * p.val] (lift2 1 512 fun _ l => Real.exp (cum lw 64 l)) (slices_row p)) shapeCasts_S1x128_S1x128)
      broadcasts_S1x128_S128x128) (zero128 : FVec Ideal S128x128 .f32)) (ix2 m c)
      = ((if m.val = c.val then Real.exp (cum (pairLanes p lw) 64 c.val) else 0 : ℝ) : EReal) := fun c => by
    rw [shapeCast_self, zero128_lift]
    erw [lift_slice, lift_row, lift_select _ _ (fun i j => i = j) k0_pay15 diag_iff]
    rfl
  have hl : ∀ c : Fin 128, reduces_S128x128_S128.lift (ix1 m) c = ix2 m c := fun c => by
    funext a
    match a with
    | ⟨0, _⟩ => rfl
    | ⟨1, _⟩ => rfl
  refine (Finset.sum_congr rfl fun c _ => (congrArg _ (hl c)).trans (e c)).trans ?_
  refine (coe_sum_range 128 fun c => if m.val = c then Real.exp (cum (pairLanes p lw) 64 c) else 0).trans ?_
  rw [Finset.sum_ite_eq, if_pos (mem_range.2 m.isLt)]
  rfl

end Rwkv.Body
-- ==== Proof.Chunk.lean ====
/-
  One chunk of one pair of heads over the reals: on real inputs the kernel's products are the ones of `Pair`, so the
  kernel leaves the pair's next state and its outputs.
-/
module

public import proofs.«01_k».proof.Proof.Prep

@[expose] public section

noncomputable section

namespace Rwkv.Body

open Finset
open Idealize.ShloMosaic hiding ix1 ix2 ix3 eq_ix2 eq_ix3
open Idealize.ShloMosaic.ValueIdx (ix1 ix2 ix3 eq_ix2 eq_ix3)
open Cert.KernelIdeal Cert.KernelIdeal.Gen

section
variable (f g w : ℕ → ℕ → ℝ)

theorem blocks_lift : blocks (F := Ideal) (lift2 64 128 w) = lift2 128 128 (bd w) := by
  rw [blocks, zero64_lift]
  erw [lift_select _ _ (fun _ j => j < 64) k0_pay9 left_iff, lift_select _ _ (fun _ j => j < 64) k0_pay9 left_iff, lift_catR]
  rfl

theorem over_lift : over (F := Ideal) (lift2 64 128 f) (lift2 64 128 g) = lift2 128 128 (catR 64 f g) := lift_catR _ _ _

theorem over2_lift : over2 (F := Ideal) (lift2 128 128 f) (lift2 128 128 g) = lift2 256 128 (catR 128 f g) := lift_catR _ _ _

theorem byBlocks_lift : byBlocks (F := Ideal) (lift2 64 128 f) (lift2 64 128 w) = lift2 64 128 (mm 128 f (bd w)) := by
  rw [byBlocks, blocks_lift]
  erw [lift_const]
  exact lift_mm (M := 64) (K := 128) (N := 128) _ _ none

theorem both_lift : both (F := Ideal) (lift2 64 128 f) (lift2 64 128 w) = lift2 128 128 (mm 128 (catR 64 f w) (bd w)) := by
  rw [both, blocks_lift, over_lift]
  erw [lift_const]
  exact lift_mm (M := 128) (K := 128) (N := 128) _ _ none

theorem upSum_lift : upSum (F := Ideal) (lift2 64 128 f) (lift2 64 128 w) = lift2 64 128 fun t l => f t l + mm 128 f (bd w) t l := by
  rw [upSum, both_lift]
  erw [lift_slice, lift_add]
  refine lift2_congr fun t ht l _ => ?_
  simp only [zero_add]
  rw [mm_row_lt _ _ _ _ _ _ _ ht]

theorem upPow_lift : upPow (F := Ideal) (lift2 64 128 f) (lift2 64 128 w) = lift2 64 128 (mm 128 w (bd w)) := by
  rw [upPow, both_lift]
  erw [lift_slice]
  refine lift2_congr fun t ht l _ => ?_
  rw [zero_add]
  exact mm_row_add _ _ _ _ _ _ _

end

/-- The inverse of a triangular system: the product of six doubled factors. -/
theorem inverse_lift (M : ℕ → ℕ → ℝ) : inverse (F := Ideal) (lift2 64 128 M) = lift2 64 128 (doubledW M 5).1 := by
  have a0 : t0 (F := Ideal) (lift2 64 128 M) = lift2 64 128 (doubledW M 0).1 := by
    rw [t0, eye_eq]; exact lift_add _ _
  have b0 : p0 (F := Ideal) (lift2 64 128 M) = lift2 64 128 (doubledW M 0).2 := byBlocks_lift M M
  have a1 : t1 (F := Ideal) (lift2 64 128 M) = lift2 64 128 (doubledW M 1).1 := by rw [t1, a0, b0, upSum_lift]; rfl
  have b1 : p1 (F := Ideal) (lift2 64 128 M) = lift2 64 128 (doubledW M 1).2 := by rw [p1, a0, b0, upPow_lift]; rfl
  have a2 : t2 (F := Ideal) (lift2 64 128 M) = lift2 64 128 (doubledW M 2).1 := by rw [t2, a1, b1, upSum_lift]; rfl
  have b2 : p2 (F := Ideal) (lift2 64 128 M) = lift2 64 128 (doubledW M 2).2 := by rw [p2, a1, b1, upPow_lift]; rfl
  have a3 : t3 (F := Ideal) (lift2 64 128 M) = lift2 64 128 (doubledW M 3).1 := by rw [t3, a2, b2, upSum_lift]; rfl
  have b3 : p3 (F := Ideal) (lift2 64 128 M) = lift2 64 128 (doubledW M 3).2 := by rw [p3, a2, b2, upPow_lift]; rfl
  have a4 : t4 (F := Ideal) (lift2 64 128 M) = lift2 64 128 (doubledW M 4).1 := by rw [t4, a3, b3, upSum_lift]; rfl
  have b4 : p4 (F := Ideal) (lift2 64 128 M) = lift2 64 128 (doubledW M 4).2 := by rw [p4, a3, b3, upPow_lift]; rfl
  rw [inverse, a4, b4, byBlocks_lift]
  exact lift_add _ _

/-! ## The chunk -/

section
variable (o : Ops) (P : ℕ → ℕ → ℝ)

theorem gram_lift : gram (F := Ideal) (lift2 64 128 o.A) (lift2 64 128 o.R) (lift2 64 128 o.B) (lift2 64 128 o.K) = lift2 128 256 o.gram := by
  rw [gram, blocks_lift, blocks_lift, over_lift, over2_lift]
  erw [lift_const]
  exact lift_mmT (M := 128) (K := 128) (N := 256) _ _ none

theorem aab_lift : aab (F := Ideal) (lift2 128 256 o.gram) = lift2 64 128 o.aab := by
  rw [aab, zero64_lift]
  erw [lift_slice, lift_select _ _ (fun i j => j % 64 < i) k0_pay11 strict_iff]
  refine lift2_congr fun t _ l _ => ?_
  simp only [zero_add, Ops.aab]

theorem aak_lift : aak (F := Ideal) (lift2 128 256 o.gram) = lift2 64 128 o.aak := by
  rw [aak, zero64_lift]
  erw [lift_slice, lift_select _ _ (fun i j => j % 64 < i) k0_pay11 strict_iff]
  refine lift2_congr fun t _ l _ => ?_
  simp only [zero_add, Ops.aak]

theorem arb_lift : arb (F := Ideal) (lift2 128 256 o.gram) = lift2 64 128 o.arb := by
  rw [arb, zero64_lift]
  erw [lift_slice, lift_select _ _ (fun i j => j % 64 ≤ i) k0_pay12 incl_iff]
  refine lift2_congr fun t _ l _ => ?_
  simp only [zero_add, Ops.arb]

theorem ark_lift : ark (F := Ideal) (lift2 128 256 o.gram) = lift2 64 128 o.ark := by
  rw [ark, zero64_lift]
  erw [lift_slice, lift_select _ _ (fun i j => j % 64 ≤ i) k0_pay12 incl_iff]
  rfl

theorem rhs_lift : rhs (F := Ideal) (lift2 64 128 o.A) (lift2 64 128 o.aak) (lift2 64 128 o.V) (lift2 128 128 P)
    = lift2 64 128 (o.x P) := by
  rw [rhs, blocks_lift, over2_lift]
  erw [lift_const, lift_catC]
  exact lift_mm (M := 64) (K := 256) (N := 128) _ _ none

theorem fixes_lift : fixes (F := Ideal) (lift2 64 128 o.A) (lift2 64 128 o.R) (lift2 64 128 o.B) (lift2 64 128 o.K)
    (lift2 64 128 o.V) (lift2 128 128 P) = lift2 64 128 (o.u P) := by
  rw [fixes, gram_lift, aab_lift, aak_lift, rhs_lift, inverse_lift, byBlocks_lift]
  rfl

/-- A column against every lane. -/
theorem lift_column (w : ℕ → ℝ) : broadcastTo S128x128 (lift2 128 1 fun m _ => w m) broadcasts_S128x1_S128x128
    = lift2 128 128 fun m _ => w m := by
  refine ext2 fun a b => ?_
  refine broadcastTo_apply _ _ (ix2 a b) (ix2 a (0 : Fin 1)) fun ax => ?_
  match ax with
  | ⟨0, _⟩ => rfl
  | ⟨1, _⟩ => rfl

/-- Columns by columns. -/
theorem lift_tmm (f g : ℕ → ℕ → ℝ) :
    matmul (F := Ideal) (φ₁ := .bf16) (φ₂ := .bf16) dot_S128x128_S128x128_S128x128_0_0_1_1_n_n none (lift2 128 128 f) (lift2 128 128 g)
      (lift2 128 128 fun _ _ => 0) = lift2 128 128 (tmm 128 f g) := by
  refine ext2 fun a b => ?_
  have e : matmul (F := Ideal) (φ₁ := .bf16) (φ₂ := .bf16) dot_S128x128_S128x128_S128x128_0_0_1_1_n_n none (lift2 128 128 f) (lift2 128 128 g)
      (lift2 128 128 fun _ _ => 0) (ix2 a b) = lift2 128 128 (fun _ _ => 0) (ix2 a b)
        + ∑ k : Fin 128, lift2 128 128 f (ix2 k a) * lift2 128 128 g (ix2 k b) := by
    simp only [pointwise]
    rfl
  refine e.trans ?_
  simp only [lift2_ix2, EReal.coe_zero, zero_add, ← EReal.coe_mul]
  exact coe_sum_range 128 fun k => f k a.val * g k b.val

theorem advance_lift : advance (F := Ideal) (lift2 64 128 o.Bh) (lift2 64 128 o.Kh) (lift2 64 128 o.V) (lift2 64 128 (o.u P))
    (lift2 128 1 fun m _ => o.W m) (lift2 128 128 P) = lift2 128 128 (o.next P) := by
  rw [advance, over_lift, over_lift, zero128_lift, lift_column]
  erw [lift_const, lift_tmm, lift_select _ _ (fun i j => i / 64 = j / 64) k0_pay14 same_iff, lift_mul, lift_add]
  rfl

theorem outputs_lift : outputs (F := Ideal) (lift2 64 128 o.R) (lift2 64 128 o.arb) (lift2 64 128 o.ark) (lift2 64 128 o.V)
    (lift2 64 128 (o.u P)) (lift2 128 128 P) = lift2 64 128 (o.y P) := by
  rw [outputs, blocks_lift, blocks_lift]
  erw [lift_const, lift_catC3, lift_catR3]
  exact lift_mm (M := 64) (K := 384) (N := 128) _ _ none

end

section
variable (p : Fin 4) {x0 x1 x2 x3 x4 x5 : Vec Ideal S1x64x512 .f32} {r lw k v q al : ℕ → ℕ → ℝ} (P : ℕ → ℕ → ℝ)
variable (h0 : flat x0 = lift2 64 512 r) (h1 : flat x1 = lift2 64 512 lw) (h2 : flat x2 = lift2 64 512 k)
  (h3 : flat x3 = lift2 64 512 v) (h4 : flat x4 = lift2 64 512 q) (h5 : flat x5 = lift2 64 512 al)
include h0 h1 h2 h3 h4 h5

/-- The operands of pair `p`. -/
abbrev opsOf (p : ℕ) (r lw k v q al : ℕ → ℕ → ℝ) : Ops :=
  mkOps (pairLanes p r) (pairLanes p lw) (pairLanes p k) (pairLanes p v) (pairLanes p q) (pairLanes p al)

theorem fixesOf_lift : fixesOf p x0 x1 x2 x3 x4 x5 (lift2 128 128 P) = lift2 64 128 ((opsOf p r lw k v q al).u P) := by
  rw [fixesOf, dirA_lift h1 h4, dirR_lift h0 h1, corB_lift h1 h4 h5, keyK_lift h1 h2, h3]
  simp only [lanesOf_lift]
  exact fixes_lift (opsOf p r lw k v q al) P

theorem stateOf_lift : stateOf p x0 x1 x2 x3 x4 x5 (lift2 128 128 P) = lift2 128 128 ((opsOf p r lw k v q al).next P) := by
  rw [stateOf, fixesOf_lift p P h0 h1 h2 h3 h4 h5, corT_lift h1 h4 h5, keyT_lift h1 h2, column_lift p h1, h3]
  simp only [lanesOf_lift]
  exact advance_lift (opsOf p r lw k v q al) P

omit h3 in
theorem gramOf_lift : gramOf p x0 x1 x2 x4 x5 = lift2 128 256 (opsOf p r lw k v q al).gram := by
  rw [gramOf, dirA_lift h1 h4, dirR_lift h0 h1, corB_lift h1 h4 h5, keyK_lift h1 h2]
  simp only [lanesOf_lift]
  exact gram_lift (opsOf p r lw k v q al)

theorem outputOf_lift : outputOf p x0 x1 x2 x3 x4 x5 (lift2 128 128 P) = lift2 64 128 ((opsOf p r lw k v q al).y P) := by
  rw [outputOf, fixesOf_lift p P h0 h1 h2 h3 h4 h5, gramOf_lift (v := v) p h0 h1 h2 h4 h5, dirR_lift h0 h1, h3, arb_lift, ark_lift]
  simp only [lanesOf_lift]
  exact outputs_lift (opsOf p r lw k v q al) P

end

end Rwkv.Body
-- ==== Proof.Tokens.lean ====
/-
  The recurrence over the whole sequence: the state of every head of every batch element before every token, the
  output at every token, and how one chunk of the kernel advances a pair of heads.
-/
module

public import proofs.«01_k».proof.Proof.Chunk

@[expose] public section

noncomputable section

namespace Rwkv

open Finset
open Rwkv.Body (pairLanes opsOf)

/-- The six inputs by batch element, token and lane: receptances, log decays, keys, values, directions, rates. -/
structure Inputs where
  r : ℕ → ℕ → ℕ → ℝ
  lw : ℕ → ℕ → ℕ → ℝ
  k : ℕ → ℕ → ℕ → ℝ
  v : ℕ → ℕ → ℕ → ℝ
  q : ℕ → ℕ → ℕ → ℝ
  al : ℕ → ℕ → ℕ → ℝ

/-- The tokens from `T` on. -/
def shift (T : ℕ) (f : ℕ → ℕ → ℝ) (t l : ℕ) : ℝ := f (T + t) l

namespace Inputs

variable (x : Inputs)

/-- The state of head `H` of batch element `b` before token `T`. -/
def state (b H T : ℕ) : ℕ → ℕ → ℝ :=
  run (fun _ _ => 0) (lanes H (x.lw b)) (lanes H (x.k b)) (lanes H (x.v b)) (lanes H (negK (x.q b))) (lanes H (rateK (x.q b) (x.al b))) T

/-- The two states of pair `p`, on the diagonal. -/
def pair (b p T m l : ℕ) : ℝ := pairState (fun h => x.state b (2 * p + h) T) m l

/-- The output at token `T`, lane `l`. -/
def out (b T l : ℕ) : ℝ := ∑ j ∈ range 64, x.state b (l / 64) (T + 1) (l % 64) j * x.r b T (64 * (l / 64) + j)

theorem lanes_pair (p h T : ℕ) (f : ℕ → ℕ → ℝ) : lanes h (pairLanes p (shift T f)) = fun t => lanes (2 * p + h) f (T + t) := by
  funext t j
  show f (T + t) (128 * p + (64 * h + j)) = f (T + t) (64 * (2 * p + h) + j)
  congr 1
  ring

theorem headRun_eq (b p T h u : ℕ) :
    headRun (fun h => x.state b (2 * p + h) T) (pairLanes p (shift T (x.lw b))) (pairLanes p (shift T (x.k b))) (pairLanes p (shift T (x.v b)))
      (pairLanes p (shift T (x.q b))) (pairLanes p (shift T (x.al b))) h u = x.state b (2 * p + h) (T + u) := by
  have e1 := lanes_pair p h T (negK (x.q b))
  have e2 := lanes_pair p h T (rateK (x.q b) (x.al b))
  rw [state, run_add]
  unfold headRun
  rw [lanes_pair, lanes_pair, lanes_pair]
  refine Eq.trans (congrArg₂ (fun a b => run _ _ _ _ a b u) ?_ ?_) rfl
  · exact e1
  · exact e2

/-- One chunk takes a pair's states 64 tokens on. -/
theorem pair_next (b p T m l : ℕ) (hm : m < 128) (hl : l < 128) :
    (opsOf p (shift T (x.r b)) (shift T (x.lw b)) (shift T (x.k b)) (shift T (x.v b)) (shift T (x.q b)) (shift T (x.al b))).next
      (x.pair b p T) m l = x.pair b p (T + 64) m l := by
  refine (next_lane (fun h => x.state b (2 * p + h) T) _ _ _ _ _ _ (x.pair b p T) (fun _ _ _ _ => rfl) m l hm hl).trans ?_
  unfold pair
  congr 1
  funext h
  exact x.headRun_eq b p T h 64

/-- One chunk's outputs are the recurrence's. -/
theorem pair_out (b p T t l : ℕ) (ht : t < 64) (hl : l < 128) :
    (opsOf p (shift T (x.r b)) (shift T (x.lw b)) (shift T (x.k b)) (shift T (x.v b)) (shift T (x.q b)) (shift T (x.al b))).y
      (x.pair b p T) t l = x.out b (T + t) (128 * p + l) := by
  refine (y_lane (fun h => x.state b (2 * p + h) T) _ _ _ _ _ _ (x.pair b p T) (fun _ _ _ _ => rfl) t l ht hl).trans ?_
  unfold out
  have e1 : (128 * p + l) / 64 = 2 * p + l / 64 := by omega
  have e2 : (128 * p + l) % 64 = l % 64 := by omega
  rw [e1, e2]
  refine sum_congr rfl fun j _ => ?_
  refine congrArg₂ (· * ·) (congrFun (congrFun (x.headRun_eq b p T (l / 64) (t + 1)) _) _) ?_
  show x.r b (T + t) (128 * p + (64 * (l / 64) + j)) = x.r b (T + t) (64 * (2 * p + l / 64) + j)
  congr 1
  ring

theorem pair_zero (b p m l : ℕ) : x.pair b p 0 m l = 0 := by
  simp [pair, pairState, state, run]

end Inputs

namespace Body

open Idealize.ShloMosaic Cert.KernelIdeal Cert.KernelIdeal.Gen

section
variable (x : Inputs) (b p : ℕ) (T : ℕ) (r lw k v q al : ℕ → Vec Ideal S1x64x512 .f32)

/-- The blocks hold the inputs of batch element `b` from token `T` on, 64 tokens each. -/
structure Holds : Prop where
  r : ∀ g < 8, flat (r g) = lift2 64 512 (shift (T + 64 * g) (x.r b))
  lw : ∀ g < 8, flat (lw g) = lift2 64 512 (shift (T + 64 * g) (x.lw b))
  k : ∀ g < 8, flat (k g) = lift2 64 512 (shift (T + 64 * g) (x.k b))
  v : ∀ g < 8, flat (v g) = lift2 64 512 (shift (T + 64 * g) (x.v b))
  q : ∀ g < 8, flat (q g) = lift2 64 512 (shift (T + 64 * g) (x.q b))
  al : ∀ g < 8, flat (al g) = lift2 64 512 (shift (T + 64 * g) (x.al b))

variable {x b T r lw k v q al} (h : Holds x b T r lw k v q al) (p : Fin 4)
include h

/-- The state of a pair after `g` chunks of a point. -/
theorem stateAfter_eq (g : ℕ) (hg : g ≤ 8) :
    stateAfter p r lw k v q al (lift2 128 128 (x.pair b p T)) g = lift2 128 128 (x.pair b p (T + 64 * g)) := by
  induction g with
  | zero => rfl
  | succ g ih =>
    have hg' : g < 8 := hg
    refine Eq.trans (congrArg (stateOf p (r g) (lw g) (k g) (v g) (q g) (al g)) (ih hg'.le)) ?_
    rw [stateOf_lift p _ (h.r g hg') (h.lw g hg') (h.k g hg') (h.v g hg') (h.q g hg') (h.al g hg')]
    exact lift2_congr fun m hm l hl => x.pair_next b p _ m l hm hl

/-- A pair's outputs of chunk `g` of a point. -/
theorem outputOf_eq (g : ℕ) (hg : g < 8) :
    outputOf p (r g) (lw g) (k g) (v g) (q g) (al g) (stateAfter p r lw k v q al (lift2 128 128 (x.pair b p T)) g)
      = lift2 64 128 fun t l => x.out b (T + 64 * g + t) (128 * p + l) := by
  rw [stateAfter_eq h p g hg.le, outputOf_lift p _ (h.r g hg) (h.lw g hg) (h.k g hg) (h.v g hg) (h.q g hg) (h.al g hg)]
  exact lift2_congr fun t ht l hl => x.pair_out b p _ t l ht hl

end

end Body

end Rwkv
-- ==== Proof.Fold.lean ====
/-
  The kernel over its whole grid: after every point the scratch holds the recurrence's states, and the point's output
  block the recurrence's outputs.
-/
module

public import proofs.«01_k».proof.Proof.Read
public import proofs.«01_k».proof.Proof.Tokens
public import proofs.«01_k».proof.Proof.Gen.KernelIdeal.Value

@[expose] public section

noncomputable section

namespace Rwkv.Body

open Idealize.ShloMosaic hiding ix1 ix2 ix3 ix4 eq_ix2 eq_ix3
open Idealize.ShloMosaic.ValueIdx (ix1 ix2 ix3 ix4 eq_ix2 eq_ix3)
open Idealize.ShloMosaic.TcCoe
open Cert.KernelIdeal Cert.KernelIdeal.Gen

/-! ## One point -/

section
variable (x : Inputs) (T : ℕ) (r lw k v q al : ℕ → ℕ → Vec Ideal S1x64x512 .f32) (P : ℕ → FVec Ideal S128x128 .f32)
variable (hH : ∀ b < 2, Holds x b T (r b) (lw b) (k b) (v b) (q b) (al b))
  (hP : ∀ n, P (n % 8) = lift2 128 128 (x.pair (n / 4 % 2) (pairOf n) T))
include hH hP

theorem point_states (V : View sig .tc .vmem S2x4x128x128 .f32) (f : V.ty.Contents (Elt Ideal))
    (base : List (View.Piece (Elt Ideal) S2x4x128x128 .f32)) (y : S2x4x128x128.Idx) :
    V.read (Elt Ideal) (V.writes (Elt Ideal) f (statePieces r lw k v q al P base 8)) y
      = ((x.pair (y 0).val (y 1).val (T + 512) (y 2).val (y 3).val : ℝ) : EReal) := by
  have h0 : (y 0).val < 2 := (y 0).isLt
  have h1 : (y 1).val < 4 := (y 1).isLt
  have e0 : slotOf y / 4 % 2 = (y 0).val := by unfold slotOf; omega
  have e1 : (pairOf (slotOf y)).val = (y 1).val := by show slotOf y % 4 = _; unfold slotOf; omega
  refine (read_statePieces r lw k v q al P V f base y 8 le_rfl (by unfold slotOf; omega)).trans ?_
  unfold pairAfter
  rw [hP, stateAfter_eq (hH _ (Nat.mod_lt _ (by decide))) (pairOf (slotOf y)) 8 le_rfl, e0, e1]
  rfl

theorem point_out (V : View sig .tc .vmem S2x512x512 .f32) (f : V.ty.Contents (Elt Ideal)) (y : S2x512x512.Idx) :
    V.read (Elt Ideal) (V.writes (Elt Ideal) f (outPieces r lw k v q al P 64)) y
      = ((x.out (y 0).val (T + (y 1).val) (y 2).val : ℝ) : EReal) := by
  have h0 : (y 0).val < 2 := (y 0).isLt
  have h1 : (y 1).val < 512 := (y 1).isLt
  have h2 : (y 2).val < 512 := (y 2).isLt
  have e0 : pieceOf y / 4 % 2 = (y 0).val := by unfold pieceOf; omega
  have e1 : pieceOf y / 8 % 8 = (y 1).val / 64 := by unfold pieceOf; omega
  have e2 : (pairOf (pieceOf y)).val = (y 2).val / 128 := by show pieceOf y % 4 = _; unfold pieceOf; omega
  refine (read_outPieces r lw k v q al P V f y 64 le_rfl (by unfold pieceOf; omega)).trans ?_
  unfold outBlock pairAfter
  rw [hP, outputOf_eq (hH _ (Nat.mod_lt _ (by decide))) (pairOf (pieceOf y)) _ (Nat.mod_lt _ (by decide)), e0, e1, e2]
  show ((x.out (y 0).val (T + 64 * ((y 1).val / 64) + (y 1).val % 64) (128 * ((y 2).val / 128) + (y 2).val % 128) : ℝ) : EReal) = _
  rw [Nat.add_assoc, Nat.div_add_mod, Nat.div_add_mod]

end

/-! ## The windows -/

theorem at_congr (f : ℕ → ℕ → ℕ → ℝ) {a a' b b' c c' : ℕ} (ha : a = a') (hb : b = b') (hc : c = c') : f a b c = f a' b' c' := by
  rw [ha, hb, hc]

section
variable (m : (ℓ : Loc nD τ sig) → Buf (Elt Ideal) ℓ) (c : Dev nD)

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)

variable {m c} {f : ℕ → ℕ → ℕ → ℝ} (t : Fin cfg0.N) (b : Fin 2) (s : Fin 512) (l : Fin 512)

theorem iblk0 (h : (m ((c : Thread nD τ).loc main_arg0) : S2x8192x512.Idx → EReal) = lift3 2 8192 512 f) :
    (iblk m c 0 t : Vec Ideal S2x512x512 .f32) (ix3 b s l) = ((f b.val (512 * t.val + s.val) l.val : ℝ) : EReal) := by
  obtain ⟨e0, e1, e2⟩ := index0 t
  unfold iblk
  rw [View.read_apply]
  refine (congrFun h _).trans (congrArg Real.toEReal (at_congr f ?_ ?_ ?_))
  · show win0_0.index t 0 * 2 + 1 * b.val = b.val; omega
  · show win0_0.index t 1 * 512 + 1 * s.val = 512 * t.val + s.val; omega
  · show win0_0.index t 2 * 512 + 1 * l.val = l.val; omega

theorem iblk1 (h : (m ((c : Thread nD τ).loc main_arg1) : S2x8192x512.Idx → EReal) = lift3 2 8192 512 f) :
    (iblk m c 1 t : Vec Ideal S2x512x512 .f32) (ix3 b s l) = ((f b.val (512 * t.val + s.val) l.val : ℝ) : EReal) := by
  obtain ⟨e0, e1, e2⟩ := index1 t
  unfold iblk
  rw [View.read_apply]
  refine (congrFun h _).trans (congrArg Real.toEReal (at_congr f ?_ ?_ ?_))
  · show win0_1.index t 0 * 2 + 1 * b.val = b.val; omega
  · show win0_1.index t 1 * 512 + 1 * s.val = 512 * t.val + s.val; omega
  · show win0_1.index t 2 * 512 + 1 * l.val = l.val; omega

theorem iblk2 (h : (m ((c : Thread nD τ).loc main_arg2) : S2x8192x512.Idx → EReal) = lift3 2 8192 512 f) :
    (iblk m c 2 t : Vec Ideal S2x512x512 .f32) (ix3 b s l) = ((f b.val (512 * t.val + s.val) l.val : ℝ) : EReal) := by
  obtain ⟨e0, e1, e2⟩ := index2 t
  unfold iblk
  rw [View.read_apply]
  refine (congrFun h _).trans (congrArg Real.toEReal (at_congr f ?_ ?_ ?_))
  · show win0_2.index t 0 * 2 + 1 * b.val = b.val; omega
  · show win0_2.index t 1 * 512 + 1 * s.val = 512 * t.val + s.val; omega
  · show win0_2.index t 2 * 512 + 1 * l.val = l.val; omega

theorem iblk3 (h : (m ((c : Thread nD τ).loc main_arg3) : S2x8192x512.Idx → EReal) = lift3 2 8192 512 f) :
    (iblk m c 3 t : Vec Ideal S2x512x512 .f32) (ix3 b s l) = ((f b.val (512 * t.val + s.val) l.val : ℝ) : EReal) := by
  obtain ⟨e0, e1, e2⟩ := index3 t
  unfold iblk
  rw [View.read_apply]
  refine (congrFun h _).trans (congrArg Real.toEReal (at_congr f ?_ ?_ ?_))
  · show win0_3.index t 0 * 2 + 1 * b.val = b.val; omega
  · show win0_3.index t 1 * 512 + 1 * s.val = 512 * t.val + s.val; omega
  · show win0_3.index t 2 * 512 + 1 * l.val = l.val; omega

theorem iblk4 (h : (m ((c : Thread nD τ).loc main_arg4) : S2x8192x512.Idx → EReal) = lift3 2 8192 512 f) :
    (iblk m c 4 t : Vec Ideal S2x512x512 .f32) (ix3 b s l) = ((f b.val (512 * t.val + s.val) l.val : ℝ) : EReal) := by
  obtain ⟨e0, e1, e2⟩ := index4 t
  unfold iblk
  rw [View.read_apply]
  refine (congrFun h _).trans (congrArg Real.toEReal (at_congr f ?_ ?_ ?_))
  · show win0_4.index t 0 * 2 + 1 * b.val = b.val; omega
  · show win0_4.index t 1 * 512 + 1 * s.val = 512 * t.val + s.val; omega
  · show win0_4.index t 2 * 512 + 1 * l.val = l.val; omega

theorem iblk5 (h : (m ((c : Thread nD τ).loc main_arg5) : S2x8192x512.Idx → EReal) = lift3 2 8192 512 f) :
    (iblk m c 5 t : Vec Ideal S2x512x512 .f32) (ix3 b s l) = ((f b.val (512 * t.val + s.val) l.val : ℝ) : EReal) := by
  obtain ⟨e0, e1, e2⟩ := index5 t
  unfold iblk
  rw [View.read_apply]
  refine (congrFun h _).trans (congrArg Real.toEReal (at_congr f ?_ ?_ ?_))
  · show win0_5.index t 0 * 2 + 1 * b.val = b.val; omega
  · show win0_5.index t 1 * 512 + 1 * s.val = 512 * t.val + s.val; omega
  · show win0_5.index t 2 * 512 + 1 * l.val = l.val; omega

end

section
variable (m : (ℓ : Loc nD τ sig) → Buf (Elt Ideal) ℓ) (c : Dev nD) (x : Inputs)

/-- The argument arrays hold the inputs. -/
structure Args : Prop where
  r : (m ((c : Thread nD τ).loc main_arg0) : S2x8192x512.Idx → EReal) = lift3 2 8192 512 x.r
  lw : (m ((c : Thread nD τ).loc main_arg1) : S2x8192x512.Idx → EReal) = lift3 2 8192 512 x.lw
  k : (m ((c : Thread nD τ).loc main_arg2) : S2x8192x512.Idx → EReal) = lift3 2 8192 512 x.k
  v : (m ((c : Thread nD τ).loc main_arg3) : S2x8192x512.Idx → EReal) = lift3 2 8192 512 x.v
  q : (m ((c : Thread nD τ).loc main_arg4) : S2x8192x512.Idx → EReal) = lift3 2 8192 512 x.q
  al : (m ((c : Thread nD τ).loc main_arg5) : S2x8192x512.Idx → EReal) = lift3 2 8192 512 x.al

variable {m c x} (h : Args m c x)

theorem flat_holds (arg : Memref sig .tc .vmem S2x512x512 .f32) (harg : arg.IsWhole) (X : Vec Ideal S2x512x512 .f32) (f : ℕ → ℕ → ℕ → ℝ)
    (T : ℕ) (hX : ∀ (b : Fin 2) (s l : Fin 512), X (ix3 b s l) = ((f b.val (T + s.val) l.val : ℝ) : EReal)) (b : ℕ) (hb : b < 2)
    (g : ℕ) (hg : g < 8) : flat (blockAt arg harg X b g) = lift2 64 512 (shift (T + 64 * g) (f b)) := by
  refine ext2 fun i j => (flat_blockAt arg harg X b g i j).trans ((hX _ _ _).trans ?_)
  show ((f (b % 2) (T + (64 * (g % 8) + i.val)) j.val : ℝ) : EReal) = ((f b (T + 64 * g + i.val) j.val : ℝ) : EReal)
  rw [Nat.mod_eq_of_lt hb, Nat.mod_eq_of_lt hg, Nat.add_assoc]

include h

theorem holds (t : Fin cfg0.N) (b : ℕ) (hb : b < 2) :
    Holds x b (512 * t.val) (blockAt (ms0_0 t) (hs0_0 t) (iblk m c 0 t) b) (blockAt (ms0_1 t) (hs0_1 t) (iblk m c 1 t) b)
      (blockAt (ms0_2 t) (hs0_2 t) (iblk m c 2 t) b) (blockAt (ms0_3 t) (hs0_3 t) (iblk m c 3 t) b)
      (blockAt (ms0_4 t) (hs0_4 t) (iblk m c 4 t) b) (blockAt (ms0_5 t) (hs0_5 t) (iblk m c 5 t) b) where
  r := flat_holds _ _ _ x.r _ (fun b s l => iblk0 t b s l h.r) b hb
  lw := flat_holds _ _ _ x.lw _ (fun b s l => iblk1 t b s l h.lw) b hb
  k := flat_holds _ _ _ x.k _ (fun b s l => iblk2 t b s l h.k) b hb
  v := flat_holds _ _ _ x.v _ (fun b s l => iblk3 t b s l h.v) b hb
  q := flat_holds _ _ _ x.q _ (fun b s l => iblk4 t b s l h.q) b hb
  al := flat_holds _ _ _ x.al _ (fun b s l => iblk5 t b s l h.al) b hb

/-- After every point: the states 512 tokens on, and the point's outputs. -/
theorem outsAt (n : ℕ) (hn : n < cfg0.N) :
    (∀ y, (outsAt0 m c n hn).1 y = ((x.out (y 0).val (512 * n + (y 1).val) (y 2).val : ℝ) : EReal))
    ∧ ∀ y, (outsAt0 m c n hn).2 y = ((x.pair (y 0).val (y 1).val (512 * n + 512) (y 2).val (y 3).val : ℝ) : EReal) := by
  have hN : n < 16 := lt_of_lt_of_eq hn N_0
  induction n with
  | zero =>
    have hP : ∀ k, startA (F := Ideal) scM0_0 (k % 8) = lift2 128 128 (x.pair (k / 4 % 2) (pairOf k) (512 * 0)) := fun k => by
      rw [startA_eq]; exact lift2_congr fun i _ j _ => (x.pair_zero _ _ _ _).symm
    rw [outsAt0_A m c ⟨0, hn⟩ rfl]
    refine ⟨fun y => ?_, fun y => ?_⟩
    · dsimp only
      unfold out0_A_6
      rw [outA]
      exact point_out x (512 * 0) _ _ _ _ _ _ _ (holds h ⟨0, hn⟩) hP _ _ y
    · dsimp only
      unfold sout0_A_0
      rw [scratchA]
      exact point_states x (512 * 0) _ _ _ _ _ _ _ (holds h ⟨0, hn⟩) hP _ _ _ y
  | succ n ih =>
    obtain ⟨-, ih⟩ := ih (Nat.lt_of_succ_lt hn) (by omega)
    have hP : ∀ k, startB (F := Ideal) scM0_0 (Memref.isWhole_whole _) (outsAt0 m c n (Nat.lt_of_succ_lt hn)).2 (k % 8)
        = lift2 128 128 (x.pair (k / 4 % 2) (pairOf k) (512 * (n + 1))) := fun k => by
      refine ext2 fun i j => (startB_apply _ _ _ _ i j).trans ((ih _).trans ?_)
      show ((x.pair (k % 8 / 4 % 2) (k % 8 % 4) (512 * n + 512) i.val j.val : ℝ) : EReal) = ((x.pair (k / 4 % 2) (k % 4) (512 * (n + 1)) i.val j.val : ℝ) : EReal)
      rw [show k % 8 / 4 % 2 = k / 4 % 2 by omega, show k % 8 % 4 = k % 4 by omega, Nat.mul_succ]
    have h0 : ¬ (n + 1) % 16 = 0 := by omega
    rw [outsAt0_B m c ⟨n + 1, hn⟩ h0]
    refine ⟨fun y => ?_, fun y => ?_⟩
    · dsimp only
      unfold out0_B_6
      rw [outB]
      exact point_out x (512 * (n + 1)) _ _ _ _ _ _ _ (holds h ⟨n + 1, hn⟩) hP _ _ y
    · dsimp only
      unfold sout0_B_0
      rw [scratchB]
      exact point_states x (512 * (n + 1)) _ _ _ _ _ _ _ (holds h ⟨n + 1, hn⟩) hP _ _ _ y

/-- The kernel's result: the recurrence's output at every token of every batch element. -/
theorem kernel_eq : (Cert.KernelIdeal.Value.G6 m c : S2x8192x512.Idx → EReal) = lift3 2 8192 512 x.out := by
  funext i
  have h0 : (i 0).val < 2 := (i 0).isLt
  have h1 : (i 1).val < 8192 := (i 1).isLt
  have h2 : (i 2).val < 512 := (i 2).isLt
  have hp : Cert.KernelIdeal.Value.pt6Of i = (i 1).val / 512 := by
    show 16 * ((i 0).val / 2 - 0) + 1 * ((i 1).val / 512 - 0) + 1 * ((i 2).val / 512 - 0) = _
    omega
  have hlt : Cert.KernelIdeal.Value.pt6Of i < cfg0.N := by rw [hp]; exact lt_of_lt_of_eq (by omega) N_0.symm
  refine Eq.trans (dif_pos hlt) ?_
  rw [← Cert.KernelIdeal.Value.outsAt0_sweep m c _ hlt, (outsAt h _ hlt).1]
  show ((x.out ((i 0).val % 2) (512 * Cert.KernelIdeal.Value.pt6Of i + (i 1).val % 512) ((i 2).val % 512) : ℝ) : EReal)
    = ((x.out (i 0).val (i 1).val (i 2).val : ℝ) : EReal)
  rw [hp, Nat.div_add_mod, Nat.mod_eq_of_lt h0, Nat.mod_eq_of_lt h2]

end

end Rwkv.Body
-- ==== Proof.Loop.lean ====
/-
  One token of the reference's scan: the operations of its body on arrays whose every element is a real.
-/
module

public import proofs.«01_k».proof.Proof.Tokens
public import proofs.«01_k».proof.Proof.Gen.ReferenceIdeal.Run
public import Idealize.ShloMosaic.Lib.DynamicIndex

@[expose] public section

noncomputable section

namespace Rwkv

open Finset
open Idealize.ShloMosaic hiding ix1 ix2 ix3 ix4 eq_ix2 eq_ix3
open Idealize.ShloMosaic.ValueIdx (ix1 ix2 ix3 ix4 eq_ix2 eq_ix3)

/-- The array of reals `f`, of four axes. -/
def lift4 (n m p q : ℕ) (f : ℕ → ℕ → ℕ → ℕ → ℝ) : (⟨4, ![n, m, p, q]⟩ : Shape).Idx → EReal :=
  fun i => ((f (i 0).val (i 1).val (i 2).val (i 3).val : ℝ) : EReal)

theorem lift4_congr {n m p q : ℕ} {f g : ℕ → ℕ → ℕ → ℕ → ℝ}
    (h : ∀ a < n, ∀ b < m, ∀ c < p, ∀ d < q, f a b c d = g a b c d) : lift4 n m p q f = lift4 n m p q g :=
  funext fun i => congrArg Real.toEReal (h _ (i 0).isLt _ (i 1).isLt _ (i 2).isLt _ (i 3).isLt)

theorem lift4_mul {n m p q : ℕ} (f g : ℕ → ℕ → ℕ → ℕ → ℝ) :
    mulf (F := Ideal) (φ := .f32) (s := ⟨4, ![n, m, p, q]⟩) (lift4 n m p q f) (lift4 n m p q g)
      = lift4 n m p q fun a b c d => f a b c d * g a b c d := by
  funext i; exact (EReal.coe_mul _ _).symm

theorem lift4_add {n m p q : ℕ} (f g : ℕ → ℕ → ℕ → ℕ → ℝ) :
    addf (F := Ideal) (φ := .f32) (s := ⟨4, ![n, m, p, q]⟩) (lift4 n m p q f) (lift4 n m p q g)
      = lift4 n m p q fun a b c d => f a b c d + g a b c d := by
  funext i; exact (EReal.coe_add _ _).symm

end Rwkv

namespace Rwkv.Loop

open Finset
open Idealize.ShloMosaic hiding ix1 ix2 ix3 ix4 eq_ix2 eq_ix3
open Idealize.ShloMosaic.ValueIdx (ix1 ix2 ix3 ix4 eq_ix2 eq_ix3)
open Cert.ReferenceIdeal

/-- The counter at token `T`. -/
def ctr (T : ℕ) : IVec S_ 32 := fun _ => BitVec.ofNat 32 T

/-- The start of token `T`'s row. -/
theorem start_eq (T : ℕ) (hT : T < 8192) (h) : ∀ a : Fin 4,
    (((![ctr T, constantI S_ 32 0#32, constantI S_ 32 0#32, constantI S_ 32 0#32] : Fin 4 → IVec S_ 32) a (Shape.Idx.first h)).toInt)
      = ((![T, 0, 0, 0] : Fin 4 → ℕ) a : Int) := by
  intro a
  fin_cases a
  · exact toInt_ofNat_of_lt (by omega)
  · rfl
  · rfl
  · rfl

/-- Token `T`'s row of a carried input. -/
theorem row_lift (T : ℕ) (hT : T < 8192) (f : ℕ → ℕ → ℕ → ℕ → ℝ) (h hs hc) :
    shapeCast S2x8x64 (Host.dynamicSlice S1x2x8x64 (lift4 8192 2 8 64 f : S8192x2x8x64.Idx → EReal)
      (fun k => (((![ctr T, constantI S_ 32 0#32, constantI S_ 32 0#32, constantI S_ 32 0#32] : Fin 4 → IVec S_ 32)) k (Shape.Idx.first h)).toInt) hs) hc
      = lift3 2 8 64 (f T) := by
  rw [Host.dynamicSlice_eq_extractStridedSlice S1x2x8x64 _ _ ![T, 0, 0, 0] hs
    ⟨rfl, fun a => by fin_cases a <;> simp <;> omega⟩ (start_eq T hT h)]
  funext j
  have h0 : (j 0).val < 2 := (j 0).isLt
  refine (shapeCast_apply _ hc j (ix4 (0 : Fin 1) (j 0 : Fin 2) (j 1 : Fin 8) (j 2 : Fin 64)) ?_).trans ?_
  · rw [Shape.rowMajor_val_four, Shape.rowMajor_val_three]
    show ((0 * 2 + (j 0).val) * 8 + (j 1).val) * 64 + (j 2).val = ((j 0).val * 8 + (j 1).val) * 64 + (j 2).val
    omega
  · show ((f (T + 0) (0 + (j 0).val) (0 + (j 1).val) (0 + (j 2).val) : ℝ) : EReal) = _
    simp only [add_zero, zero_add]
    rfl

/-- A value vector as a column of every state matrix. -/
theorem col_lift (f : ℕ → ℕ → ℕ → ℝ) (h h') :
    broadcastInDim S2x8x64x64 ![0, 1, 2, 3] h' (broadcastInDim S2x8x64x1 ![0, 1, 2] h (lift3 2 8 64 f : S2x8x64.Idx → EReal))
      = lift4 2 8 64 64 fun b H i _ => f b H i := by
  funext j
  exact (broadcastInDim_apply _ _ _ j (ix4 (j 0 : Fin 2) (j 1 : Fin 8) (j 2 : Fin 64) (0 : Fin 1)) (fun a => by fin_cases a <;> rfl)).trans
    (broadcastInDim_apply _ _ _ _ (ix3 (j 0 : Fin 2) (j 1 : Fin 8) (j 2 : Fin 64)) (fun a => by fin_cases a <;> rfl))

/-- A key vector as a row of every state matrix. -/
theorem rowk_lift (f : ℕ → ℕ → ℕ → ℝ) (h h') :
    broadcastInDim S2x8x64x64 ![0, 1, 2, 3] h' (broadcastInDim S2x8x1x64 ![0, 1, 3] h (lift3 2 8 64 f : S2x8x64.Idx → EReal))
      = lift4 2 8 64 64 fun b H _ j => f b H j := by
  funext j
  exact (broadcastInDim_apply _ _ _ j (ix4 (j 0 : Fin 2) (j 1 : Fin 8) (0 : Fin 1) (j 3 : Fin 64)) (fun a => by fin_cases a <;> rfl)).trans
    (broadcastInDim_apply _ _ _ _ (ix3 (j 0 : Fin 2) (j 1 : Fin 8) (j 3 : Fin 64)) (fun a => by fin_cases a <;> rfl))

/-- Every state matrix applied to a key vector. -/
theorem dot_lift (S : ℕ → ℕ → ℕ → ℕ → ℝ) (f : ℕ → ℕ → ℕ → ℝ) :
    Host.dotGeneral (F := Ideal) (φ₁ := .f32) (φ₂ := .f32) dot_S2x8x64x64_S2x8x64_S2x8x64_3_2_2_n_01_01 none
      (lift4 2 8 64 64 S : S2x8x64x64.Idx → EReal) (lift3 2 8 64 f : S2x8x64.Idx → EReal)
      = (lift3 2 8 64 fun b H i => ∑ j ∈ range 64, S b H i j * f b H j : S2x8x64.Idx → EReal) := by
  funext j
  have e : Host.dotGeneral (F := Ideal) (φ₁ := .f32) (φ₂ := .f32) dot_S2x8x64x64_S2x8x64_S2x8x64_3_2_2_n_01_01 none
      (lift4 2 8 64 64 S : S2x8x64x64.Idx → EReal) (lift3 2 8 64 f : S2x8x64.Idx → EReal) j
      = 0 + ∑ k : Fin 64, ((S (j 0).val (j 1).val (j 2).val k.val * f (j 0).val (j 1).val k.val : ℝ) : EReal) := by
    simp only [pointwise]
    rfl
  rw [e, zero_add]
  exact coe_sum_range 64 fun k => S (j 0).val (j 1).val (j 2).val k * f (j 0).val (j 1).val k

/-- The outputs with token `T`'s row written. -/
theorem write_lift (T : ℕ) (hT : T < 8192) (g : ℕ → ℕ → ℕ → ℕ → ℝ) (f : ℕ → ℕ → ℕ → ℝ) (h hs hb) :
    Host.dynamicUpdateSlice (lift4 8192 2 8 64 g : S8192x2x8x64.Idx → EReal)
      (broadcastInDim S1x2x8x64 ![1, 2, 3] hb (lift3 2 8 64 f : S2x8x64.Idx → EReal))
      (fun k => (((![ctr T, constantI S_ 32 0#32, constantI S_ 32 0#32, constantI S_ 32 0#32] : Fin 4 → IVec S_ 32)) k (Shape.Idx.first h)).toInt) hs
      = lift4 8192 2 8 64 fun t b H i => if t = T then f b H i else g t b H i := by
  have hb4 : (broadcastInDim S1x2x8x64 ![1, 2, 3] hb (lift3 2 8 64 f : S2x8x64.Idx → EReal)) = lift4 1 2 8 64 fun _ b H i => f b H i := by
    funext j
    exact broadcastInDim_apply _ _ _ j (ix3 (j 1 : Fin 2) (j 2 : Fin 8) (j 3 : Fin 64)) (fun a => by fin_cases a <;> rfl)
  have hk : S8192x2x8x64.Slices ![T, 0, 0, 0] S1x2x8x64 := ⟨rfl, fun a => by fin_cases a <;> simp <;> omega⟩
  rw [hb4, WordCmp.dynamicUpdateSlice_eq_update _ _ _ hs ![T, 0, 0, 0] hk (start_eq T hT h)]
  funext i
  by_cases ht : (i 0).val = T
  · refine (dif_pos ?_).trans ?_
    · intro a
      have := (i a).isLt
      fin_cases a
      · exact ⟨ht.ge, by show (i 0).val < T + 1; omega⟩
      · exact ⟨Nat.zero_le _, by simpa using this⟩
      · exact ⟨Nat.zero_le _, by simpa using this⟩
      · exact ⟨Nat.zero_le _, by simpa using this⟩
    · exact congrArg Real.toEReal (if_pos ht).symm
  · refine (dif_neg ?_).trans ?_
    · intro hall
      have : T ≤ (i 0).val ∧ (i 0).val < T + 1 := hall 0
      omega
    · exact congrArg Real.toEReal (if_neg ht).symm

end Rwkv.Loop
-- ==== Proof.Scan.lean ====
/-
  The reference's scan over the whole sequence: what the loop carries before every token, and the array it leaves.
-/
module

public import proofs.«01_k».proof.Proof.Loop

@[expose] public section

noncomputable section

namespace Rwkv.Loop

open Finset
open Idealize.ShloMosaic hiding ix1 ix2 ix3 ix4 eq_ix2 eq_ix3
open Idealize.ShloMosaic.ValueIdx (ix1 ix2 ix3 ix4 eq_ix2 eq_ix3)
open Idealize.ShloMosaic.TcCoe Idealize.ShloMosaic.StableHlo
open Cert.ReferenceIdeal Cert.ReferenceIdeal.Gen Cert.ReferenceIdeal.Value

/-- A per-token input by token, batch element, head and lane of the head. -/
def rows (f : ℕ → ℕ → ℕ → ℝ) (t b H i : ℕ) : ℝ := f b t (64 * H + i)

/-- The outputs of the tokens before `T`; the others are still 0. -/
def outs (x : Inputs) (T t b H i : ℕ) : ℝ := if t < T then x.out b t (64 * H + i) else 0

/-- What the loop carries before token `T`. -/
structure At (x : Inputs) (T : ℕ) (V : Valuation τ sig (Elt Ideal)) : Prop where
  r : V (Proc.devRef .tc main_v17_0) = (lift4 8192 2 8 64 (rows x.r) : S8192x2x8x64.Idx → EReal)
  w : V (Proc.devRef .tc main_v17_1) = (lift4 8192 2 8 64 (rows fun b t l => Real.exp (x.lw b t l)) : S8192x2x8x64.Idx → EReal)
  k : V (Proc.devRef .tc main_v17_2) = (lift4 8192 2 8 64 (rows x.k) : S8192x2x8x64.Idx → EReal)
  v : V (Proc.devRef .tc main_v17_3) = (lift4 8192 2 8 64 (rows x.v) : S8192x2x8x64.Idx → EReal)
  a : V (Proc.devRef .tc main_v17_4) = (lift4 8192 2 8 64 (rows fun b => negK (x.q b)) : S8192x2x8x64.Idx → EReal)
  b : V (Proc.devRef .tc main_v17_5) = (lift4 8192 2 8 64 (rows fun b => rateK (x.q b) (x.al b)) : S8192x2x8x64.Idx → EReal)
  counter : V (Proc.devRef .tc main_v17_6) = ctr T
  state : V (Proc.devRef .tc main_v17_7) = (lift4 2 8 64 64 fun b H => x.state b H T : S2x8x64x64.Idx → EReal)
  out : V (Proc.devRef .tc main_v17_8) = (lift4 8192 2 8 64 (outs x T) : S8192x2x8x64.Idx → EReal)

theorem state_next (x : Inputs) {T : ℕ} (hT : T < 8192) {V : Valuation τ sig (Elt Ideal)} (h : At x T V) :
    res_main_while0b_v41 V = (lift4 2 8 64 64 fun b H => x.state b H (T + 1) : S2x8x64x64.Idx → EReal) := by
  unfold res_main_while0b_v41
  rw [h.state, h.w, h.k, h.v, h.a, h.b, h.counter]
  erw [row_lift T hT, row_lift T hT, row_lift T hT, row_lift T hT, row_lift T hT, dot_lift, col_lift, col_lift, rowk_lift, rowk_lift, rowk_lift,
    lift4_mul, lift4_mul, lift4_mul, lift4_add, lift4_add]
  rfl

theorem out_next (x : Inputs) {T : ℕ} (hT : T < 8192) {V : Valuation τ sig (Elt Ideal)} (h : At x T V) :
    step_main_v17_8 V = (lift4 8192 2 8 64 (outs x (T + 1)) : S8192x2x8x64.Idx → EReal) := by
  unfold step_main_v17_8
  rw [state_next x hT h, h.r, h.counter, h.out]
  erw [row_lift T hT, dot_lift, write_lift T hT]
  refine lift4_congr fun t _ b _ H _ i hi => ?_
  have e1 : (64 * H + i) / 64 = H := by omega
  have e2 : (64 * H + i) % 64 = i := by omega
  unfold outs
  by_cases ht : t = T
  · subst ht
    rw [if_pos rfl, if_pos (Nat.lt_succ_self _)]
    unfold Inputs.out
    rw [e1, e2]
    rfl
  · rw [if_neg ht]
    by_cases hlt : t < T
    · rw [if_pos hlt, if_pos (by omega)]
    · rw [if_neg hlt, if_neg (by omega)]

/-- One token on. -/
theorem At.next {x : Inputs} {T : ℕ} (hT : T < 8192) {V : Valuation τ sig (Elt Ideal)} (h : At x T V) : At x (T + 1) (STEP V) where
  r := (STEP_main_v17_0 V).trans h.r
  w := (STEP_main_v17_1 V).trans h.w
  k := (STEP_main_v17_2 V).trans h.k
  v := (STEP_main_v17_3 V).trans h.v
  a := (STEP_main_v17_4 V).trans h.a
  b := (STEP_main_v17_5 V).trans h.b
  counter := by
    rw [STEP_main_v17_6]
    unfold step_main_v17_6
    rw [h.counter]
    funext i
    show BitVec.ofNat 32 T + 1#32 = BitVec.ofNat 32 (T + 1)
    rw [BitVec.ofNat_add]
  state := (STEP_main_v17_7 V).trans (state_next x hT h)
  out := (STEP_main_v17_8 V).trans (out_next x hT h)

theorem At.iterate {x : Inputs} {V : Valuation τ sig (Elt Ideal)} (h : At x 0 V) : ∀ T, T ≤ 8192 → At x T (STEP^[T] V)
  | 0, _ => h
  | T + 1, hT => by
    rw [Function.iterate_succ_apply']
    exact (At.iterate h T (by omega)).next (by omega)

/-! ## Before the loop and after it -/

theorem heads_lift (f : ℕ → ℕ → ℕ → ℝ) (hc ht) :
    transpose S8192x2x8x64 [1, 0, 2, 3] (shapeCast S2x8192x8x64 (lift3 2 8192 512 f : S2x8192x512.Idx → EReal) hc) ht = lift4 8192 2 8 64 (rows f) := by
  funext j
  have h2 : (j 2).val < 8 := (j 2).isLt
  have h3 : (j 3).val < 64 := (j 3).isLt
  refine (transpose_apply _ _ _ j (ix4 (j 1 : Fin 2) (j 0 : Fin 8192) (j 2 : Fin 8) (j 3 : Fin 64)) (fun b => by fin_cases b <;> rfl)).trans ?_
  refine (shapeCast_apply _ hc _ (ix3 (j 1 : Fin 2) (j 0 : Fin 8192) (⟨64 * (j 2).val + (j 3).val, by omega⟩ : Fin 512)) ?_).trans rfl
  refine (Shape.rowMajor_val_three _).trans (Eq.trans ?_ (Shape.rowMajor_val_four _).symm)
  show ((j 1).val * 8192 + (j 0).val) * 512 + (64 * (j 2).val + (j 3).val) = (((j 1).val * 8192 + (j 0).val) * 8 + (j 2).val) * 64 + (j 3).val
  omega

theorem tokens_lift (g : ℕ → ℕ → ℕ → ℝ) (f : ℕ → ℕ → ℕ → ℕ → ℝ) (hf : ∀ t < 8192, ∀ b < 2, ∀ H < 8, ∀ i < 64, f t b H i = g b t (64 * H + i)) (hc ht) :
    shapeCast S2x8192x512 (transpose S2x8192x8x64 [1, 0, 2, 3] (lift4 8192 2 8 64 f : S8192x2x8x64.Idx → EReal) ht) hc = lift3 2 8192 512 g := by
  funext j
  have h2 : (j 2).val < 512 := (j 2).isLt
  refine (shapeCast_apply _ hc j (ix4 (j 0 : Fin 2) (j 1 : Fin 8192) (⟨(j 2).val / 64, by omega⟩ : Fin 8) (⟨(j 2).val % 64, by omega⟩ : Fin 64)) ?_).trans ?_
  · rw [Shape.rowMajor_val_four, Shape.rowMajor_val_three]
    show (((j 0).val * 8192 + (j 1).val) * 8 + (j 2).val / 64) * 64 + (j 2).val % 64 = ((j 0).val * 8192 + (j 1).val) * 512 + (j 2).val
    omega
  · refine (transpose_apply _ _ _ _ (ix4 (j 1 : Fin 8192) (j 0 : Fin 2) (⟨(j 2).val / 64, by omega⟩ : Fin 8) (⟨(j 2).val % 64, by omega⟩ : Fin 64)) (fun b => by fin_cases b <;> rfl)).trans ?_
    refine congrArg Real.toEReal ((hf (j 1).val (j 1).isLt (j 0).val (j 0).isLt ((j 2).val / 64) (by omega) ((j 2).val % 64) (by omega)).trans ?_)
    show g (j 0).val (j 1).val (64 * ((j 2).val / 64) + (j 2).val % 64) = _
    congr 1
    omega

section
variable (m : (ℓ : Loc nD τ sig) → Buf (Elt Ideal) ℓ) (c : Dev nD)

/-- The argument arrays hold the inputs. -/
structure Args (x : Inputs) : Prop where
  r : m ((c.tc : Thread nD τ).loc main_arg0) = (lift3 2 8192 512 x.r : S2x8192x512.Idx → EReal)
  lw : m ((c.tc : Thread nD τ).loc main_arg1) = (lift3 2 8192 512 x.lw : S2x8192x512.Idx → EReal)
  k : m ((c.tc : Thread nD τ).loc main_arg2) = (lift3 2 8192 512 x.k : S2x8192x512.Idx → EReal)
  v : m ((c.tc : Thread nD τ).loc main_arg3) = (lift3 2 8192 512 x.v : S2x8192x512.Idx → EReal)
  q : m ((c.tc : Thread nD τ).loc main_arg4) = (lift3 2 8192 512 x.q : S2x8192x512.Idx → EReal)
  al : m ((c.tc : Thread nD τ).loc main_arg5) = (lift3 2 8192 512 x.al : S2x8192x512.Idx → EReal)

variable {m c} {x : Inputs} (h : Args m c x)
include h

theorem entry_r : entryContents preI m c (Proc.devRef .tc main_v17_0) = (lift4 8192 2 8 64 (rows x.r) : S8192x2x8x64.Idx → EReal) := by
  simp only [entryContents, afterL_cons, afterL_nil]
  after_reads_simp
  refine Eq.trans (congrArg (fun z : S2x8192x512.Idx → EReal => transpose S8192x2x8x64 [1, 0, 2, 3] (shapeCast S2x8192x8x64 z
    shapeCasts_S2x8192x512_S2x8192x8x64) transposes_S2x8192x8x64_S8192x2x8x64_1_0_2_3) h.r) (heads_lift _ _ _)

theorem entry_w : entryContents preI m c (Proc.devRef .tc main_v17_1) = (lift4 8192 2 8 64 (rows fun b t l => Real.exp (x.lw b t l)) : S8192x2x8x64.Idx → EReal) := by
  simp only [entryContents, afterL_cons, afterL_nil]
  after_reads_simp
  refine Eq.trans (congrArg (fun z : S2x8192x512.Idx → EReal => transpose S8192x2x8x64 [1, 0, 2, 3] (shapeCast S2x8192x8x64
    (Host.exp (F := Ideal) (φ := .f32) z) shapeCasts_S2x8192x512_S2x8192x8x64) transposes_S2x8192x8x64_S8192x2x8x64_1_0_2_3) h.lw)
    (heads_lift (fun b t l => Real.exp (x.lw b t l)) _ _)

theorem entry_k : entryContents preI m c (Proc.devRef .tc main_v17_2) = (lift4 8192 2 8 64 (rows x.k) : S8192x2x8x64.Idx → EReal) := by
  simp only [entryContents, afterL_cons, afterL_nil]
  after_reads_simp
  refine Eq.trans (congrArg (fun z : S2x8192x512.Idx → EReal => transpose S8192x2x8x64 [1, 0, 2, 3] (shapeCast S2x8192x8x64 z
    shapeCasts_S2x8192x512_S2x8192x8x64) transposes_S2x8192x8x64_S8192x2x8x64_1_0_2_3) h.k) (heads_lift _ _ _)

theorem entry_v : entryContents preI m c (Proc.devRef .tc main_v17_3) = (lift4 8192 2 8 64 (rows x.v) : S8192x2x8x64.Idx → EReal) := by
  simp only [entryContents, afterL_cons, afterL_nil]
  after_reads_simp
  refine Eq.trans (congrArg (fun z : S2x8192x512.Idx → EReal => transpose S8192x2x8x64 [1, 0, 2, 3] (shapeCast S2x8192x8x64 z
    shapeCasts_S2x8192x512_S2x8192x8x64) transposes_S2x8192x8x64_S8192x2x8x64_1_0_2_3) h.v) (heads_lift _ _ _)

theorem entry_a : entryContents preI m c (Proc.devRef .tc main_v17_4) = (lift4 8192 2 8 64 (rows fun b => negK (x.q b)) : S8192x2x8x64.Idx → EReal) := by
  simp only [entryContents, afterL_cons, afterL_nil]
  after_reads_simp
  refine Eq.trans (congrArg (fun z : S2x8192x512.Idx → EReal => Host.negf (F := Ideal) (φ := .f32) (transpose S8192x2x8x64 [1, 0, 2, 3] (shapeCast S2x8192x8x64 z
    shapeCasts_S2x8192x512_S2x8192x8x64) transposes_S2x8192x8x64_S8192x2x8x64_1_0_2_3)) h.q) ?_
  refine Eq.trans (congrArg (Host.negf (F := Ideal) (φ := .f32)) (heads_lift x.q _ _)) ?_
  funext i
  exact (EReal.coe_neg _).symm

theorem entry_b : entryContents preI m c (Proc.devRef .tc main_v17_5) = (lift4 8192 2 8 64 (rows fun b => rateK (x.q b) (x.al b)) : S8192x2x8x64.Idx → EReal) := by
  simp only [entryContents, afterL_cons, afterL_nil]
  after_reads_simp
  refine Eq.trans (congrArg₂ (fun z z' : S2x8192x512.Idx → EReal => mulf (F := Ideal) (φ := .f32)
    (transpose S8192x2x8x64 [1, 0, 2, 3] (shapeCast S2x8192x8x64 z shapeCasts_S2x8192x512_S2x8192x8x64) transposes_S2x8192x8x64_S8192x2x8x64_1_0_2_3)
    (transpose S8192x2x8x64 [1, 0, 2, 3] (shapeCast S2x8192x8x64 z' shapeCasts_S2x8192x512_S2x8192x8x64) transposes_S2x8192x8x64_S8192x2x8x64_1_0_2_3))
    h.q h.al) ?_
  refine Eq.trans (congrArg₂ (mulf (F := Ideal) (φ := .f32)) (heads_lift x.q _ _) (heads_lift x.al _ _)) ?_
  exact lift4_mul _ _

omit h in
theorem entry_state : entryContents preI m c (Proc.devRef .tc main_v17_7) = (lift4 2 8 64 64 fun b H => x.state b H 0 : S2x8x64x64.Idx → EReal) := by
  simp only [entryContents, afterL_cons, afterL_nil]
  after_reads_simp
  funext i
  exact Ideal.ofBits_zero_f32

omit h in
theorem entry_out : entryContents preI m c (Proc.devRef .tc main_v17_8) = (lift4 8192 2 8 64 (outs x 0) : S8192x2x8x64.Idx → EReal) := by
  simp only [entryContents, afterL_cons, afterL_nil]
  after_reads_simp
  funext i
  exact Ideal.ofBits_zero_f32.trans (congrArg Real.toEReal (if_neg (Nat.not_lt_zero _)).symm)

/-- Before the first token. -/
theorem entry : At x 0 (entryContents preI m c) where
  r := entry_r h
  w := entry_w h
  k := entry_k h
  v := entry_v h
  a := entry_a h
  b := entry_b h
  counter := ctr_entry m c
  state := entry_state
  out := entry_out

/-- The array the reference leaves holds the recurrence's outputs. -/
theorem reference_eq : out_main_v19 (STEP^[8192] (entryContents preI m c)) = (lift3 2 8192 512 x.out : S2x8192x512.Idx → EReal) := by
  unfold out_main_v19
  rw [((entry h).iterate 8192 le_rfl).out]
  exact tokens_lift x.out _ (fun t ht b _ H _ i _ => if_pos ht) _ _

end

end Rwkv.Loop
-- ==== Proof.Finite.lean ====
/-
  The precondition says that every element of the six arguments is a real, so each argument is an array of reals.
-/
module

public import proofs.«01_k».proof.Pre_finite
public import proofs.«01_k».proof.Proof.Tokens
public import Idealize.ShloMosaic.Lib.ReduceAll

@[expose] public section

noncomputable section

namespace Rwkv.Finite

open Idealize.ShloMosaic hiding ix1 ix2 ix3 ix4 eq_ix2 eq_ix3
open Idealize.ShloMosaic.ValueIdx (ix1 ix2 ix3 ix4 eq_ix2 eq_ix3)
open Cert.Pre_finite

instance facts : Cert.Pre_finite.Facts where
  bcast_S_S2x8192x512 := by decide
  reducesTo_S2x8192x512_S_d0_1_2 := by decide
  h_S_ := by decide

/-- The reals of an array. -/
def reals (z : S2x8192x512.Idx → EReal) (a b c : ℕ) : ℝ :=
  if h : a < 2 ∧ b < 8192 ∧ c < 512 then (z (ix3 (⟨a, h.1⟩ : Fin 2) (⟨b, h.2.1⟩ : Fin 8192) (⟨c, h.2.2⟩ : Fin 512))).toReal else 0

theorem coe_of_abs_lt (a : EReal) (h : max a (-a) < ⊤) : ((a.toReal : ℝ) : EReal) = a := by
  refine EReal.coe_toReal (fun e => ?_) (fun e => ?_)
  · subst e; simp at h
  · subst e; simp at h

theorem olt_eq (a b : Ideal .f32) (h : FloatOps.cmpf .olt a b = 1#1) : (a : EReal) < b := by
  rw [Ideal.cmpf_def] at h
  exact of_decide_eq_true ((BitVec.ofBool_eq_iff_eq (b' := true)).1 h)

/-- An array whose every element is below infinity in absolute value holds its reals. -/
theorem eq_reals [Facts] (z : FVec Ideal S2x8192x512 .f32) (j : S_.Idx)
    (e : Host.reduce IntOp.andi (cmpf .olt (Host.absf z) (broadcastInDim S2x8192x512 ![] Facts.bcast_S_S2x8192x512 (constant S_ .f32 0x7F800000#32)))
      (constantI S_ 1 1#1) Facts.reducesTo_S2x8192x512_S_d0_1_2 Facts.h_S_ j = 1#1) :
    z = (lift3 2 8192 512 (reals z) : S2x8192x512.Idx → EReal) := by
  funext i
  have h := Host.reduce_andi_all _ _ _ _ j e i
  have hlt : max (z i : EReal) (-(z i : EReal)) < ⊤ := by
    refine lt_of_lt_of_eq (olt_eq _ _ h) ?_
    show Ideal.ofBits .f32 0x7F800000#32 = ⊤
    simp [Ideal.ofBits, Ideal.ieee]
  refine (coe_of_abs_lt _ hlt).symm.trans (congrArg Real.toEReal ?_)
  unfold reals
  rw [dif_pos ⟨(i 0).isLt, (i 1).isLt, (i 2).isLt⟩]
  exact congrArg (fun y => (z y).toReal) (eq_ix3 i)

/-- The inputs that the six arguments hold. -/
def inputs (a0 a1 a2 a3 a4 a5 : S2x8192x512.Idx → EReal) : Inputs :=
  ⟨reals a0, reals a1, reals a2, reals a3, reals a4, reals a5⟩

theorem all_real [Facts] (a0 a1 a2 a3 a4 a5 : FVec Ideal S2x8192x512 .f32) (h : fn (F := Ideal) a0 a1 a2 a3 a4 a5 = fun _ => 1#1) :
    a0 = (lift3 2 8192 512 (reals a0) : S2x8192x512.Idx → EReal) ∧ a1 = (lift3 2 8192 512 (reals a1) : S2x8192x512.Idx → EReal)
      ∧ a2 = (lift3 2 8192 512 (reals a2) : S2x8192x512.Idx → EReal) ∧ a3 = (lift3 2 8192 512 (reals a3) : S2x8192x512.Idx → EReal)
      ∧ a4 = (lift3 2 8192 512 (reals a4) : S2x8192x512.Idx → EReal) ∧ a5 = (lift3 2 8192 512 (reals a5) : S2x8192x512.Idx → EReal) := by
  have hj := congrFun h (fun a => a.elim0)
  unfold fn fn_part1 at hj
  simp only [andi, IntOp.andi_eq_one] at hj
  obtain ⟨⟨⟨⟨⟨h0, h1⟩, h2⟩, h3⟩, h4⟩, h5⟩ := hj
  exact ⟨eq_reals _ _ h0, eq_reals _ _ h1, eq_reals _ _ h2, eq_reals _ _ h3, eq_reals _ _ h4, eq_reals _ _ h5⟩

end Rwkv.Finite
-- ==== Proof.FfnMath.lean ====
/-
  The feed-forward part on the extended reals, one row at a time: the normalised row, the gated hidden units, their
  product with the second weight matrix, and the half of its normalised value that is added to the row.
  Everything is a function of natural-number positions; the weights are functions of a row and a column.
-/
module

public import Idealize.ShloMosaic.PureOps.Ideal
public import Mathlib.Algebra.BigOperators.Intervals

@[expose] public section

noncomputable section

namespace Ffn

open Idealize.ShloMosaic Finset

/-- The number of a row's entries, as the programs write it. -/
abbrev cN : EReal := Ideal.ofBits .f32 0x44800000#32
/-- The small number that is added to a mean square. -/
abbrev cE : EReal := Ideal.ofBits .f32 0x358637BD#32
/-- One half. -/
abbrev cH : EReal := Ideal.ofBits .f32 0x3F000000#32

/-- The inverse root of a row's mean square. -/
def scale (x : ℕ → EReal) : EReal := Ideal.rsqrt (Ideal.div (∑ k ∈ range 1024, x k * x k) cN + cE)

/-- A row normalised, with a gain for each of its entries. -/
def normed (x g : ℕ → EReal) (k : ℕ) : EReal := x k * scale x * g k

/-- A row times a column of the first weight matrix. -/
def unit (h : ℕ → EReal) (w : ℕ → ℕ → EReal) (n : ℕ) : EReal := ∑ k ∈ range 1024, h k * w k n

/-- A hidden unit: the gate with its logistic, times the linear unit whose column lies 2816 further on. -/
def hidden (h : ℕ → EReal) (w : ℕ → ℕ → EReal) (n : ℕ) : EReal := unit h w n * Ideal.logistic (unit h w n) * unit h w (2816 + n)

/-- The first `N` hidden units times a column of the second weight matrix. -/
def down (h : ℕ → EReal) (w d : ℕ → ℕ → EReal) (N k : ℕ) : EReal := ∑ n ∈ range N, hidden h w n * d n k

/-- The row that the feed-forward part leaves. -/
def out (x g g' : ℕ → EReal) (w d : ℕ → ℕ → EReal) (k : ℕ) : EReal := x k + cH * normed (down (normed x g) w d 2816) g' k

variable (x y g : ℕ → EReal) (h : ℕ → EReal) (w d : ℕ → ℕ → EReal) (k : ℕ)

theorem scale_congr {x y : ℕ → EReal} (e : ∀ k < 1024, x k = y k) : scale x = scale y := by
  unfold scale
  rw [Finset.sum_congr rfl fun k hk => by rw [e k (mem_range.mp hk)]]

/-- Half the gain is half of the normalised row. -/
theorem normed_half : normed x (fun k => cH * g k) k = cH * normed x g k := mul_left_comm _ _ _

theorem down_zero : down h w d 0 k = 0 := rfl

/-- 256 further hidden units. -/
theorem down_add (N : ℕ) : down h w d (N + 256) k = down h w d N k + ∑ n ∈ range 256, hidden h w (N + n) * d (N + n) k :=
  sum_range_add _ _ _

end Ffn

end
-- ==== Proof.FfnRead.lean ====
/-
  Arrays on the extended reals as functions of natural-number positions, and the feed-forward part of whole arrays.
-/
module

public import proofs.«01_k».proof.Proof.FfnMath
public import Idealize.ShloMosaic.Lib.Pointwise
public import Idealize.ShloMosaic.Lib.ValueIdx

@[expose] public section

noncomputable section

namespace Ffn

open Idealize.ShloMosaic hiding ix1 ix2 ix3 ix4 eq_ix2 eq_ix3
open Idealize.ShloMosaic.ValueIdx (ix1 ix2 ix3 ix4 eq_ix2 eq_ix3)

/-- A matrix's entry at two positions. -/
def at2 {R C : ℕ} [NeZero R] [NeZero C] (a : (⟨2, ![R, C]⟩ : Shape).Idx → EReal) (i k : ℕ) : EReal :=
  a (ix2 (Fin.ofNat R i) (Fin.ofNat C k))

/-- An entry of an array with three axes. -/
def at3 {L R C : ℕ} [NeZero L] [NeZero R] [NeZero C] (a : (⟨3, ![L, R, C]⟩ : Shape).Idx → EReal) (l i k : ℕ) : EReal :=
  a (ix3 (Fin.ofNat L l) (Fin.ofNat R i) (Fin.ofNat C k))

theorem ofNat_of_eq {n i : ℕ} [NeZero n] (j : Fin n) (h : i = j.val) : Fin.ofNat n i = j :=
  Fin.ext (show i % n = j.val by rw [h, Nat.mod_eq_of_lt j.isLt])

section
variable {L R C : ℕ} [NeZero L] [NeZero R] [NeZero C]

theorem at2_eq (a : (⟨2, ![R, C]⟩ : Shape).Idx → EReal) {i k : ℕ} (j : (⟨2, ![R, C]⟩ : Shape).Idx)
    (h0 : (j 0).val = i) (h1 : (j 1).val = k) : a j = at2 a i k := by
  refine congrArg a (funext fun b => ?_)
  match b with
  | ⟨0, _⟩ => exact (ofNat_of_eq (n := R) (j 0) h0.symm).symm
  | ⟨1, _⟩ => exact (ofNat_of_eq (n := C) (j 1) h1.symm).symm

theorem at3_eq (a : (⟨3, ![L, R, C]⟩ : Shape).Idx → EReal) {l i k : ℕ} (j : (⟨3, ![L, R, C]⟩ : Shape).Idx)
    (h0 : (j 0).val = l) (h1 : (j 1).val = i) (h2 : (j 2).val = k) : a j = at3 a l i k := by
  refine congrArg a (funext fun b => ?_)
  match b with
  | ⟨0, _⟩ => exact (ofNat_of_eq (n := L) (j 0) h0.symm).symm
  | ⟨1, _⟩ => exact (ofNat_of_eq (n := R) (j 1) h1.symm).symm
  | ⟨2, _⟩ => exact (ofNat_of_eq (n := C) (j 2) h2.symm).symm

end

/-- The feed-forward part of every row of `x`, with the gains `n` and `n'` of layer `l`. -/
def result (l n n' : ℕ) (x : (⟨2, ![16384, 1024]⟩ : Shape).Idx → EReal) (g : (⟨3, ![2, 6, 1024]⟩ : Shape).Idx → EReal)
    (w : (⟨2, ![1024, 5632]⟩ : Shape).Idx → EReal) (d : (⟨2, ![2816, 1024]⟩ : Shape).Idx → EReal) :
    (⟨2, ![16384, 1024]⟩ : Shape).Idx → EReal :=
  fun i => out (at2 x (i 0).val) (at3 g l n) (at3 g l n') (at2 w) (at2 d) (i 1).val

/-- The first layer of an array with one matrix for each layer. -/
def first {R C : ℕ} [NeZero R] [NeZero C] (a : (⟨3, ![2, R, C]⟩ : Shape).Idx → EReal) : (⟨2, ![R, C]⟩ : Shape).Idx → EReal :=
  fun i => at3 a 0 (i 0).val (i 1).val

end Ffn

end
-- ==== Proof.FfnBlock.lean ====
/-
  One block of 512 rows of the feed-forward part, in the kernel's own operations: the rows normalised, the hidden units
  in 11 groups of 256, each group's product with its rows of the second weight matrix added to what the groups before
  left, and the sum normalised with half the gain. At the extended reals it holds `Ffn.out` of every row.
-/
module

public import proofs.«01_k».proof.Proof.FfnMath
public import proofs.«01_k».proof.Proof.Gen.Kernel2Ideal.Frame
public import Idealize.ShloMosaic.Lib.Pointwise
public import Idealize.ShloMosaic.Lib.ValueIdx

@[expose] public section

noncomputable section

namespace Ffn.Block

open Idealize.ShloMosaic hiding ix1 ix2 ix3 ix4 eq_ix2 eq_ix3
open Idealize.ShloMosaic.ValueIdx (ix1 ix2 ix3 ix4 eq_ix2 eq_ix3)
open Cert.Kernel2Ideal Cert.Kernel2Ideal.Gen

section
variable {F : FTy → Type} [FloatOps F]

/-- Every row normalised. -/
def norm (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 g broadcasts_S1x1024_S512x1024)

/-- Rows times 256 columns of the first weight matrix. -/
def units (h : FVec F S512x1024 .bf16) (w : Vec F S1024x256 .bf16) : FVec F S512x256 .f32 :=
  matmul dot_S512x1024_S1024x256_S512x256_1_0_0_1_n_n none h w (constant S512x256 .f32 0x00000000#32)

/-- 256 hidden units of every row. -/
def hiddens (h : FVec F S512x1024 .bf16) (wg wu : Vec F S1024x256 .bf16) : FVec F S512x256 .bf16 :=
  truncf .bf16 (mulf (mulf (units h wg) (logistic (units h wg))) (units h wu)) bitsLt_bf16_f32

/-- The sum after the first `n` groups of hidden units. -/
def acc (h : FVec F S512x1024 .bf16) (wg wu : ℕ → Vec F S1024x256 .bf16) (wd : ℕ → Vec F S256x1024 .bf16) : ℕ → FVec F S512x1024 .f32
  | 0 => broadcast S512x1024 (Scalar.ofBits .f32 0x00000000#32)
  | n + 1 => addf (acc h wg wu wd n) (matmul dot_S512x256_S256x1024_S512x1024_1_0_0_1_n_n none (hiddens h (wg n) (wu n)) (wd n)
      (constant S512x1024 .f32 0x00000000#32))

/-- The block's result. -/
def block (x : Vec F S512x1024 .f32) (g g' : Vec F S1x1x1024 .f32) (wg wu : ℕ → Vec F S1024x256 .bf16) (wd : ℕ → Vec F S256x1024 .bf16) :
    Vec F S512x1024 .f32 :=
  addf x (norm (acc (truncf .bf16 (norm x (shapeCast S1x1024 g shapeCasts_S1x1x1024_S1x1024)) bitsLt_bf16_f32) wg wu wd 11)
    (mulf (broadcast S1x1024 (Scalar.ofBits .f32 0x3F000000#32)) (shapeCast S1x1024 g' shapeCasts_S1x1x1024_S1x1024)))

end

theorem sum_fin (K : ℕ) (f : ℕ → EReal) : (∑ k : Fin K, f k.val) = ∑ k ∈ Finset.range K, f k := Fin.sum_univ_eq_sum_range f K

theorem zero_word : (Ideal.ofBits .f32 0x00000000#32 : EReal) = 0 := by simp [Ideal.ofBits, Ideal.ieee]

/-- The entry of a row and a lane under a row of gains. -/
theorem norm_apply (x : FVec Ideal S512x1024 .f32) (g : FVec Ideal S1x1024 .f32) {X : ℕ → ℕ → EReal} {G : ℕ → EReal}
    (hx : ∀ (i : Fin 512) (k : Fin 1024), x (ix2 i k) = X i.val k.val) (hg : ∀ k : Fin 1024, g (ix2 (0 : Fin 1) k) = G k.val)
    (i : Fin 512) (k : Fin 1024) : norm x g (ix2 i k) = normed (X i.val) G k.val := by
  unfold norm
  simp only [pointwise]
  show x (ix2 i k) * Ideal.rsqrt (Ideal.div (∑ j : Fin 1024, x (ix2 i j) * x (ix2 i j)) cN + cE) * g (ix2 (0 : Fin 1) k) = _
  simp only [hx, hg]
  exact congrArg (fun t => X i.val k.val * Ideal.rsqrt (Ideal.div t cN + cE) * G k.val) (sum_fin 1024 fun j => X i.val j * X i.val j)

theorem units_apply (h : FVec Ideal S512x1024 .bf16) (w : Vec Ideal S1024x256 .bf16) {H W : ℕ → ℕ → EReal} {N : ℕ}
    (hh : ∀ (i : Fin 512) (k : Fin 1024), h (ix2 i k) = H i.val k.val)
    (hw : ∀ (k : Fin 1024) (n : Fin 256), w (ix2 k n) = W k.val (N + n.val))
    (i : Fin 512) (n : Fin 256) : units h w (ix2 i n) = unit (H i.val) W (N + n.val) := by
  unfold units
  simp only [pointwise]
  show 0 + ∑ k : Fin 1024, h (ix2 i k) * w (ix2 k n) = _
  simp only [hh, hw, zero_add]
  exact sum_fin 1024 fun k => H i.val k * W k (N + n.val)

theorem hiddens_apply (h : FVec Ideal S512x1024 .bf16) (wg wu : Vec Ideal S1024x256 .bf16) {H W : ℕ → ℕ → EReal} {N : ℕ}
    (hh : ∀ (i : Fin 512) (k : Fin 1024), h (ix2 i k) = H i.val k.val)
    (hg : ∀ (k : Fin 1024) (n : Fin 256), wg (ix2 k n) = W k.val (N + n.val))
    (hu : ∀ (k : Fin 1024) (n : Fin 256), wu (ix2 k n) = W k.val (2816 + N + n.val))
    (i : Fin 512) (n : Fin 256) : hiddens h wg wu (ix2 i n) = hidden (H i.val) W (N + n.val) := by
  show units h wg (ix2 i n) * Ideal.logistic (units h wg (ix2 i n)) * units h wu (ix2 i n) = _
  rw [units_apply h wg hh hg, units_apply h wu hh hu, Nat.add_assoc]
  rfl

section
variable {x : Vec Ideal S512x1024 .f32} {g g' : Vec Ideal S1x1x1024 .f32} {wg wu : ℕ → Vec Ideal S1024x256 .bf16} {wd : ℕ → Vec Ideal S256x1024 .bf16}
  {h : FVec Ideal S512x1024 .bf16} {H X W D : ℕ → ℕ → EReal} {G G' : ℕ → EReal}

/-- The sum after `m` groups is the product with the first `256 m` hidden units. -/
theorem acc_apply (hh : ∀ (i : Fin 512) (k : Fin 1024), h (ix2 i k) = H i.val k.val)
    (hg : ∀ m < 11, ∀ (k : Fin 1024) (n : Fin 256), wg m (ix2 k n) = W k.val (256 * m + n.val))
    (hu : ∀ m < 11, ∀ (k : Fin 1024) (n : Fin 256), wu m (ix2 k n) = W k.val (2816 + 256 * m + n.val))
    (hd : ∀ m < 11, ∀ (n : Fin 256) (k : Fin 1024), wd m (ix2 n k) = D (256 * m + n.val) k.val)
    (m : ℕ) (hm : m ≤ 11) (i : Fin 512) (k : Fin 1024) : acc h wg wu wd m (ix2 i k) = down (H i.val) W D (256 * m) k.val := by
  induction m with
  | zero => exact zero_word
  | succ m ih =>
    show acc h wg wu wd m (ix2 i k) + matmul dot_S512x256_S256x1024_S512x1024_1_0_0_1_n_n none (hiddens h (wg m) (wu m)) (wd m)
      (constant S512x1024 .f32 0x00000000#32) (ix2 i k) = _
    rw [ih (by omega), Nat.mul_succ, down_add]
    refine congrArg (down (H i.val) W D (256 * m) k.val + ·) ?_
    simp only [pointwise]
    show 0 + ∑ n : Fin 256, hiddens h (wg m) (wu m) (ix2 i n) * wd m (ix2 n k) = _
    simp only [hiddens_apply h (wg m) (wu m) hh (hg m hm) (hu m hm), hd m hm, zero_add]
    exact sum_fin 256 fun n => hidden (H i.val) W (256 * m + n) * D (256 * m + n) k.val

theorem gain_apply (hg : ∀ k : Fin 1024, g (ix3 (0 : Fin 1) (0 : Fin 1) k) = G k.val) (k : Fin 1024) :
    shapeCast S1x1024 g shapeCasts_S1x1x1024_S1x1024 (ix2 (0 : Fin 1) k) = G k.val :=
  (shapeCast_apply g _ (ix2 (0 : Fin 1) k) (ix3 (0 : Fin 1) (0 : Fin 1) k) (by
    rw [Shape.rowMajor_val_two, Shape.rowMajor_val_three]
    show (0 * 1 + 0) * 1024 + k.val = 0 * 1024 + k.val
    omega)).trans (hg k)

/-- Every row of the block is the feed-forward part of the row. -/
theorem block_apply (hx : ∀ (i : Fin 512) (k : Fin 1024), x (ix2 i k) = X i.val k.val)
    (hG : ∀ k : Fin 1024, g (ix3 (0 : Fin 1) (0 : Fin 1) k) = G k.val) (hG' : ∀ k : Fin 1024, g' (ix3 (0 : Fin 1) (0 : Fin 1) k) = G' k.val)
    (hg : ∀ m < 11, ∀ (k : Fin 1024) (n : Fin 256), wg m (ix2 k n) = W k.val (256 * m + n.val))
    (hu : ∀ m < 11, ∀ (k : Fin 1024) (n : Fin 256), wu m (ix2 k n) = W k.val (2816 + 256 * m + n.val))
    (hd : ∀ m < 11, ∀ (n : Fin 256) (k : Fin 1024), wd m (ix2 n k) = D (256 * m + n.val) k.val)
    (i : Fin 512) (k : Fin 1024) : block x g g' wg wu wd (ix2 i k) = out (X i.val) G G' W D k.val := by
  refine (congrArg₂ (· + ·) (hx i k) (norm_apply _ _ (X := fun i => down (normed (X i) G) W D 2816) (G := fun k => cH * G' k)
    (acc_apply (H := fun i => normed (X i) G) (fun i k => norm_apply x _ hx (gain_apply hG) i k) hg hu hd 11 le_rfl)
    (fun k => congrArg (cH * ·) (gain_apply hG' k)) i k)).trans ?_
  exact congrArg (X i.val k.val + ·) (normed_half _ _ _)

end

end Ffn.Block

end
-- ==== Proof.FfnRun2.lean ====
/-
  What one grid step of the last feed-forward call stores is two blocks of `Ffn.Block`.
-/
module

public import proofs.«01_k».proof.Proof.FfnBlock

@[expose] public section

noncomputable section

namespace Ffn.Block

open Idealize.ShloMosaic Cert.Kernel2Ideal Cert.Kernel2Ideal.Gen

variable {F : FTy → Type} [FloatOps F]

theorem inb_gate (m : ℕ) : ∀ a, (![0, 256 * (m % 11)] : Fin 2 → ℕ) a + S1024x256.size a ≤ S1024x5632.size a := fun a => by
  match a with
  | ⟨0, _⟩ => show 0 + 1024 ≤ 1024; omega
  | ⟨1, _⟩ => show 256 * (m % 11) + 256 ≤ 5632; omega

theorem inb_lin (m : ℕ) : ∀ a, (![0, 2816 + 256 * (m % 11)] : Fin 2 → ℕ) a + S1024x256.size a ≤ S1024x5632.size a := fun a => by
  match a with
  | ⟨0, _⟩ => show 0 + 1024 ≤ 1024; omega
  | ⟨1, _⟩ => show 2816 + 256 * (m % 11) + 256 ≤ 5632; omega

theorem inb_down (m : ℕ) : ∀ a, (![256 * (m % 11), 0] : Fin 2 → ℕ) a + S256x1024.size a ≤ S2816x1024.size a := fun a => by
  match a with
  | ⟨0, _⟩ => show 256 * (m % 11) + 256 ≤ 2816; omega
  | ⟨1, _⟩ => show 0 + 1024 ≤ 1024; omega

/-- The gates' columns of group `m`. -/
def gates (w : Vec F S1024x5632 .bf16) (m : ℕ) : Vec F S1024x256 .bf16 :=
  View.ld w (Rect.unit (s := S1024x5632) ![0, 256 * (m % 11)] S1024x256.size (inb_gate m))
/-- The linear units' columns of group `m`. -/
def lins (w : Vec F S1024x5632 .bf16) (m : ℕ) : Vec F S1024x256 .bf16 :=
  View.ld w (Rect.unit (s := S1024x5632) ![0, 2816 + 256 * (m % 11)] S1024x256.size (inb_lin m))
/-- The second weight matrix's rows of group `m`. -/
def downs (w : Vec F S2816x1024 .bf16) (m : ℕ) : Vec F S256x1024 .bf16 :=
  View.ld w (Rect.unit (s := S2816x1024) ![256 * (m % 11), 0] S256x1024.size (inb_down m))

theorem out2 (x0 : Vec F S1024x1024 .f32) (x1 : Vec F S1x6x1024 .f32) (x2 : Vec F S1024x5632 .bf16) (x3 : Vec F S2816x1024 .bf16) :
    out0_4 x0 x1 x2 x3 = View.canon
      [⟨r0_36, block (View.ld x0 r0_36) (View.ld x1 r0_1) (View.ld x1 r0_35) (gates x2) (lins x2) (downs x3)⟩,
       ⟨r0_0, block (View.ld x0 r0_0) (View.ld x1 r0_1) (View.ld x1 r0_35) (gates x2) (lins x2) (downs x3)⟩] := by
  sl_kernel_rfl

end Ffn.Block

end
-- ==== Proof.FfnStored.lean ====
/-
  A grid step of a feed-forward call stores the feed-forward part of its 1024 rows: the two blocks of
  `Ffn.Block`, read at a row and a column.
-/
module

public import proofs.«01_k».proof.Proof.FfnRun2

@[expose] public section

noncomputable section

namespace Ffn.Block

open Idealize.ShloMosaic hiding ix1 ix2 ix3 ix4 eq_ix2 eq_ix3
open Idealize.ShloMosaic.ValueIdx (ix1 ix2 ix3 ix4 eq_ix2 eq_ix3)
open Cert.Kernel2Ideal Cert.Kernel2Ideal.Gen

section
variable (p q : S512x1024.Idx → Elt Ideal .f32) (y : S1024x1024.Idx)

/-- The first 512 rows are the piece stored first, -/
theorem upper (hy : (y 0).val < 512) :
    View.canon (Val := Elt Ideal) (s := S1024x1024) (e := .f32) [⟨r0_36, p⟩, ⟨r0_0, q⟩] y = q (ix2 (⟨(y 0).val, hy⟩ : Fin 512) (y 1)) := by
  have hn : y ∉ r0_36.set := fun h => by
    have h2 : 512 ≤ (y 0).val := (Rect.mem_set_unit.mp h 0).1
    omega
  have he : y = r0_0.emb (ix2 (⟨(y 0).val, hy⟩ : Fin 512) (y 1)) := funext fun a => Fin.ext (by
    match a with
    | ⟨0, _⟩ => show (y 0).val = 0 + 1 * (y 0).val; omega
    | ⟨1, _⟩ => show (y 1).val = 0 + 1 * (y 1).val; omega)
  refine (View.canon_cons_of_not_mem (Val := Elt Ideal) ⟨r0_36, p⟩ [⟨r0_0, q⟩] hn).trans ?_
  refine (congrArg _ he).trans ?_
  exact View.canon_cons_emb (Val := Elt Ideal) r0_0 q [] _

/-- the others the piece stored last. -/
theorem lower (j : Fin 512) (hj : (y 0).val = 512 + j.val) :
    View.canon (Val := Elt Ideal) (s := S1024x1024) (e := .f32) [⟨r0_36, p⟩, ⟨r0_0, q⟩] y = p (ix2 j (y 1)) := by
  have he : y = r0_36.emb (ix2 j (y 1)) := funext fun a => Fin.ext (by
    match a with
    | ⟨0, _⟩ => show (y 0).val = 512 + 1 * j.val; omega
    | ⟨1, _⟩ => show (y 1).val = 0 + 1 * (y 1).val; omega)
  refine (congrArg _ he).trans ?_
  exact View.canon_cons_emb (Val := Elt Ideal) r0_36 p [⟨r0_0, q⟩] _

end

section
variable {w : Vec Ideal S1024x5632 .bf16} {d : Vec Ideal S2816x1024 .bf16} {W D : ℕ → ℕ → EReal}

theorem gates_apply (hw : ∀ (k : Fin 1024) (n : Fin 5632), w (ix2 k n) = W k.val n.val) (m : ℕ) (hm : m < 11) (k : Fin 1024) (n : Fin 256) :
    gates w m (ix2 k n) = W k.val (256 * m + n.val) := by
  refine (congrArg w (funext fun a => Fin.ext ?_)).trans (hw k ⟨256 * m + n.val, by omega⟩)
  match a with
  | ⟨0, _⟩ => show 0 + 1 * k.val = k.val; omega
  | ⟨1, _⟩ => show 256 * (m % 11) + 1 * n.val = 256 * m + n.val; omega

theorem lins_apply (hw : ∀ (k : Fin 1024) (n : Fin 5632), w (ix2 k n) = W k.val n.val) (m : ℕ) (hm : m < 11) (k : Fin 1024) (n : Fin 256) :
    lins w m (ix2 k n) = W k.val (2816 + 256 * m + n.val) := by
  refine (congrArg w (funext fun a => Fin.ext ?_)).trans (hw k ⟨2816 + 256 * m + n.val, by omega⟩)
  match a with
  | ⟨0, _⟩ => show 0 + 1 * k.val = k.val; omega
  | ⟨1, _⟩ => show 2816 + 256 * (m % 11) + 1 * n.val = 2816 + 256 * m + n.val; omega

theorem downs_apply (hd : ∀ (n : Fin 2816) (k : Fin 1024), d (ix2 n k) = D n.val k.val) (m : ℕ) (hm : m < 11) (n : Fin 256) (k : Fin 1024) :
    downs d m (ix2 n k) = D (256 * m + n.val) k.val := by
  refine (congrArg d (funext fun a => Fin.ext ?_)).trans (hd ⟨256 * m + n.val, by omega⟩ k)
  match a with
  | ⟨0, _⟩ => show 256 * (m % 11) + 1 * n.val = 256 * m + n.val; omega
  | ⟨1, _⟩ => show 0 + 1 * k.val = k.val; omega

variable {x : Vec Ideal S1024x1024 .f32} {g g' : Vec Ideal S1x1x1024 .f32} {X : ℕ → ℕ → EReal} {G G' : ℕ → EReal}

/-- The two blocks at a row and a column. -/
theorem stored_apply (hx : ∀ (i : Fin 1024) (k : Fin 1024), x (ix2 i k) = X i.val k.val)
    (hG : ∀ k : Fin 1024, g (ix3 (0 : Fin 1) (0 : Fin 1) k) = G k.val) (hG' : ∀ k : Fin 1024, g' (ix3 (0 : Fin 1) (0 : Fin 1) k) = G' k.val)
    (hw : ∀ (k : Fin 1024) (n : Fin 5632), w (ix2 k n) = W k.val n.val)
    (hd : ∀ (n : Fin 2816) (k : Fin 1024), d (ix2 n k) = D n.val k.val) (y : S1024x1024.Idx) :
    View.canon (Val := Elt Ideal) (s := S1024x1024) (e := .f32)
      [⟨r0_36, block (View.ld x r0_36) g g' (gates w) (lins w) (downs d)⟩, ⟨r0_0, block (View.ld x r0_0) g g' (gates w) (lins w) (downs d)⟩] y
      = out (X (y 0).val) G G' W D (y 1).val := by
  by_cases hy : (y 0).val < 512
  · rw [upper _ _ y hy]
    refine block_apply (X := X) (fun i k => ?_) hG hG' (gates_apply hw) (lins_apply hw) (downs_apply hd) _ _
    refine (congrArg x (funext fun a => Fin.ext ?_)).trans (hx ⟨i.val, by omega⟩ k)
    match a with
    | ⟨0, _⟩ => show 0 + 1 * i.val = i.val; omega
    | ⟨1, _⟩ => show 0 + 1 * k.val = k.val; omega
  · have h0 : (y 0).val < 1024 := (y 0).isLt
    obtain ⟨j, hj⟩ : ∃ j : Fin 512, (y 0).val = 512 + j.val := ⟨⟨(y 0).val - 512, by omega⟩, by show _ = 512 + ((y 0).val - 512); omega⟩
    rw [lower _ _ y j hj, hj]
    refine block_apply (X := fun i => X (512 + i)) (fun i k => ?_) hG hG' (gates_apply hw) (lins_apply hw) (downs_apply hd) _ _
    refine (congrArg x (funext fun a => Fin.ext ?_)).trans (hx ⟨512 + i.val, by omega⟩ k)
    match a with
    | ⟨0, _⟩ => show 512 + 1 * i.val = 512 + i.val; omega
    | ⟨1, _⟩ => show 0 + 1 * k.val = k.val; omega

end

end Ffn.Block

end
-- ==== Proof.FfnArray2.lean ====
/-
  The last feed-forward call over its whole grid: the result array is the feed-forward part of every row.
-/
module

public import proofs.«01_k».proof.Proof.FfnRead
public import proofs.«01_k».proof.Proof.FfnStored
public import proofs.«01_k».proof.Proof.Gen.Kernel2Ideal.Value

@[expose] public section

noncomputable section

namespace Ffn.Array2

open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel2Ideal Cert.Kernel2Ideal.Gen

variable (m : (ℓ : Loc nD τ sig) → Buf (Elt Ideal) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 1 ∧ win0_1.index t 1 = 0 ∧ win0_1.index t 2 = 0 :=
  (by decide +kernel : ∀ t : Fin grid0.N, win0_1.index t 0 = 1 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The call's arguments. -/
abbrev rows : (⟨2, ![16384, 1024]⟩ : Shape).Idx → EReal := m ((c : Thread nD τ).loc main_arg0)
abbrev gains : (⟨3, ![2, 6, 1024]⟩ : Shape).Idx → EReal := m ((c : Thread nD τ).loc main_arg1)
abbrev wUp : (⟨2, ![1024, 5632]⟩ : Shape).Idx → EReal := m ((c : Thread nD τ).loc main_arg2)
abbrev wDown : (⟨2, ![2816, 1024]⟩ : Shape).Idx → EReal := m ((c : Thread nD τ).loc main_arg3)

section
variable (t : Fin cfg0.N)

theorem iblk0 (i k : Fin 1024) : (iblk m c 0 t : Vec Ideal S1024x1024 .f32) (ix2 i k) = at2 (rows m c) (1024 * t.val + i.val) k.val := by
  obtain ⟨e0, e1⟩ := index0 t
  unfold iblk
  rw [View.read_apply]
  refine at2_eq (rows m c) _ ?_ ?_
  · show win0_0.index t 0 * 1024 + 1 * i.val = 1024 * t.val + i.val; omega
  · show win0_0.index t 1 * 1024 + 1 * k.val = k.val; omega

theorem iblk1 (n : Fin 6) (k : Fin 1024) : (iblk m c 1 t : Vec Ideal S1x6x1024 .f32) (ix3 (0 : Fin 1) n k) = at3 (gains m c) 1 n.val k.val := by
  obtain ⟨e0, e1, e2⟩ := index1 t
  unfold iblk
  rw [View.read_apply]
  refine at3_eq (gains m c) _ ?_ ?_ ?_
  · show win0_1.index t 0 * 1 + 1 * 0 = 1; omega
  · show win0_1.index t 1 * 6 + 1 * n.val = n.val; omega
  · show win0_1.index t 2 * 1024 + 1 * k.val = k.val; omega

theorem iblk2 (k : Fin 1024) (n : Fin 5632) : (iblk m c 2 t : Vec Ideal S1024x5632 .bf16) (ix2 k n) = at2 (wUp m c) k.val n.val := by
  obtain ⟨e0, e1⟩ := index2 t
  unfold iblk
  rw [View.read_apply]
  refine at2_eq (wUp m c) _ ?_ ?_
  · show win0_2.index t 0 * 1024 + 1 * k.val = k.val; omega
  · show win0_2.index t 1 * 5632 + 1 * n.val = n.val; omega

theorem iblk3 (n : Fin 2816) (k : Fin 1024) : (iblk m c 3 t : Vec Ideal S2816x1024 .bf16) (ix2 n k) = at2 (wDown m c) n.val k.val := by
  obtain ⟨e0, e1⟩ := index3 t
  unfold iblk
  rw [View.read_apply]
  refine at2_eq (wDown m c) _ ?_ ?_
  · show win0_3.index t 0 * 2816 + 1 * n.val = n.val; omega
  · show win0_3.index t 1 * 1024 + 1 * k.val = k.val; omega

theorem gain4 (k : Fin 1024) : View.ld (iblk m c 1 t : Vec Ideal S1x6x1024 .f32) r0_1 (ix3 (0 : Fin 1) (0 : Fin 1) k) = at3 (gains m c) 1 4 k.val := by
  refine (congrArg (iblk m c 1 t : Vec Ideal S1x6x1024 .f32) (funext fun a => Fin.ext ?_)).trans (iblk1 m c t 4 k)
  match a with
  | ⟨0, _⟩ => rfl
  | ⟨1, _⟩ => rfl
  | ⟨2, _⟩ => show 0 + 1 * k.val = k.val; omega

theorem gain5 (k : Fin 1024) : View.ld (iblk m c 1 t : Vec Ideal S1x6x1024 .f32) r0_35 (ix3 (0 : Fin 1) (0 : Fin 1) k) = at3 (gains m c) 1 5 k.val := by
  refine (congrArg (iblk m c 1 t : Vec Ideal S1x6x1024 .f32) (funext fun a => Fin.ext ?_)).trans (iblk1 m c t 5 k)
  match a with
  | ⟨0, _⟩ => rfl
  | ⟨1, _⟩ => rfl
  | ⟨2, _⟩ => show 0 + 1 * k.val = k.val; omega

/-- What point `t` stores. -/
theorem point_out (y : S1024x1024.Idx) :
    out0_4 (F := Ideal) (iblk m c 0 t) (iblk m c 1 t) (iblk m c 2 t) (iblk m c 3 t) y
      = out (at2 (rows m c) (1024 * t.val + (y 0).val)) (at3 (gains m c) 1 4) (at3 (gains m c) 1 5) (at2 (wUp m c)) (at2 (wDown m c)) (y 1).val := by
  rw [Block.out2]
  exact Block.stored_apply (X := fun i => at2 (rows m c) (1024 * t.val + i)) (iblk0 m c t) (gain4 m c t) (gain5 m c t) (iblk2 m c t) (iblk3 m c t) y

theorem flushed_eq : (dats m 0 c).flushed 4 t
    = ((cfg0.win 4).blk t).view.read (Elt Ideal) (result 1 4 5 (rows m c) (gains m c) (wUp m c) (wDown m c)) := by
  obtain ⟨e0, e1⟩ := index4 t
  rw [Cert.Kernel2Ideal.Value.flushed4]
  refine funext fun y => ?_
  rw [View.read_apply]
  refine (point_out m c t y).trans ?_
  have h0 : (((cfg0.win 4).blk t).view.emb y 0).val = 1024 * t.val + (y 0).val := by
    show win0_4.index t 0 * 1024 + 1 * (y 0).val = _; omega
  have h1 : (((cfg0.win 4).blk t).view.emb y 1).val = (y 1).val := by
    show win0_4.index t 1 * 1024 + 1 * (y 1).val = _; omega
  show _ = out (at2 _ (((cfg0.win 4).blk t).view.emb y 0).val) _ _ _ _ (((cfg0.win 4).blk t).view.emb y 1).val
  rw [h0, h1]

end

/-- Every row is a row of a point. -/
theorem cover (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  obtain ⟨t, ht⟩ : ∃ t : Fin cfg0.N, t.val = (i 0).val / 1024 := ⟨⟨(i 0).val / 1024, by show _ < grid0.N; rw [N_0]; omega⟩, rfl⟩
  obtain ⟨e0, e1⟩ := index4 t
  refine ⟨t, flush0_4 t, ?_⟩
  have he : ((cfg0.win 4).blk t).view.emb (ix2 (⟨(i 0).val % 1024, Nat.mod_lt _ (by decide)⟩ : Fin 1024) (i 1)) = i :=
    funext fun a => Fin.ext (by
      match a with
      | ⟨0, _⟩ => show win0_4.index t 0 * 1024 + 1 * ((i 0).val % 1024) = (i 0).val; omega
      | ⟨1, _⟩ => show win0_4.index t 1 * 1024 + 1 * (i 1).val = (i 1).val; omega)
  rw [← he]
  exact Finset.mem_map_of_mem _ (Finset.mem_univ _)

/-- The result array after the run. -/
theorem kernel_eq : (dats m 0 c).arrAt 4 cfg0.N = result 1 4 5 (rows m c) (gains m c) (wUp m c) (wDown m c) :=
  (dats m 0 c).arrAt_eq_of_cover 4 (result 1 4 5 (rows m c) (gains m c) (wUp m c) (wDown m c)) (fun t _ => flushed_eq m c t) (fun i => cover i)

end Ffn.Array2

end
-- ==== Proof.FfnRun3.lean ====
/-
  What one grid step of the first layer's feed-forward call stores in its first result is two blocks of `Ffn.Block`.
-/
module

public import proofs.«01_k».proof.Proof.FfnRun2
public import proofs.«01_k».proof.Proof.Gen.Kernel3Ideal.Frame

@[expose] public section

noncomputable section

namespace Ffn.Block

open Idealize.ShloMosaic Cert.Kernel3Ideal Cert.Kernel3Ideal.Gen

variable {F : FTy → Type} [FloatOps F]

theorem out3 (x0 : Vec F S1024x1024 .f32) (x1 : Vec F S1x6x1024 .f32) (x2 : Vec F S1024x5632 .bf16) (x3 : Vec F S2816x1024 .bf16)
    (x4 : Vec F S1x64x4864 .f32) (x5 : Vec F S1x32x1024 .f32) (x6 : Vec F S1x32x1024 .f32) (x7 : Vec F S1x64x1024 .f32)
    (x8 : Vec F S1x64x5632 .f32) (x9 : Vec F S1x176x1024 .f32) :
    out0_10 x0 x1 x2 x3 x4 x5 x6 x7 x8 x9 = View.canon
      [⟨r0_36, block (View.ld x0 r0_36) (View.ld x1 r0_1) (View.ld x1 r0_35) (gates x2) (lins x2) (downs x3)⟩,
       ⟨r0_0, block (View.ld x0 r0_0) (View.ld x1 r0_1) (View.ld x1 r0_35) (gates x2) (lins x2) (downs x3)⟩] := by
  sl_kernel_rfl

end Ffn.Block

end
-- ==== Proof.FfnArray3.lean ====
/-
  The first layer's feed-forward call over its whole grid: the first result array is the feed-forward part of every row.
-/
module

public import proofs.«01_k».proof.Proof.FfnRead
public import proofs.«01_k».proof.Proof.FfnStored
public import proofs.«01_k».proof.Proof.FfnRun3
public import proofs.«01_k».proof.Proof.Gen.Kernel3Ideal.Value

@[expose] public section

noncomputable section

namespace Ffn.Array3

open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel3Ideal Cert.Kernel3Ideal.Gen

variable (m : (ℓ : Loc nD τ sig) → Buf (Elt Ideal) ℓ) (c : Dev nD)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index10 : ∀ t : Fin cfg0.N, win0_10.index t 0 = t.val ∧ win0_10.index t 1 = 0 :=
  (by decide +kernel : ∀ t : Fin grid0.N, win0_10.index t 0 = t.val ∧ win0_10.index t 1 = 0)

/-- The call's arguments. -/
abbrev rows : (⟨2, ![16384, 1024]⟩ : Shape).Idx → EReal := m ((c : Thread nD τ).loc main_arg0)
abbrev gains : (⟨3, ![2, 6, 1024]⟩ : Shape).Idx → EReal := m ((c : Thread nD τ).loc main_arg1)
abbrev wUp : (⟨2, ![1024, 5632]⟩ : Shape).Idx → EReal := m ((c : Thread nD τ).loc main_arg2)
abbrev wDown : (⟨2, ![2816, 1024]⟩ : Shape).Idx → EReal := m ((c : Thread nD τ).loc main_arg3)

section
variable (t : Fin cfg0.N)

theorem iblk0 (i k : Fin 1024) : (iblk m c 0 t : Vec Ideal S1024x1024 .f32) (ix2 i k) = at2 (rows m c) (1024 * t.val + i.val) k.val := by
  obtain ⟨e0, e1⟩ := index0 t
  unfold iblk
  rw [View.read_apply]
  refine at2_eq (rows m c) _ ?_ ?_
  · show win0_0.index t 0 * 1024 + 1 * i.val = 1024 * t.val + i.val; omega
  · show win0_0.index t 1 * 1024 + 1 * k.val = k.val; omega

theorem iblk1 (n : Fin 6) (k : Fin 1024) : (iblk m c 1 t : Vec Ideal S1x6x1024 .f32) (ix3 (0 : Fin 1) n k) = at3 (gains m c) 0 n.val k.val := by
  obtain ⟨e0, e1, e2⟩ := index1 t
  unfold iblk
  rw [View.read_apply]
  refine at3_eq (gains m c) _ ?_ ?_ ?_
  · show win0_1.index t 0 * 1 + 1 * 0 = 0; omega
  · show win0_1.index t 1 * 6 + 1 * n.val = n.val; omega
  · show win0_1.index t 2 * 1024 + 1 * k.val = k.val; omega

theorem iblk2 (k : Fin 1024) (n : Fin 5632) : (iblk m c 2 t : Vec Ideal S1024x5632 .bf16) (ix2 k n) = at2 (wUp m c) k.val n.val := by
  obtain ⟨e0, e1⟩ := index2 t
  unfold iblk
  rw [View.read_apply]
  refine at2_eq (wUp m c) _ ?_ ?_
  · show win0_2.index t 0 * 1024 + 1 * k.val = k.val; omega
  · show win0_2.index t 1 * 5632 + 1 * n.val = n.val; omega

theorem iblk3 (n : Fin 2816) (k : Fin 1024) : (iblk m c 3 t : Vec Ideal S2816x1024 .bf16) (ix2 n k) = at2 (wDown m c) n.val k.val := by
  obtain ⟨e0, e1⟩ := index3 t
  unfold iblk
  rw [View.read_apply]
  refine at2_eq (wDown m c) _ ?_ ?_
  · show win0_3.index t 0 * 2816 + 1 * n.val = n.val; omega
  · show win0_3.index t 1 * 1024 + 1 * k.val = k.val; omega

theorem gain0 (k : Fin 1024) : View.ld (iblk m c 1 t : Vec Ideal S1x6x1024 .f32) r0_1 (ix3 (0 : Fin 1) (0 : Fin 1) k) = at3 (gains m c) 0 0 k.val := by
  refine (congrArg (iblk m c 1 t : Vec Ideal S1x6x1024 .f32) (funext fun a => Fin.ext ?_)).trans (iblk1 m c t 0 k)
  match a with
  | ⟨0, _⟩ => rfl
  | ⟨1, _⟩ => rfl
  | ⟨2, _⟩ => show 0 + 1 * k.val = k.val; omega

theorem gain1 (k : Fin 1024) : View.ld (iblk m c 1 t : Vec Ideal S1x6x1024 .f32) r0_35 (ix3 (0 : Fin 1) (0 : Fin 1) k) = at3 (gains m c) 0 1 k.val := by
  refine (congrArg (iblk m c 1 t : Vec Ideal S1x6x1024 .f32) (funext fun a => Fin.ext ?_)).trans (iblk1 m c t 1 k)
  match a with
  | ⟨0, _⟩ => rfl
  | ⟨1, _⟩ => rfl
  | ⟨2, _⟩ => show 0 + 1 * k.val = k.val; omega

/-- What point `t` stores. -/
theorem point_out (y : S1024x1024.Idx) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) y
      = out (at2 (rows m c) (1024 * t.val + (y 0).val)) (at3 (gains m c) 0 0) (at3 (gains m c) 0 1) (at2 (wUp m c)) (at2 (wDown m c)) (y 1).val := by
  rw [Block.out3]
  exact Block.stored_apply (X := fun i => at2 (rows m c) (1024 * t.val + i)) (iblk0 m c t) (gain0 m c t) (gain1 m c t) (iblk2 m c t) (iblk3 m c t) y

theorem flushed_eq : (dats m 0 c).flushed 10 t
    = ((cfg0.win 10).blk t).view.read (Elt Ideal) (result 0 0 1 (rows m c) (gains m c) (wUp m c) (wDown m c)) := by
  obtain ⟨e0, e1⟩ := index10 t
  rw [Cert.Kernel3Ideal.Value.flushed10]
  refine funext fun y => ?_
  rw [View.read_apply]
  refine (point_out m c t y).trans ?_
  have h0 : (((cfg0.win 10).blk t).view.emb y 0).val = 1024 * t.val + (y 0).val := by
    show win0_10.index t 0 * 1024 + 1 * (y 0).val = _; omega
  have h1 : (((cfg0.win 10).blk t).view.emb y 1).val = (y 1).val := by
    show win0_10.index t 1 * 1024 + 1 * (y 1).val = _; omega
  show _ = out (at2 _ (((cfg0.win 10).blk t).view.emb y 0).val) _ _ _ _ (((cfg0.win 10).blk t).view.emb y 1).val
  rw [h0, h1]

end

/-- Every row is a row of a point. -/
theorem cover (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  obtain ⟨t, ht⟩ : ∃ t : Fin cfg0.N, t.val = (i 0).val / 1024 := ⟨⟨(i 0).val / 1024, by show _ < grid0.N; rw [N_0]; omega⟩, rfl⟩
  obtain ⟨e0, e1⟩ := index10 t
  refine ⟨t, flush0_10 t, ?_⟩
  have he : ((cfg0.win 10).blk t).view.emb (ix2 (⟨(i 0).val % 1024, Nat.mod_lt _ (by decide)⟩ : Fin 1024) (i 1)) = i :=
    funext fun a => Fin.ext (by
      match a with
      | ⟨0, _⟩ => show win0_10.index t 0 * 1024 + 1 * ((i 0).val % 1024) = (i 0).val; omega
      | ⟨1, _⟩ => show win0_10.index t 1 * 1024 + 1 * (i 1).val = (i 1).val; omega)
  rw [← he]
  exact Finset.mem_map_of_mem _ (Finset.mem_univ _)

/-- The result array after the run. -/
theorem kernel_eq : (dats m 0 c).arrAt 10 cfg0.N = result 0 0 1 (rows m c) (gains m c) (wUp m c) (wDown m c) :=
  (dats m 0 c).arrAt_eq_of_cover 10 (result 0 0 1 (rows m c) (gains m c) (wUp m c) (wDown m c)) (fun t _ => flushed_eq m c t) (fun i => cover i)

end Ffn.Array3

end
-- ==== Proof.Rows.lean ====
/-
  Arrays that a call reads or writes in blocks of whole rows.
-/
module

public import proofs.«01_k».proof.Proof.FfnRead

@[expose] public section

noncomputable section

namespace Rows

open Ffn
open Idealize.ShloMosaic hiding ix1 ix2 ix3 ix4 eq_ix2 eq_ix3
open Idealize.ShloMosaic.ValueIdx (ix1 ix2 ix3 ix4 eq_ix2 eq_ix3)

variable {T : Type} {B R C : ℕ}

/-- A block that holds the rows from `B * k` of an array is read at them. -/
theorem read {o : (⟨2, ![B, C]⟩ : Shape).Idx → EReal} {G : (⟨2, ![R, C]⟩ : Shape).Idx → EReal} {k a b : ℕ} (hab : a = k ∧ b = 0)
    (e : (⟨2, ![B, C]⟩ : Shape).Idx → (⟨2, ![R, C]⟩ : Shape).Idx)
    (h0 : ∀ y, (e y 0).val = a * B + 1 * (y 0).val) (h1 : ∀ y, (e y 1).val = b * C + 1 * (y 1).val)
    (ho : ∀ (i : Fin B) (n : Fin C) (j : Fin R), j.val = B * k + i.val → o (ix2 i n) = G (ix2 j n)) : o = fun y => G (e y) := by
  refine funext fun y => ?_
  have hy : y = ix2 (y 0) (y 1) := eq_ix2 y
  have he : e y = ix2 (e y 0) (y 1) := by
    refine (eq_ix2 (e y)).trans (congrArg (ix2 (e y 0)) (Fin.ext ?_))
    rw [h1 y, hab.2, Nat.zero_mul, Nat.zero_add, Nat.one_mul]
  rw [he]
  refine (congrArg o hy).trans (ho (y 0) (y 1) (e y 0) ?_)
  rw [h0 y, hab.1, Nat.one_mul, Nat.mul_comm]

/-- Where some point has each block of rows, every index is in a point's block. -/
theorem cover {P : T → Prop} (hB : 0 < B) {k a b : T → ℕ} (hab : ∀ t, a t = k t ∧ b t = 0)
    (e : T → (⟨2, ![B, C]⟩ : Shape).Idx → (⟨2, ![R, C]⟩ : Shape).Idx)
    (h0 : ∀ t y, (e t y 0).val = a t * B + 1 * (y 0).val) (h1 : ∀ t y, (e t y 1).val = b t * C + 1 * (y 1).val)
    (hit : ∀ q, q * B < R → ∃ t, P t ∧ k t = q) (i : (⟨2, ![R, C]⟩ : Shape).Idx) : ∃ t, P t ∧ ∃ y, e t y = i := by
  have hi : (i 0).val < R := (i 0).isLt
  obtain ⟨t, ht, hk⟩ := hit ((i 0).val / B) (lt_of_le_of_lt (Nat.div_mul_le_self _ _) hi)
  refine ⟨t, ht, ix2 (⟨(i 0).val % B, Nat.mod_lt _ hB⟩ : Fin B) (i 1), funext fun x => Fin.ext ?_⟩
  match x with
  | ⟨0, _⟩ =>
    refine (h0 t _).trans ?_
    show a t * B + 1 * ((i 0).val % B) = (i 0).val
    rw [(hab t).1, hk, Nat.one_mul, Nat.mul_comm, Nat.div_add_mod]
  | ⟨1, _⟩ =>
    refine (h1 t _).trans ?_
    show b t * C + 1 * (i 1).val = (i 1).val
    rw [(hab t).2, Nat.zero_mul, Nat.zero_add, Nat.one_mul]

/-- An entry of a block of rows of the first layer's matrix. -/
theorem entry [NeZero R] [NeZero C] (g : (⟨3, ![2, R, C]⟩ : Shape).Idx → EReal) {k a b d : ℕ} (hab : a = 0 ∧ b = k ∧ d = 0)
    (e : (⟨3, ![1, B, C]⟩ : Shape).Idx → (⟨3, ![2, R, C]⟩ : Shape).Idx) (h0 : ∀ z, (e z 0).val = a * 1 + 1 * (z 0).val)
    (h1 : ∀ z, (e z 1).val = b * B + 1 * (z 1).val) (h2 : ∀ z, (e z 2).val = d * C + 1 * (z 2).val) (z : (⟨3, ![1, B, C]⟩ : Shape).Idx) :
    g (e z) = at3 g 0 (B * k + (z 1).val) (z 2).val := by
  have hz : (z 0).val < 1 := (z 0).isLt
  refine at3_eq g _ ?_ ?_ ?_
  · rw [h0, hab.1]; omega
  · rw [h1, hab.2.1, Nat.one_mul, Nat.mul_comm]
  · rw [h2, hab.2.2, Nat.zero_mul, Nat.zero_add, Nat.one_mul]

end Rows

end
-- ==== Proof.FfnCast3.lean ====
/-
  The weight matrices that the first layer's feed-forward call writes in a narrower format: each array after the run is
  the first layer's matrix.
-/
module

public import proofs.«01_k».proof.Proof.Rows
public import proofs.«01_k».proof.Proof.Gen.Kernel3Ideal.Value

@[expose] public section

noncomputable section

namespace Ffn.Cast3

open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel3Ideal Cert.Kernel3Ideal.Gen

variable (m : (ℓ : Loc nD τ sig) → Buf (Elt Ideal) ℓ) (c : Dev nD)

/-- Each point reads a block of rows of the first layer's matrices, -/
theorem sources : ∀ t : Fin cfg0.N, (win0_4.index t 0 = 0 ∧ win0_4.index t 1 = t.val ∧ win0_4.index t 2 = 0) ∧ (win0_5.index t 0 = 0 ∧ win0_5.index t 1 = t.val ∧ win0_5.index t 2 = 0) ∧ (win0_6.index t 0 = 0 ∧ win0_6.index t 1 = t.val ∧ win0_6.index t 2 = 0) ∧ (win0_7.index t 0 = 0 ∧ win0_7.index t 1 = t.val ∧ win0_7.index t 2 = 0) ∧ (win0_8.index t 0 = 0 ∧ win0_8.index t 1 = t.val ∧ win0_8.index t 2 = 0) ∧ (win0_9.index t 0 = 0 ∧ win0_9.index t 1 = t.val ∧ win0_9.index t 2 = 0) :=
  (by decide +kernel : ∀ t : Fin grid0.N, (win0_4.index t 0 = 0 ∧ win0_4.index t 1 = t.val ∧ win0_4.index t 2 = 0) ∧ (win0_5.index t 0 = 0 ∧ win0_5.index t 1 = t.val ∧ win0_5.index t 2 = 0) ∧ (win0_6.index t 0 = 0 ∧ win0_6.index t 1 = t.val ∧ win0_6.index t 2 = 0) ∧ (win0_7.index t 0 = 0 ∧ win0_7.index t 1 = t.val ∧ win0_7.index t 2 = 0) ∧ (win0_8.index t 0 = 0 ∧ win0_8.index t 1 = t.val ∧ win0_8.index t 2 = 0) ∧ (win0_9.index t 0 = 0 ∧ win0_9.index t 1 = t.val ∧ win0_9.index t 2 = 0))
/-- and writes the same rows. -/
theorem targets : ∀ t : Fin cfg0.N, (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) :=
  (by decide +kernel : ∀ t : Fin grid0.N, (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0))

theorem point_of {B R : ℕ} (hR : R = 16 * B) (q : ℕ) (h : q * B < R) : ∃ t : Fin cfg0.N, True ∧ t.val = q :=
  ⟨⟨q, by show q < grid0.N; rw [N_0]; exact lt_of_mul_lt_mul_right (h.trans_eq hR) (Nat.zero_le B)⟩, trivial, rfl⟩

/-- A result's array, from its blocks. -/
theorem array_of (w : Fin cfg0.W) (hw : ∀ t, (cfg0.win w).flush t = true) (G : Buf (Elt Ideal) ((cfg0.win w).arr.view.loc (c.tc : Thread nD τ)))
    (hG : ∀ t : Fin cfg0.N, (dats m 0 c).flushed w t = ((cfg0.win w).blk t).view.read (Elt Ideal) G)
    (hc : ∀ i : (cfg0.win w).arr.view.ty.Idx, ∃ t : Fin cfg0.N, True ∧ ∃ y, ((cfg0.win w).blk t).view.emb y = i) : (dats m 0 c).arrAt w cfg0.N = G :=
  (dats m 0 c).arrAt_eq_of_cover w G (fun t _ => hG t) fun i => by
    obtain ⟨t, -, y, rfl⟩ := hc i
    exact ⟨t, hw t, Finset.mem_map_of_mem _ (Finset.mem_univ _)⟩

abbrev arg4 : (⟨3, ![2, 1024, 4864]⟩ : Shape).Idx → EReal := m ((c : Thread nD τ).loc main_arg4)

theorem cast4 : (dats m 0 c).arrAt 11 cfg0.N = first (arg4 m c) :=
  array_of m c 11 flush0_11 _
    (fun t => Rows.read (o := (dats m 0 c).flushed 11 t) (G := first (arg4 m c)) (targets t).1 ((cfg0.win 11).blk t).view.emb (fun _ => rfl) (fun _ => rfl) fun i n j hj => by
      refine (congrFun (Cert.Kernel3Ideal.Value.flushed11 m c t) _).trans ((Cert.Kernel3Ideal.Value.canon11_eq _ (ix2 i n)).trans ?_)
      refine (Rows.entry (arg4 m c) (sources t).1 ((cfg0.win 4).blk t).view.emb (fun _ => rfl) (fun _ => rfl) (fun _ => rfl) _).trans ?_
      show at3 (arg4 m c) 0 (64 * t.val + (0 + 1 * i.val)) (0 + 1 * n.val) = at3 (arg4 m c) 0 j.val n.val
      rw [Nat.one_mul, Nat.one_mul, Nat.zero_add, Nat.zero_add, ← hj])
    (Rows.cover (by decide) (fun t => (targets t).1) (fun t => ((cfg0.win 11).blk t).view.emb) (fun _ _ => rfl) (fun _ _ => rfl) (point_of rfl))

abbrev arg5 : (⟨3, ![2, 512, 1024]⟩ : Shape).Idx → EReal := m ((c : Thread nD τ).loc main_arg5)

theorem cast5 : (dats m 0 c).arrAt 12 cfg0.N = first (arg5 m c) :=
  array_of m c 12 flush0_12 _
    (fun t => Rows.read (o := (dats m 0 c).flushed 12 t) (G := first (arg5 m c)) (targets t).2.1 ((cfg0.win 12).blk t).view.emb (fun _ => rfl) (fun _ => rfl) fun i n j hj => by
      refine (congrFun (Cert.Kernel3Ideal.Value.flushed12 m c t) _).trans ((Cert.Kernel3Ideal.Value.canon12_eq _ (ix2 i n)).trans ?_)
      refine (Rows.entry (arg5 m c) (sources t).2.1 ((cfg0.win 5).blk t).view.emb (fun _ => rfl) (fun _ => rfl) (fun _ => rfl) _).trans ?_
      show at3 (arg5 m c) 0 (32 * t.val + (0 + 1 * i.val)) (0 + 1 * n.val) = at3 (arg5 m c) 0 j.val n.val
      rw [Nat.one_mul, Nat.one_mul, Nat.zero_add, Nat.zero_add, ← hj])
    (Rows.cover (by decide) (fun t => (targets t).2.1) (fun t => ((cfg0.win 12).blk t).view.emb) (fun _ _ => rfl) (fun _ _ => rfl) (point_of rfl))

abbrev arg6 : (⟨3, ![2, 512, 1024]⟩ : Shape).Idx → EReal := m ((c : Thread nD τ).loc main_arg6)

theorem cast6 : (dats m 0 c).arrAt 13 cfg0.N = first (arg6 m c) :=
  array_of m c 13 flush0_13 _
    (fun t => Rows.read (o := (dats m 0 c).flushed 13 t) (G := first (arg6 m c)) (targets t).2.2.1 ((cfg0.win 13).blk t).view.emb (fun _ => rfl) (fun _ => rfl) fun i n j hj => by
      refine (congrFun (Cert.Kernel3Ideal.Value.flushed13 m c t) _).trans ((Cert.Kernel3Ideal.Value.canon13_eq _ (ix2 i n)).trans ?_)
      refine (Rows.entry (arg6 m c) (sources t).2.2.1 ((cfg0.win 6).blk t).view.emb (fun _ => rfl) (fun _ => rfl) (fun _ => rfl) _).trans ?_
      show at3 (arg6 m c) 0 (32 * t.val + (0 + 1 * i.val)) (0 + 1 * n.val) = at3 (arg6 m c) 0 j.val n.val
      rw [Nat.one_mul, Nat.one_mul, Nat.zero_add, Nat.zero_add, ← hj])
    (Rows.cover (by decide) (fun t => (targets t).2.2.1) (fun t => ((cfg0.win 13).blk t).view.emb) (fun _ _ => rfl) (fun _ _ => rfl) (point_of rfl))

abbrev arg7 : (⟨3, ![2, 1024, 1024]⟩ : Shape).Idx → EReal := m ((c : Thread nD τ).loc main_arg7)

theorem cast7 : (dats m 0 c).arrAt 14 cfg0.N = first (arg7 m c) :=
  array_of m c 14 flush0_14 _
    (fun t => Rows.read (o := (dats m 0 c).flushed 14 t) (G := first (arg7 m c)) (targets t).2.2.2.1 ((cfg0.win 14).blk t).view.emb (fun _ => rfl) (fun _ => rfl) fun i n j hj => by
      refine (congrFun (Cert.Kernel3Ideal.Value.flushed14 m c t) _).trans ((Cert.Kernel3Ideal.Value.canon14_eq _ (ix2 i n)).trans ?_)
      refine (Rows.entry (arg7 m c) (sources t).2.2.2.1 ((cfg0.win 7).blk t).view.emb (fun _ => rfl) (fun _ => rfl) (fun _ => rfl) _).trans ?_
      show at3 (arg7 m c) 0 (64 * t.val + (0 + 1 * i.val)) (0 + 1 * n.val) = at3 (arg7 m c) 0 j.val n.val
      rw [Nat.one_mul, Nat.one_mul, Nat.zero_add, Nat.zero_add, ← hj])
    (Rows.cover (by decide) (fun t => (targets t).2.2.2.1) (fun t => ((cfg0.win 14).blk t).view.emb) (fun _ _ => rfl) (fun _ _ => rfl) (point_of rfl))

abbrev arg8 : (⟨3, ![2, 1024, 5632]⟩ : Shape).Idx → EReal := m ((c : Thread nD τ).loc main_arg8)

theorem cast8 : (dats m 0 c).arrAt 15 cfg0.N = first (arg8 m c) :=
  array_of m c 15 flush0_15 _
    (fun t => Rows.read (o := (dats m 0 c).flushed 15 t) (G := first (arg8 m c)) (targets t).2.2.2.2.1 ((cfg0.win 15).blk t).view.emb (fun _ => rfl) (fun _ => rfl) fun i n j hj => by
      refine (congrFun (Cert.Kernel3Ideal.Value.flushed15 m c t) _).trans ((Cert.Kernel3Ideal.Value.canon15_eq _ (ix2 i n)).trans ?_)
      refine (Rows.entry (arg8 m c) (sources t).2.2.2.2.1 ((cfg0.win 8).blk t).view.emb (fun _ => rfl) (fun _ => rfl) (fun _ => rfl) _).trans ?_
      show at3 (arg8 m c) 0 (64 * t.val + (0 + 1 * i.val)) (0 + 1 * n.val) = at3 (arg8 m c) 0 j.val n.val
      rw [Nat.one_mul, Nat.one_mul, Nat.zero_add, Nat.zero_add, ← hj])
    (Rows.cover (by decide) (fun t => (targets t).2.2.2.2.1) (fun t => ((cfg0.win 15).blk t).view.emb) (fun _ _ => rfl) (fun _ _ => rfl) (point_of rfl))

abbrev arg9 : (⟨3, ![2, 2816, 1024]⟩ : Shape).Idx → EReal := m ((c : Thread nD τ).loc main_arg9)

theorem cast9 : (dats m 0 c).arrAt 16 cfg0.N = first (arg9 m c) :=
  array_of m c 16 flush0_16 _
    (fun t => Rows.read (o := (dats m 0 c).flushed 16 t) (G := first (arg9 m c)) (targets t).2.2.2.2.2 ((cfg0.win 16).blk t).view.emb (fun _ => rfl) (fun _ => rfl) fun i n j hj => by
      refine (congrFun (Cert.Kernel3Ideal.Value.flushed16 m c t) _).trans ((Cert.Kernel3Ideal.Value.canon16_eq _ (ix2 i n)).trans ?_)
      refine (Rows.entry (arg9 m c) (sources t).2.2.2.2.2 ((cfg0.win 9).blk t).view.emb (fun _ => rfl) (fun _ => rfl) (fun _ => rfl) _).trans ?_
      show at3 (arg9 m c) 0 (176 * t.val + (0 + 1 * i.val)) (0 + 1 * n.val) = at3 (arg9 m c) 0 j.val n.val
      rw [Nat.one_mul, Nat.one_mul, Nat.zero_add, Nat.zero_add, ← hj])
    (Rows.cover (by decide) (fun t => (targets t).2.2.2.2.2) (fun t => ((cfg0.win 16).blk t).view.emb) (fun _ _ => rfl) (fun _ _ => rfl) (point_of rfl))

end Ffn.Cast3

end
-- ==== Proof.FfnRef2.lean ====
/-
  The reference of the last feed-forward call, read at a row and a column.
-/
module

public import proofs.«01_k».proof.Proof.FfnRead
public import proofs.«01_k».proof.Proof.FfnBlock
public import proofs.«01_k».proof.Proof.Gen.Reference2Ideal.Run

@[expose] public section

noncomputable section

namespace Ffn.Ref2

open Idealize.ShloMosaic hiding ix1 ix2 ix3 ix4 eq_ix2 eq_ix3
open Idealize.ShloMosaic.ValueIdx (ix1 ix2 ix3 ix4 eq_ix2 eq_ix3)
open Idealize.ShloMosaic.TcCoe
open Cert.Reference2Ideal Cert.Reference2Ideal.Gen

/-- A row normalised. -/
def norm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
        (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The gates and the linear units of every row. -/
def units (h : FVec Ideal S16384x1024 .f32) (w : FVec Ideal S1024x5632 .f32) : FVec Ideal S16384x5632 .f32 :=
  Host.dotGeneral dot_S16384x1024_S1024x5632_S16384x5632_1_0_0_1_n_n none h w

/-- The hidden units, from the gates and the linear units. -/
def hiddens (u : FVec Ideal S16384x5632 .f32) : FVec Ideal S16384x2816 .f32 :=
  mulf (mulf (extractStridedSlice S16384x2816 ![0, 0] u slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] u slices_S16384x5632_S16384x2816_0_0))))))
    (extractStridedSlice S16384x2816 ![0, 2816] u slices_S16384x5632_S16384x2816_0_2816)

def downs (h : FVec Ideal S16384x2816 .f32) (d : FVec Ideal S2816x1024 .f32) : FVec Ideal S16384x1024 .f32 :=
  Host.dotGeneral dot_S16384x2816_S2816x1024_S16384x1024_1_0_0_1_n_n none h d

def whole (x : FVec Ideal S16384x1024 .f32) (g g' : FVec Ideal S1024 .f32) (w : FVec Ideal S1024x5632 .f32) (d : FVec Ideal S2816x1024 .f32) :
    FVec Ideal S16384x1024 .f32 :=
  addf x (mulf (broadcastInDim S16384x1024 ![] bcast_S_S16384x1024 (constant S_ .f32 0x3F000000#32))
    (norm (downs (hiddens (units (norm x g) w)) d) g'))

theorem one_word : Ideal.ofBits .f32 0x3F800000#32 = 1 := by
  have h : (1065353216 >>> 23) % 256 = 127 := by decide
  have h' : ¬ BitVec.extractLsb' 31 1 1065353216#32 = 1#1 := by decide
  norm_num [Ideal.ofBits, Ideal.ieee, h, h']

section
variable {X : ℕ → ℕ → EReal} {G G' : ℕ → EReal} {W D : ℕ → ℕ → EReal}

theorem norm_apply (x : FVec Ideal S16384x1024 .f32) (g : FVec Ideal S1024 .f32)
    (hx : ∀ (i : Fin 16384) (k : Fin 1024), x (ix2 i k) = X i.val k.val) (hg : ∀ k : Fin 1024, g (ix1 k) = G k.val)
    (i : Fin 16384) (k : Fin 1024) : norm x g (ix2 i k) = normed (X i.val) G k.val := by
  unfold norm
  simp only [pointwise]
  show x (ix2 i k) * Ideal.rsqrt (Ideal.div (0 + ∑ j : Fin 1024, x (ix2 i j) * x (ix2 i j)) cN + cE) * g (ix1 k) = _
  simp only [hx, hg, zero_add]
  rw [Block.sum_fin 1024 fun j => X i.val j * X i.val j]
  rfl

theorem units_apply (h : FVec Ideal S16384x1024 .f32) (w : FVec Ideal S1024x5632 .f32)
    (hx : ∀ (i : Fin 16384) (k : Fin 1024), h (ix2 i k) = X i.val k.val) (hw : ∀ (k : Fin 1024) (n : Fin 5632), w (ix2 k n) = W k.val n.val)
    (i : Fin 16384) (n : Fin 5632) : units h w (ix2 i n) = unit (X i.val) W n.val := by
  unfold units
  simp only [pointwise]
  show 0 + ∑ k : Fin 1024, h (ix2 i k) * w (ix2 k n) = _
  simp only [hx, hw, zero_add]
  exact Block.sum_fin 1024 fun k => X i.val k * W k n.val

theorem hiddens_apply (u : FVec Ideal S16384x5632 .f32) (hu : ∀ (i : Fin 16384) (n : Fin 5632), u (ix2 i n) = unit (X i.val) W n.val)
    (i : Fin 16384) (n : Fin 2816) : hiddens u (ix2 i n) = hidden (X i.val) W n.val := by
  unfold hiddens
  have h1 : extractStridedSlice S16384x2816 ![0, 0] u slices_S16384x5632_S16384x2816_0_0 (ix2 i n) = unit (X i.val) W n.val :=
    (congrArg u (funext fun a => Fin.ext (by
      match a with
      | ⟨0, _⟩ => show 0 + i.val = i.val; omega
      | ⟨1, _⟩ => show 0 + n.val = n.val; omega))).trans (hu i ⟨n.val, by omega⟩)
  have h2 : extractStridedSlice S16384x2816 ![0, 2816] u slices_S16384x5632_S16384x2816_0_2816 (ix2 i n) = unit (X i.val) W (2816 + n.val) :=
    (congrArg u (funext fun a => Fin.ext (by
      match a with
      | ⟨0, _⟩ => show 0 + i.val = i.val; omega
      | ⟨1, _⟩ => rfl))).trans (hu i ⟨2816 + n.val, by omega⟩)
  show extractStridedSlice S16384x2816 ![0, 0] u slices_S16384x5632_S16384x2816_0_0 (ix2 i n)
    * Ideal.div (Ideal.ofBits .f32 0x3F800000#32) (Ideal.ofBits .f32 0x3F800000#32
      + Ideal.exp (-(extractStridedSlice S16384x2816 ![0, 0] u slices_S16384x5632_S16384x2816_0_0 (ix2 i n))))
    * extractStridedSlice S16384x2816 ![0, 2816] u slices_S16384x5632_S16384x2816_0_2816 (ix2 i n) = _
  rw [h1, h2, one_word]
  rfl

theorem downs_apply (h : FVec Ideal S16384x2816 .f32) (d : FVec Ideal S2816x1024 .f32)
    (hx : ∀ (i : Fin 16384) (n : Fin 2816), h (ix2 i n) = hidden (X i.val) W n.val) (hd : ∀ (n : Fin 2816) (k : Fin 1024), d (ix2 n k) = D n.val k.val)
    (i : Fin 16384) (k : Fin 1024) : downs h d (ix2 i k) = down (X i.val) W D 2816 k.val := by
  unfold downs
  simp only [pointwise]
  show 0 + ∑ n : Fin 2816, h (ix2 i n) * d (ix2 n k) = _
  simp only [hx, hd, zero_add]
  exact Block.sum_fin 2816 fun n => hidden (X i.val) W n * D n k.val

theorem whole_apply (x : FVec Ideal S16384x1024 .f32) (g g' : FVec Ideal S1024 .f32) (w : FVec Ideal S1024x5632 .f32) (d : FVec Ideal S2816x1024 .f32)
    (hx : ∀ (i : Fin 16384) (k : Fin 1024), x (ix2 i k) = X i.val k.val)
    (hg : ∀ k : Fin 1024, g (ix1 k) = G k.val) (hg' : ∀ k : Fin 1024, g' (ix1 k) = G' k.val)
    (hw : ∀ (k : Fin 1024) (n : Fin 5632), w (ix2 k n) = W k.val n.val) (hd : ∀ (n : Fin 2816) (k : Fin 1024), d (ix2 n k) = D n.val k.val)
    (i : Fin 16384) (k : Fin 1024) : whole x g g' w d (ix2 i k) = out (X i.val) G G' W D k.val := by
  have h := norm_apply (X := fun i => down (normed (X i) G) W D 2816) (downs (hiddens (units (norm x g) w)) d) g'
    (downs_apply (X := fun i => normed (X i) G) _ d (hiddens_apply (X := fun i => normed (X i) G) _ (units_apply (X := fun i => normed (X i) G) _ w (norm_apply x g hx hg) hw)) hd) hg' i k
  exact congrArg₂ (· + ·) (hx i k) (congrArg (cH * ·) h)

end

/-- The gains of one normalisation, out of the gains of both layers. -/
theorem gain_apply (g : FVec Ideal S2x6x1024 .f32) (l n : ℕ) (hl : l < 2) (hn : n < 6) (h1 : S2x6x1024.Slices ![l, 0, 0] S1x6x1024)
    (h2 : S6x1024.Slices ![n, 0] S1x1024) (k : Fin 1024) :
    shapeCast S1024 (extractStridedSlice S1x1024 ![n, 0] (shapeCast S6x1024 (extractStridedSlice S1x6x1024 ![l, 0, 0] g h1)
      shapeCasts_S1x6x1024_S6x1024) h2) shapeCasts_S1x1024_S1024 (ix1 k) = at3 g l n k.val := by
  refine (shapeCast_apply _ _ (ix1 k) (ix2 (0 : Fin 1) k) ?_).trans ?_
  · rw [Shape.rowMajor_val_two, Shape.rowMajor_val_one]
    show 0 * 1024 + k.val = k.val
    omega
  · refine (shapeCast_apply _ _ _ (ix3 (0 : Fin 1) (⟨n, hn⟩ : Fin 6) k) ?_).trans ?_
    · rw [Shape.rowMajor_val_two, Shape.rowMajor_val_three]
      show (0 * 6 + n) * 1024 + k.val = (n + 0) * 1024 + (0 + k.val)
      omega
    · exact at3_eq g _ rfl (by show 0 + n = n; omega) (by show 0 + k.val = k.val; omega)

variable (m : (ℓ : Loc nD τ sig) → Buf (Elt Ideal) ℓ) (c : Dev nD)

theorem reference_eq : Cert.Reference2Ideal.Value.res_out0 m c
    = result 1 4 5 (m ((c : Thread nD τ).loc main_arg0)) (m ((c : Thread nD τ).loc main_arg1))
        (m ((c : Thread nD τ).loc main_arg2)) (m ((c : Thread nD τ).loc main_arg3)) := by
  refine funext fun y => ?_
  rw [eq_ix2 y]
  exact whole_apply (m ((c : Thread nD τ).loc main_arg0)) _ _ (m ((c : Thread nD τ).loc main_arg2)) (m ((c : Thread nD τ).loc main_arg3))
    (fun i k => at2_eq _ _ rfl rfl)
    (gain_apply (m ((c : Thread nD τ).loc main_arg1)) 1 4 (by decide) (by decide) slices_S2x6x1024_S1x6x1024_1_0_0 slices_S6x1024_S1x1024_4_0)
    (gain_apply (m ((c : Thread nD τ).loc main_arg1)) 1 5 (by decide) (by decide) slices_S2x6x1024_S1x6x1024_1_0_0 slices_S6x1024_S1x1024_5_0)
    (fun k n => at2_eq _ _ rfl rfl) (fun n k => at2_eq _ _ rfl rfl) (y 0) (y 1)

end Ffn.Ref2

end
-- ==== Proof.FfnRef3.lean ====
/-
  The reference of the first layer's feed-forward call, read at a row and a column: the rows as in `Ffn.Ref2`, and the
  first layer's matrices.
-/
module

public import proofs.«01_k».proof.Proof.FfnRef2
public import proofs.«01_k».proof.Proof.Gen.Reference3Ideal.Run

@[expose] public section

noncomputable section

namespace Ffn.Ref3

open Idealize.ShloMosaic hiding ix1 ix2 ix3 ix4 eq_ix2 eq_ix3
open Idealize.ShloMosaic.ValueIdx (ix1 ix2 ix3 ix4 eq_ix2 eq_ix3)
open Idealize.ShloMosaic.TcCoe
open Cert.Reference3Ideal Cert.Reference3Ideal.Gen

/-- The first layer's matrix, taken out of the array of both. -/
theorem first_eq {R C : ℕ} [NeZero R] [NeZero C] (a : (⟨3, ![2, R, C]⟩ : Shape).Idx → EReal)
    (h1 : (⟨3, ![2, R, C]⟩ : Shape).Slices ![0, 0, 0] ⟨3, ![1, R, C]⟩)
    (h2 : (⟨3, ![1, R, C]⟩ : Shape).ShapeCasts ⟨2, ![R, C]⟩) :
    shapeCast ⟨2, ![R, C]⟩ (extractStridedSlice ⟨3, ![1, R, C]⟩ ![0, 0, 0] a h1) h2 = first a := by
  refine funext fun y => (shapeCast_apply _ _ y (ix3 (0 : Fin 1) (y 0) (y 1)) ?_).trans ?_
  · rw [Shape.rowMajor_val_two, Shape.rowMajor_val_three]
    show (0 * R + (y 0).val) * C + (y 1).val = (y 0).val * C + (y 1).val
    rw [Nat.zero_mul, Nat.zero_add]
  · exact at3_eq a _ rfl (Nat.zero_add _) (Nat.zero_add _)

variable (m : (ℓ : Loc nD τ sig) → Buf (Elt Ideal) ℓ) (c : Dev nD)

theorem reference_eq : Cert.Reference3Ideal.Value.res_out0 m c
    = result 0 0 1 (m ((c : Thread nD τ).loc main_arg0)) (m ((c : Thread nD τ).loc main_arg1))
        (m ((c : Thread nD τ).loc main_arg2)) (m ((c : Thread nD τ).loc main_arg3)) := by
  refine funext fun y => ?_
  rw [eq_ix2 y]
  exact Ref2.whole_apply (m ((c : Thread nD τ).loc main_arg0)) _ _ (m ((c : Thread nD τ).loc main_arg2)) (m ((c : Thread nD τ).loc main_arg3))
    (fun i k => at2_eq _ _ rfl rfl)
    (Ref2.gain_apply (m ((c : Thread nD τ).loc main_arg1)) 0 0 (by decide) (by decide) slices_S2x6x1024_S1x6x1024_0_0_0 slices_S6x1024_S1x1024_0_0)
    (Ref2.gain_apply (m ((c : Thread nD τ).loc main_arg1)) 0 1 (by decide) (by decide) slices_S2x6x1024_S1x6x1024_0_0_0 slices_S6x1024_S1x1024_1_0)
    (fun k n => at2_eq _ _ rfl rfl) (fun n k => at2_eq _ _ rfl rfl) (y 0) (y 1)

end Ffn.Ref3

end
-- ==== Proof.MixMath.lean ====
/-
  The mixer's inputs on the extended reals, one row at a time: the row's projections, the projections mixed with those of
  the row before it, and the eight quantities of the rwkv recurrence that are computed from them.
  Everything is a function of natural-number positions.
-/
module

public import proofs.«01_k».proof.Proof.FfnMath

@[expose] public section

noncomputable section

namespace Mix

open Idealize.ShloMosaic Finset

/-- One half. -/
abbrev cH : EReal := Ideal.ofBits .f32 0x3F000000#32
/-- The least length that a key is divided by. -/
abbrev cL : EReal := Ideal.ofBits .f32 0x2B8CBCCC#32
/-- Its square. -/
abbrev tiny : EReal := ((5316911940649 / 5316911983139663491615228241121378304 : ℝ) : EReal)

/-- What one layer's mixer is made of: the gains of the norm, the projection, the weights of the row before, the
    offsets and the low-rank weights of the decay and of the rate, the gate's weights, and three rows of factors. -/
structure Weights where
  g : ℕ → EReal
  W : ℕ → ℕ → EReal
  mu : ℕ → EReal
  w0 : ℕ → EReal
  wup : ℕ → ℕ → EReal
  a0 : ℕ → EReal
  aup : ℕ → ℕ → EReal
  gup : ℕ → ℕ → EReal
  kk : ℕ → EReal
  ka : ℕ → EReal
  rk : ℕ → EReal

/-- A row's projections. -/
def proj (w : Weights) (X : ℕ → ℕ → EReal) (R n : ℕ) : EReal := Ffn.unit (Ffn.normed (X R) w.g) w.W n

/-- The row before in a sequence of 8192 rows; before its first row, zero. -/
def before (P : ℕ → ℕ → EReal) (R n : ℕ) : EReal := if R % 8192 = 0 then 0 else P (R - 1) n

/-- A row mixed with the row before it. -/
def shifted (mu p q : ℕ → EReal) (n : ℕ) : EReal := p n + mu n * (q n - p n)

/-- The logarithm of one plus an exponential. -/
def softplus (z : EReal) : EReal := max z 0 + Ideal.log (1 + Ideal.exp (-(max z (-z))))

/-- The sum over the 64 entries of the head that position `n` belongs to. -/
def head (f : ℕ → EReal) (n : ℕ) : EReal := ∑ j ∈ range 64, f (64 * (n / 64) + j)

section
variable (w : Weights) (p : ℕ → EReal) (n : ℕ)

/-- The logarithm of the decay. -/
def decay : EReal := -Ideal.exp (-softplus (-(w.w0 n + ∑ k ∈ range 64, Ideal.tanh (p (1536 + k)) * w.wup k n)) - cH)

/-- The rate. -/
def rate : EReal := Ideal.logistic (w.a0 n + ∑ k ∈ range 64, p (1600 + k) * w.aup k n)

/-- The gate. -/
def gate : EReal := ∑ k ∈ range 128, Ideal.logistic (p (1664 + k)) * w.gup k n

/-- The key with its first factors. -/
def key0 : EReal := p (512 + n) * w.kk n

/-- The key of length one. -/
def key1 : EReal := key0 w p n * Ideal.rsqrt (max (head (fun j => key0 w p j * key0 w p j) n) tiny)

/-- The key that the state takes up. -/
def key : EReal := p (512 + n) * (1 + (rate w p n - 1) * w.ka n)

/-- What the current row adds of its own value. -/
def bonus : EReal := head (fun j => p j * key w p j * w.rk j) n * p (1024 + n)

end

theorem head_congr {f f' : ℕ → EReal} (h : ∀ n < 512, f n = f' n) (n : ℕ) (hn : n < 512) : head f n = head f' n :=
  sum_congr rfl fun j hj => h _ (by have := mem_range.mp hj; omega)

/-- A product with a 256 by 256 matrix of zeros, and of ones where both positions belong to one head, sums over the head. -/
theorem sum_same (f : ℕ → EReal) (b n : ℕ) (hn : n < 256) :
    (∑ k ∈ range 256, f (256 * b + k) * (if k / 64 = n / 64 then 1 else 0)) = head f (256 * b + n) := by
  simp only [mul_ite, mul_one, mul_zero]
  rw [← sum_filter]
  unfold head
  refine sum_nbij' (fun k => k - 64 * (n / 64)) (fun j => 64 * (n / 64) + j) ?_ ?_ ?_ ?_ ?_
  · intro k hk
    have := mem_filter.mp hk
    have := mem_range.mp this.1
    exact mem_range.mpr (by omega)
  · intro j hj
    have := mem_range.mp hj
    exact mem_filter.mpr ⟨mem_range.mpr (by omega), by omega⟩
  · intro k hk
    have := mem_filter.mp hk
    show 64 * (n / 64) + (k - 64 * (n / 64)) = k
    omega
  · intro j hj
    show 64 * (n / 64) + j - 64 * (n / 64) = j
    omega
  · intro k hk
    have := mem_filter.mp hk
    refine congrArg f ?_
    omega

/-- Weights that are zero outside the 64 rows that start at row `o` leave the product of these rows. -/
theorem sum_padded (o : ℕ) (ho : o ≤ 64) (f u : ℕ → EReal) :
    (∑ k ∈ range 128, f k * (if o ≤ k ∧ k < o + 64 then u (k - o) else 0)) = ∑ k ∈ range 64, f (o + k) * u k := by
  simp only [mul_ite, mul_zero]
  rw [← sum_filter]
  refine sum_nbij' (fun k => k - o) (fun j => o + j) ?_ ?_ ?_ ?_ ?_
  · intro k hk
    have := (mem_filter.mp hk).2
    exact mem_range.mpr (by omega)
  · intro j hj
    have := mem_range.mp hj
    exact mem_filter.mpr ⟨mem_range.mpr (by omega), by omega⟩
  · intro k hk
    have := (mem_filter.mp hk).2
    show o + (k - o) = k
    omega
  · intro j hj
    show o + j - o = j
    omega
  · intro k hk
    have := (mem_filter.mp hk).2
    show f k * u (k - o) = f (o + (k - o)) * u (k - o)
    rw [show o + (k - o) = k by omega]

/-- The least length is a positive number, whose square is `tiny`. -/
theorem least : cL = ((2305843 / 2305843009213693952 : ℝ) : EReal) := by
  have h : (730643660 >>> 23) % 256 = 87 := by decide
  have h' : ¬ BitVec.extractLsb' 31 1 730643660#32 = 1#1 := by decide
  norm_num [Ideal.ofBits, Ideal.ieee, h, h', cL]

theorem div_zero_lt (z : EReal) {y : EReal} (hy : y ≠ 0) : Ideal.div z y = z * y⁻¹ := if_neg hy

/-- Dividing by a length of at least `cL` is multiplying with the inverse root of the squared length of at least `tiny`. -/
theorem unit_length (z s : EReal) (hs : 0 ≤ s) : z * Ideal.rsqrt (max s tiny) = Ideal.div z (max (Ideal.sqrt s) cL) := by
  rw [least]
  induction s using EReal.rec with
  | bot => exact absurd hs (by simp)
  | top =>
    rw [max_eq_left le_top]
    show z * 0 = Ideal.div z (max ⊤ _)
    rw [max_eq_left le_top, div_zero_lt z (by simp), EReal.inv_top]
  | coe r =>
    have hr : 0 ≤ r := EReal.coe_nonneg.mp hs
    have e : (max (r : EReal) tiny) = ((max r (5316911940649 / 5316911983139663491615228241121378304) : ℝ) : EReal) := (EReal.coe_strictMono.monotone.map_max).symm
    have hpos : (0 : ℝ) < max r (5316911940649 / 5316911983139663491615228241121378304) := lt_max_of_lt_right (by norm_num)
    have hq : (5316911940649 / 5316911983139663491615228241121378304 : ℝ) = (2305843 / 2305843009213693952 : ℝ) ^ 2 := by norm_num
    have es : Ideal.sqrt (r : EReal) = ((Real.sqrt r : ℝ) : EReal) := if_neg (not_lt.mpr hr)
    have em : max ((Real.sqrt r : ℝ) : EReal) ((2305843 / 2305843009213693952 : ℝ) : EReal)
        = ((Real.sqrt (max r (5316911940649 / 5316911983139663491615228241121378304)) : ℝ) : EReal) := by
      rw [← EReal.coe_strictMono.monotone.map_max, hq]
      congr 1
      rw [Monotone.map_max (f := Real.sqrt) fun _ _ h => Real.sqrt_le_sqrt h, Real.sqrt_sq (by norm_num)]
    rw [e, es, em, div_zero_lt z (by
      rw [Ne, EReal.coe_eq_zero]
      exact (Real.sqrt_pos.mpr hpos).ne')]
    have er : Ideal.rsqrt ((max r (5316911940649 / 5316911983139663491615228241121378304) : ℝ) : EReal)
        = (((Real.sqrt (max r (5316911940649 / 5316911983139663491615228241121378304)))⁻¹ : ℝ) : EReal) :=
      (if_neg (not_lt.mpr hpos.le)).trans (if_neg hpos.ne')
    rw [er, EReal.coe_inv]

end Mix

end
-- ==== Proof.MixArgs.lean ====
/-
  The mixer's weights and results of whole arrays, as functions of natural-number positions.
-/
module

public import proofs.«01_k».proof.Proof.MixMath
public import proofs.«01_k».proof.Proof.FfnRead

@[expose] public section

noncomputable section

namespace Mix

open Ffn Idealize.ShloMosaic

/-- The arrays that the mixer's call is given, besides the rows. -/
structure Arrays where
  gains : (⟨3, ![2, 6, 1024]⟩ : Shape).Idx → EReal
  w : (⟨2, ![1024, 4864]⟩ : Shape).Idx → EReal
  mu : (⟨2, ![2, 1792]⟩ : Shape).Idx → EReal
  w0 : (⟨2, ![2, 512]⟩ : Shape).Idx → EReal
  wup : (⟨3, ![2, 64, 512]⟩ : Shape).Idx → EReal
  a0 : (⟨2, ![2, 512]⟩ : Shape).Idx → EReal
  aup : (⟨3, ![2, 64, 512]⟩ : Shape).Idx → EReal
  gup : (⟨3, ![2, 128, 512]⟩ : Shape).Idx → EReal
  kk : (⟨2, ![2, 512]⟩ : Shape).Idx → EReal
  ka : (⟨2, ![2, 512]⟩ : Shape).Idx → EReal
  rk : (⟨2, ![2, 512]⟩ : Shape).Idx → EReal

/-- The first layer's weights. -/
def weights (A : Arrays) : Weights :=
  ⟨at3 A.gains 0 2, at2 A.w, at2 A.mu 0, at2 A.w0 0, at3 A.wup 0, at2 A.a0 0, at3 A.aup 0, at3 A.gup 0, at2 A.kk 0, at2 A.ka 0, at2 A.rk 0⟩

/-- A row's projections, mixed with those of the row before it. -/
def row (A : Arrays) (x : (⟨2, ![16384, 1024]⟩ : Shape).Idx → EReal) (R : ℕ) : ℕ → EReal :=
  shifted (weights A).mu (proj (weights A) (at2 x) R) (before (proj (weights A) (at2 x)) R)

/-- An array with 16384 rows of 512 made row by row. -/
def rowsOf (f : ℕ → ℕ → EReal) : (⟨2, ![16384, 512]⟩ : Shape).Idx → EReal := fun i => f (i 0).val (i 1).val

/-- The last projections of every row. -/
def lastCols (A : Arrays) (x : (⟨2, ![16384, 1024]⟩ : Shape).Idx → EReal) : (⟨2, ![16384, 1024]⟩ : Shape).Idx → EReal :=
  fun i => proj (weights A) (at2 x) (i 0).val (1792 + (i 1).val)

end Mix

end
-- ==== Proof.MixBlock.lean ====
/-
  One block of 512 rows of the mixer's inputs, in the kernel's own operations, read at a row and a column on the
  extended reals.
-/
module

public import proofs.«01_k».proof.Proof.MixMath
public import proofs.«01_k».proof.Proof.FfnBlock
public import proofs.«01_k».proof.Proof.Gen.Kernel4Ideal.Skeleton
public import Idealize.ShloMosaic.Lib.Pointwise
public import Idealize.ShloMosaic.Lib.ValueIdx
public import Idealize.ShloMosaic.Lib.KernelVsHost

@[expose] public section

noncomputable section

namespace Mix.Block

open Idealize.ShloMosaic hiding ix1 ix2 ix3 ix4 eq_ix2 eq_ix3
open Idealize.ShloMosaic.ValueIdx (ix1 ix2 ix3 ix4 eq_ix2 eq_ix3)
open Cert.Kernel4Ideal Cert.Kernel4Ideal.Gen
open Ffn.Block (sum_fin zero_word)

/-- 256 projections of every row. -/
theorem cols_apply (x : Vec Ideal S512x1024 .f32) (g : Vec Ideal S1x1x1024 .f32) (v : Vec Ideal S1024x256 .bf16)
    {X : ℕ → ℕ → EReal} {w : Weights} {N : ℕ}
    (hx : ∀ (i : Fin 512) (k : Fin 1024), x (ix2 i k) = X i.val k.val)
    (hg : ∀ k : Fin 1024, g (ix3 (0 : Fin 1) (0 : Fin 1) k) = w.g k.val)
    (hv : ∀ (k : Fin 1024) (n : Fin 256), v (ix2 k n) = w.W k.val (N + n.val)) (i : Fin 512) (n : Fin 256) :
    k0_pay2 (k0_pay4 x g) v (ix2 i n) = proj w X i.val (N + n.val) := by
  unfold k0_pay2
  rw [shapeCast_self]
  exact Ffn.Block.units_apply (k0_pay4 x g) v (H := fun i => Ffn.normed (X i) w.g)
    (fun i k => Ffn.Block.norm_apply x _ hx (Ffn.Block.gain_apply hg) i k) hv i n

/-- Columns `o` and on of a block. -/
theorem slice_apply {R C C' : ℕ} (o : ℕ) (x : FVec Ideal ⟨2, ![R, C]⟩ .f32)
    (h : Shape.Slices (⟨2, ![R, C]⟩ : Shape) ![0, o] ⟨2, ![R, C']⟩) (i : Fin R) (n : Fin C') (ho : o + n.val < C) :
    extractStridedSlice (⟨2, ![R, C']⟩ : Shape) ![0, o] x h (ix2 i n) = x (ix2 i (⟨o + n.val, ho⟩ : Fin C)) :=
  extractStridedSlice_apply _ _ _ _ _ fun a => by
    match a with
    | ⟨0, _⟩ => exact (Nat.zero_add _).symm
    | ⟨1, _⟩ => rfl

/-- The rows one before: the carried block's last row, then the block's own rows. -/
theorem prev_apply (p : Vec Ideal S512x1792 .f32) (q : Vec Ideal S8x1792 .f32) (i : Fin 512) (n : Fin 1792) :
    k0_pay7 p q (ix2 i n) = if h : i.val = 0 then q (ix2 (7 : Fin 8) n) else p (ix2 (⟨i.val - 1, by omega⟩ : Fin 512) n) := by
  have hi := i.isLt
  unfold k0_pay7
  refine (extractStridedSlice_apply _ _ _ _ (ix2 (⟨8 + i.val, by omega⟩ : Fin 520) n) fun a => ?_).trans
    ((dynamicRotate_apply (0 : Fin 2) _ _ _ _ (ix2 (⟨7 + i.val, by omega⟩ : Fin 520) n) fun b => ?_).trans ?_)
  · match a with
    | ⟨0, _⟩ => rfl
    | ⟨1, _⟩ => exact (Nat.zero_add _).symm
  · match b with
    | ⟨0, _⟩ =>
      show 7 + i.val = (8 + i.val + 520 - 1 % 520) % 520
      omega
    | ⟨1, _⟩ => rfl
  · split_ifs with h
    · refine concatenate_pair_apply_left (s₁ := S8x1792) (s₂ := S512x1792) (0 : Fin 2) q p concatenates_S8x1792_S512x1792_S520x1792_d0 (ix2 (⟨7 + i.val, by omega⟩ : Fin 520) n) rfl (ix2 (7 : Fin 8) n) fun b => ?_
      match b with
      | ⟨0, _⟩ => show 7 = 7 + i.val; omega
      | ⟨1, _⟩ => rfl
    · refine concatenate_pair_apply_right (s₁ := S8x1792) (s₂ := S512x1792) (0 : Fin 2) q p concatenates_S8x1792_S512x1792_S520x1792_d0 (ix2 (⟨7 + i.val, by omega⟩ : Fin 520) n) rfl rfl (ix2 (⟨i.val - 1, by omega⟩ : Fin 512) n) (fun b hb => ?_) ?_
      · match b with
        | ⟨0, _⟩ => exact absurd rfl hb
        | ⟨1, _⟩ => rfl
      · show i.val - 1 + 8 = 7 + i.val
        omega

/-- The last eight rows, that the next block starts from. -/
theorem last_apply (p : Vec Ideal S512x1792 .f32) (i : Fin 8) (n : Fin 1792) :
    k0_pay9 (k0_pay8 p) (ix2 i n) = p (ix2 (⟨504 + i.val, by omega⟩ : Fin 512) n) := by
  unfold k0_pay9 k0_pay8
  rw [shapeCast_self]
  refine extractStridedSlice_apply _ _ _ _ _ fun a => ?_
  match a with
  | ⟨0, _⟩ => rfl
  | ⟨1, _⟩ => exact (Nat.zero_add _).symm

section
variable {w : Weights} {P Q : ℕ → ℕ → EReal} {p q : FVec Ideal S512x1792 .f32} {mu : Vec Ideal S1x1792 .f32}
  (hp : ∀ (i : Fin 512) (n : Fin 1792), p (ix2 i n) = P i.val n.val)
  (hq : ∀ (i : Fin 512) (n : Fin 1792), q (ix2 i n) = Q i.val n.val)
  (hmu : ∀ n : Fin 1792, mu (ix2 (0 : Fin 1) n) = w.mu n.val)

include hp hq hmu

theorem mixed_apply (i : Fin 512) (n : Fin 1792) : k0_pay10 p q mu (ix2 i n) = shifted w.mu (P i.val) (Q i.val) n.val := by
  unfold k0_pay10
  simp only [pointwise]
  show p (ix2 i n) + mu (ix2 (0 : Fin 1) n) * (q (ix2 i n) - p (ix2 i n)) = _
  rw [hp, hq, hmu]
  rfl

theorem r_apply (i n : Fin 512) : k0_pay11 p q mu (ix2 i n) = shifted w.mu (P i.val) (Q i.val) n.val :=
  (slice_apply 0 _ slices_S512x1792_o0_0_S512x512 i n (by omega)).trans ((mixed_apply hp hq hmu i _).trans (congrArg _ (Nat.zero_add _)))

theorem k_apply (i n : Fin 512) : k0_pay12 p q mu (ix2 i n) = shifted w.mu (P i.val) (Q i.val) (512 + n.val) :=
  (slice_apply 512 _ slices_S512x1792_o0_512_S512x512 i n (by omega)).trans (mixed_apply hp hq hmu i _)

theorem v_apply (i n : Fin 512) : k0_pay13 p q mu (ix2 i n) = shifted w.mu (P i.val) (Q i.val) (1024 + n.val) :=
  (slice_apply 1024 _ slices_S512x1792_o0_1024_S512x512 i n (by omega)).trans (mixed_apply hp hq hmu i _)

theorem xwa_apply (i : Fin 512) (n : Fin 128) : k0_pay14 p q mu (ix2 i n) = shifted w.mu (P i.val) (Q i.val) (1536 + n.val) :=
  (slice_apply 1536 _ slices_S512x1792_o0_1536_S512x128 i n (by omega)).trans (mixed_apply hp hq hmu i _)

theorem xg_apply (i : Fin 512) (n : Fin 128) : k0_pay15 p q mu (ix2 i n) = shifted w.mu (P i.val) (Q i.val) (1664 + n.val) :=
  (slice_apply 1664 _ slices_S512x1792_o0_1664_S512x128 i n (by omega)).trans (mixed_apply hp hq hmu i _)

/-- The decay's logarithm. -/
theorem decay_apply {w0 : Vec Ideal S1x512 .f32} {u : Vec Ideal S1x128x512 .bf16}
    (hw0 : ∀ n : Fin 512, w0 (ix2 (0 : Fin 1) n) = w.w0 n.val)
    (hu : ∀ (k : Fin 128) (n : Fin 512), u (ix3 (0 : Fin 1) k n) = if 0 ≤ k.val ∧ k.val < 0 + 64 then w.wup (k.val - 0) n.val else 0)
    (i n : Fin 512) : k0_pay23 (k0_pay16 p q mu w0 u) (ix2 i n) = decay w (shifted w.mu (P i.val) (Q i.val)) n.val := by
  have e : (∑ k : Fin 128, Ideal.tanh (k0_pay14 p q mu (ix2 i k)) * u (ix3 (0 : Fin 1) k n))
      = ∑ k ∈ Finset.range 64, Ideal.tanh (shifted w.mu (P i.val) (Q i.val) (1536 + k)) * w.wup k n.val := by
    simp only [xwa_apply hp hq hmu, hu]
    refine (sum_fin 128 fun k => Ideal.tanh (shifted w.mu (P i.val) (Q i.val) (1536 + k)) * (if 0 ≤ k ∧ k < 0 + 64 then w.wup (k - 0) n.val else 0)).trans ?_
    refine (sum_padded 0 (by omega) _ fun k => w.wup k n.val).trans ?_
    simp only [Nat.zero_add]
  unfold k0_pay23 k0_pay16
  simp only [pointwise]
  show 0 - Ideal.exp (0 - (max (0 - (w0 (ix2 (0 : Fin 1) n) + (0 + ∑ k : Fin 128, Ideal.tanh (k0_pay14 p q mu (ix2 i k)) * u (ix3 (0 : Fin 1) k n)))) 0
    + Ideal.log (1 + Ideal.exp (0 - max (0 - (w0 (ix2 (0 : Fin 1) n) + (0 + ∑ k : Fin 128, Ideal.tanh (k0_pay14 p q mu (ix2 i k)) * u (ix3 (0 : Fin 1) k n)))) (-(0 - (w0 (ix2 (0 : Fin 1) n) + (0 + ∑ k : Fin 128, Ideal.tanh (k0_pay14 p q mu (ix2 i k)) * u (ix3 (0 : Fin 1) k n)))))))) - cH) = _
  rw [e, hw0]
  simp only [zero_sub, zero_add]
  rfl

/-- The rate. -/
theorem rate_apply {a0 : Vec Ideal S1x512 .f32} {u : Vec Ideal S1x128x512 .bf16}
    (ha0 : ∀ n : Fin 512, a0 (ix2 (0 : Fin 1) n) = w.a0 n.val)
    (hu : ∀ (k : Fin 128) (n : Fin 512), u (ix3 (0 : Fin 1) k n) = if 64 ≤ k.val ∧ k.val < 64 + 64 then w.aup (k.val - 64) n.val else 0)
    (i n : Fin 512) : k0_pay19 a0 (k0_pay17 u) (k0_pay18 p q mu) (ix2 i n) = rate w (shifted w.mu (P i.val) (Q i.val)) n.val := by
  have e : (∑ k : Fin 128, k0_pay14 p q mu (ix2 i k) * u (ix3 (0 : Fin 1) k n))
      = ∑ k ∈ Finset.range 64, shifted w.mu (P i.val) (Q i.val) (1600 + k) * w.aup k n.val := by
    simp only [xwa_apply hp hq hmu, hu]
    refine (sum_fin 128 fun k => shifted w.mu (P i.val) (Q i.val) (1536 + k) * (if 64 ≤ k ∧ k < 64 + 64 then w.aup (k - 64) n.val else 0)).trans ?_
    refine (sum_padded 64 le_rfl (fun k => shifted w.mu (P i.val) (Q i.val) (1536 + k)) fun k => w.aup k n.val).trans ?_
    simp only [← Nat.add_assoc]
  unfold k0_pay19 k0_pay17 k0_pay18
  simp only [pointwise]
  show Ideal.logistic (a0 (ix2 (0 : Fin 1) n) + (0 + ∑ k : Fin 128, k0_pay14 p q mu (ix2 i k) * u (ix3 (0 : Fin 1) k n))) = _
  rw [e, ha0, zero_add]
  rfl

/-- The gate. -/
theorem gate_apply {u : Vec Ideal S1x128x512 .bf16}
    (hu : ∀ (k : Fin 128) (n : Fin 512), u (ix3 (0 : Fin 1) k n) = w.gup k.val n.val)
    (i n : Fin 512) : k0_pay20 (k0_pay15 p q mu) u (ix2 i n) = gate w (shifted w.mu (P i.val) (Q i.val)) n.val := by
  unfold k0_pay20
  simp only [pointwise]
  show 0 + ∑ k : Fin 128, Ideal.logistic (k0_pay15 p q mu (ix2 i k)) * u (ix3 (0 : Fin 1) k n) = _
  simp only [xg_apply hp hq hmu, hu, zero_add]
  exact sum_fin 128 fun k => Ideal.logistic (shifted w.mu (P i.val) (Q i.val) (1664 + k)) * w.gup k n.val

end

/-- Two blocks of 256 columns side by side. -/
theorem join_apply (y z : FVec Ideal S512x256 .f32) (i n : Fin 512) :
    concatenate S512x512 1 [⟨S512x256, y⟩, ⟨S512x256, z⟩] concatenates_S512x256_S512x256_S512x512_d1 (ix2 i n)
      = if h : n.val < 256 then y (ix2 i (⟨n.val, h⟩ : Fin 256)) else z (ix2 i (⟨n.val - 256, by omega⟩ : Fin 256)) := by
  split_ifs with h
  · refine concatenate_pair_apply_left (s₁ := S512x256) (s₂ := S512x256) (1 : Fin 2) y z concatenates_S512x256_S512x256_S512x512_d1 (ix2 i n) rfl (ix2 i (⟨n.val, h⟩ : Fin 256)) fun b => ?_
    match b with
    | ⟨0, _⟩ => rfl
    | ⟨1, _⟩ => rfl
  · refine concatenate_pair_apply_right (s₁ := S512x256) (s₂ := S512x256) (1 : Fin 2) y z concatenates_S512x256_S512x256_S512x512_d1 (ix2 i n) rfl rfl (ix2 i (⟨n.val - 256, by omega⟩ : Fin 256)) (fun b hb => ?_) ?_
    · match b with
      | ⟨0, _⟩ => rfl
      | ⟨1, _⟩ => exact absurd rfl hb
    · show n.val - 256 + 256 = n.val
      omega

/-- A row's sums over the heads, spread over each head's positions. -/
def heads (f : FVec Ideal S512x512 .f32) (s : FVec Ideal S256x256 .bf16) : FVec Ideal S512x512 .f32 :=
  concatenate S512x512 1
    [⟨S512x256, matmul dot_S512x256_S256x256_S512x256_1_0_0_1_n_n none (truncf (F := Ideal) .bf16 (extractStridedSlice S512x256 ![0, 0] f slices_S512x512_o0_0_S512x256) bitsLt_bf16_f32) s (constant S512x256 .f32 0x00000000#32)⟩,
     ⟨S512x256, matmul dot_S512x256_S256x256_S512x256_1_0_0_1_n_n none (truncf (F := Ideal) .bf16 (extractStridedSlice S512x256 ![0, 256] f slices_S512x512_o0_256_S512x256) bitsLt_bf16_f32) s (constant S512x256 .f32 0x00000000#32)⟩]
    concatenates_S512x256_S512x256_S512x512_d1

section
variable {s : FVec Ideal S256x256 .bf16} (hs : ∀ k n : Fin 256, s (ix2 k n) = if k.val / 64 = n.val / 64 then 1 else 0)

include hs

/-- The sums over the heads of one half of the columns. -/
theorem half_apply {f : FVec Ideal S512x512 .f32} {f' : ℕ → ℕ → EReal} (hf : ∀ i n : Fin 512, f (ix2 i n) = f' i.val n.val)
    (o b : ℕ) (ho : o = 256 * b) (hb : b < 2) (h : S512x512.Slices ![0, o] S512x256) (i : Fin 512) (n : Fin 256) :
    matmul dot_S512x256_S256x256_S512x256_1_0_0_1_n_n none (truncf (F := Ideal) .bf16 (extractStridedSlice S512x256 ![0, o] f h) bitsLt_bf16_f32) s (constant S512x256 .f32 0x00000000#32) (ix2 i n)
      = head (f' i.val) (256 * b + n.val) := by
  have e : ∀ k : Fin 256, extractStridedSlice S512x256 ![0, o] f h (ix2 i k) = f' i.val (256 * b + k.val) := fun k => by
    rw [← ho]
    exact (slice_apply o f h i k (by omega)).trans (hf i _)
  generalize extractStridedSlice S512x256 ![0, o] f h = y at e
  simp only [pointwise]
  show 0 + ∑ k : Fin 256, y (ix2 i k) * s (ix2 k n) = _
  simp only [e, hs, zero_add]
  exact (sum_fin 256 fun k => f' i.val (256 * b + k) * (if k / 64 = n.val / 64 then 1 else 0)).trans (sum_same _ b n.val n.isLt)

theorem heads_apply {f : FVec Ideal S512x512 .f32} {f' : ℕ → ℕ → EReal} (hf : ∀ i n : Fin 512, f (ix2 i n) = f' i.val n.val)
    (i n : Fin 512) : heads f s (ix2 i n) = head (f' i.val) n.val := by
  refine (join_apply _ _ i n).trans ?_
  split_ifs with h
  · exact (half_apply hs hf 0 0 rfl (by decide) slices_S512x512_o0_0_S512x256 i ⟨n.val, h⟩).trans (congrArg _ (Nat.zero_add _))
  · refine (half_apply hs hf 256 1 rfl (by decide) slices_S512x512_o0_256_S512x256 i ⟨n.val - 256, by omega⟩).trans (congrArg _ ?_)
    show 256 * 1 + (n.val - 256) = n.val
    omega

/-- The key of length one. -/
theorem key1_apply {w : Weights} {S : ℕ → ℕ → EReal} {k : FVec Ideal S512x512 .f32} {kk : Vec Ideal S1x512 .f32}
    (hk : ∀ i n : Fin 512, k (ix2 i n) = S i.val (512 + n.val)) (hkk : ∀ n : Fin 512, kk (ix2 (0 : Fin 1) n) = w.kk n.val)
    (i n : Fin 512) : k0_pay28 (k0_pay24 k kk) (k0_pay25 k kk) (k0_pay26 s) (k0_pay27 k kk) (ix2 i n) = key1 w (S i.val) n.val := by
  have e : ∀ i n : Fin 512, k0_pay24 k kk (ix2 i n) = key0 w (S i.val) n.val := fun i n => by
    unfold k0_pay24
    simp only [pointwise]
    show k (ix2 i n) * kk (ix2 (0 : Fin 1) n) = _
    rw [hk, hkk]
    rfl
  have e' : k0_pay26 s = s := shapeCast_self _ _
  show k0_pay24 k kk (ix2 i n) * Ideal.rsqrt (max (heads (k0_pay25 k kk) (k0_pay26 s) (ix2 i n)) tiny) = _
  rw [e', heads_apply hs (f' := fun i n => key0 w (S i) n * key0 w (S i) n) (fun i n => congrArg₂ (· * ·) (e i n) (e i n)), e]
  rfl

/-- What the current row adds of its own value. -/
theorem bonus_apply {w : Weights} {S : ℕ → ℕ → EReal} {r v k : FVec Ideal S512x512 .f32} {rk : Vec Ideal S1x512 .f32}
    (hr : ∀ i n : Fin 512, r (ix2 i n) = S i.val n.val) (hv : ∀ i n : Fin 512, v (ix2 i n) = S i.val (1024 + n.val))
    (hk : ∀ i n : Fin 512, k (ix2 i n) = key w (S i.val) n.val) (hrk : ∀ n : Fin 512, rk (ix2 (0 : Fin 1) n) = w.rk n.val)
    (i n : Fin 512) : k0_pay32 r v k rk s (ix2 i n) = bonus w (S i.val) n.val := by
  have e : ∀ i n : Fin 512, mulf (mulf r k) (broadcastTo S512x512 rk broadcasts_S1x512_S512x512) (ix2 i n)
      = S i.val n.val * key w (S i.val) n.val * w.rk n.val := fun i n => by
    simp only [pointwise]
    show r (ix2 i n) * k (ix2 i n) * rk (ix2 (0 : Fin 1) n) = _
    rw [hr, hk, hrk]
  have e' : shapeCast S256x256 s shapeCasts_S256x256_S256x256 = s := shapeCast_self _ _
  show heads (mulf (mulf r k) (broadcastTo S512x512 rk broadcasts_S1x512_S512x512)) (shapeCast S256x256 s shapeCasts_S256x256_S256x256) (ix2 i n) * v (ix2 i n) = _
  rw [e', heads_apply hs (f' := fun i n => S i n * key w (S i) n * w.rk n) e, hv]
  rfl

end

/-- The key that the state takes up. -/
theorem key_apply {w : Weights} {S : ℕ → ℕ → EReal} {k a : FVec Ideal S512x512 .f32} {ka : Vec Ideal S1x512 .f32}
    (hk : ∀ i n : Fin 512, k (ix2 i n) = S i.val (512 + n.val)) (ha : ∀ i n : Fin 512, a (ix2 i n) = rate w (S i.val) n.val)
    (hka : ∀ n : Fin 512, ka (ix2 (0 : Fin 1) n) = w.ka n.val)
    (i n : Fin 512) : k0_pay31 k a ka (ix2 i n) = key w (S i.val) n.val := by
  unfold k0_pay31
  simp only [pointwise]
  show k (ix2 i n) * (1 + (a (ix2 i n) - 1) * ka (ix2 (0 : Fin 1) n)) = _
  rw [hk, ha, hka]
  rfl

end Mix.Block

end
-- ==== Proof.MixRun.lean ====
/-
  What one grid point of the mixer's inputs loads and stores: the loaded parts, the nine result blocks as functions of
  them, the pieces of the projections that are kept for the next point, and the last rows that are carried.
-/
module

public import proofs.«01_k».proof.Proof.MixBlock
public import Idealize.ShloMosaic.Lib.WritesUnit
public import Idealize.ShloMosaic.Lib.WholeRead
public import Idealize.ShloMosaic.Lib.Ring

@[expose] public section

noncomputable section

namespace Mix.Block

open Idealize.ShloMosaic hiding ix1 ix2 ix3 ix4 eq_ix2 eq_ix3
open Idealize.ShloMosaic.ValueIdx (ix1 ix2 ix3 ix4 eq_ix2 eq_ix3)
open Idealize.ShloMosaic.TcCoe Cert.Kernel4Ideal Cert.Kernel4Ideal.Gen

variable {F : FTy → Type} [FloatOps F] [Named F]

/-- What a point's results are computed from: the projections kept by the point before, the row carried before them,
    the weights, and the last projections. -/
structure Loads (F : FTy → Type) where
  p : Vec F S512x1792 .f32
  c : Vec F S8x1792 .f32
  mu : Vec F S1x1792 .f32
  w0 : Vec F S1x512 .f32
  wup : Vec F S1x128x512 .bf16
  a0 : Vec F S1x512 .f32
  aup : Vec F S1x128x512 .bf16
  gup : Vec F S1x128x512 .bf16
  kk : Vec F S1x512 .f32
  ka : Vec F S1x512 .f32
  rk : Vec F S1x512 .f32
  hs : Vec F S256x256 .bf16
  lru : Vec F S512x1024 .f32

namespace Loads
variable (L : Loads F)

def r : FVec F S512x512 .f32 := k0_pay11 L.p (k0_pay7 L.p L.c) L.mu
def k0 : FVec F S512x512 .f32 := k0_pay12 L.p (k0_pay7 L.p L.c) L.mu
def v : FVec F S512x512 .f32 := k0_pay13 L.p (k0_pay7 L.p L.c) L.mu
def lw : FVec F S512x512 .f32 := k0_pay23 (k0_pay16 L.p (k0_pay7 L.p L.c) L.mu L.w0 L.wup)
def a : FVec F S512x512 .f32 := k0_pay19 L.a0 (k0_pay17 L.aup) (k0_pay18 L.p (k0_pay7 L.p L.c) L.mu)
def gate : FVec F S512x512 .f32 := k0_pay20 (k0_pay15 L.p (k0_pay7 L.p L.c) L.mu) L.gup
def k1 : FVec F S512x512 .f32 := k0_pay28 (k0_pay24 L.k0 L.kk) (k0_pay25 L.k0 L.kk) (k0_pay26 L.hs) (k0_pay27 L.k0 L.kk)
def k : FVec F S512x512 .f32 := k0_pay31 L.k0 L.a L.ka
def bonus : FVec F S512x512 .f32 := k0_pay32 L.r L.v L.k L.rk L.hs
/-- The rows that the next point starts from. -/
def last : FVec F S8x1792 .f32 := k0_pay9 (k0_pay8 L.p)

end Loads

/-- The zeros that a sequence starts from. -/
def zeros (arg25 : Memref sig .tc .vmem S8x1792 .f32) : Vec F S8x1792 .f32 :=
  arg25.view.readCov [(⟨Rect.unit (s := S8x1792) ![0, 0] S8x1792.size inb_S8x1792_S8x1792_0_0, k0_pay69⟩ : View.Piece (Elt F) S8x1792 .f32)]
    (Rect.unit (s := S8x1792) ![0, 0] S8x1792.size inb_S8x1792_S8x1792_0_0).toLoadRect

/-- A part of a staged block. -/
def ld {s : Shape} {e : EltTy} (arg : Memref sig .tc .vmem s e) (harg : arg.IsWhole) (x : Vec F s e) (off sz : Fin s.rank → ℕ)
    (h : ∀ a, off a + sz a ≤ s.size a) : (Rect.unit (s := s) off sz h).shape.Idx → Elt F e :=
  View.readAt (Elt F) arg.view (Rect.unit (s := s) off sz h).toLoadRect (harg.unread x)

theorem ld_apply {s : Shape} {e : EltTy} (arg : Memref sig .tc .vmem s e) (harg : arg.IsWhole) (x : Vec F s e) (off sz : Fin s.rank → ℕ)
    (h : ∀ a, off a + sz a ≤ s.size a) (j : (Rect.unit (s := s) off sz h).shape.Idx) (y : s.Idx) (hy : ∀ a, (y a).val = off a + (j a).val) :
    ld arg harg x off sz h j = x y := by
  refine (Memref.IsWhole.readAt_unread harg x _ _).trans (congrArg x (funext fun a => Fin.ext ?_))
  show off a + 1 * (j a).val = (y a).val
  rw [hy a, Nat.one_mul]

/-- The piece that covers a whole result block. -/
def whole512 (w : FVec F S512x512 .f32) : List (View.Piece (Elt F) S512x512 .f32) :=
  [⟨Rect.unit (s := S512x512) ![0, 0] S512x512.size inb_S512x512_S512x512_0_0, w⟩]

def whole1024 (w : FVec F S512x1024 .f32) : List (View.Piece (Elt F) S512x1024 .f32) :=
  [⟨Rect.unit (s := S512x1024) ![0, 0] S512x1024.size inb_S512x1024_S512x1024_0_0, w⟩]

/-- The piece that covers the carried rows, over what was stored there before. -/
def whole8 (w : FVec F S8x1792 .f32) (l : List (View.Piece (Elt F) S8x1792 .f32)) : List (View.Piece (Elt F) S8x1792 .f32) :=
  ⟨Rect.unit (s := S8x1792) ![0, 0] S8x1792.size inb_S8x1792_S8x1792_0_0, w⟩ :: l

/-- A block that one piece covers is the piece. -/
theorem read_whole {R C : ℕ} (V : View sig .tc .vmem (⟨2, ![R, C]⟩ : Shape) .f32) (f : V.ty.Contents (Elt F))
    (h : ∀ a, (![0, 0] : Fin 2 → ℕ) a + (⟨2, ![R, C]⟩ : Shape).size a ≤ (⟨2, ![R, C]⟩ : Shape).size a)
    (w : FVec F (⟨2, ![R, C]⟩ : Shape) .f32) (l : List (View.Piece (Elt F) (⟨2, ![R, C]⟩ : Shape) .f32)) :
    V.read (Elt F) (V.writes (Elt F) f (⟨Rect.unit (s := (⟨2, ![R, C]⟩ : Shape)) ![0, 0] (⟨2, ![R, C]⟩ : Shape).size h, w⟩ :: l)) = w :=
  funext fun y => View.read_writes_cons_unit_of_mem V f h w l y y rfl fun a => by
    match a with
    | ⟨0, _⟩ => exact (Nat.zero_add _).symm
    | ⟨1, _⟩ => exact (Nat.zero_add _).symm

theorem inb_cols (n : ℕ) : ∀ a, (![0, 256 * (n % 11)] : Fin 2 → ℕ) a + S512x256.size a ≤ S512x2816.size a := by
  intro a
  match a with
  | ⟨0, _⟩ => show 0 + 512 ≤ 512; omega
  | ⟨1, _⟩ => show 256 * (n % 11) + 256 ≤ 2816; omega

theorem inb_wcols (n : ℕ) : ∀ a, (![0, 256 * (n % 11)] : Fin 2 → ℕ) a + S1024x256.size a ≤ S1024x2816.size a := by
  intro a
  match a with
  | ⟨0, _⟩ => show 0 + 1024 ≤ 1024; omega
  | ⟨1, _⟩ => show 256 * (n % 11) + 256 ≤ 2816; omega

/-- The first `n` pieces of 256 projections each, over what was stored before. -/
def projPieces (h : FVec F S512x1024 .bf16) (w : ℕ → Vec F S1024x256 .bf16) (base : List (View.Piece (Elt F) S512x2816 .f32)) (n : ℕ) :
    List (View.Piece (Elt F) S512x2816 .f32) :=
  Nat.rec base (fun n L => ⟨Rect.unit (s := S512x2816) ![0, 256 * (n % 11)] S512x256.size (inb_cols n), k0_pay2 h (w n)⟩ :: L) n

theorem read_projPieces (V : View sig .tc .vmem S512x2816 .f32) (f : V.ty.Contents (Elt F)) (h : FVec F S512x1024 .bf16)
    (w : ℕ → Vec F S1024x256 .bf16) (base : List (View.Piece (Elt F) S512x2816 .f32)) (y : S512x2816.Idx) (N : ℕ) (hN : N ≤ 11)
    (hy : (y 1).val / 256 < N) :
    V.read (Elt F) (V.writes (Elt F) f (projPieces h w base N)) y
      = k0_pay2 h (w ((y 1).val / 256)) (ix2 (y 0) (⟨(y 1).val % 256, Nat.mod_lt _ (by decide)⟩ : Fin 256)) := by
  have h1 : (y 1).val < 2816 := (y 1).isLt
  induction N with
  | zero => exact absurd hy (Nat.not_lt_zero _)
  | succ N ih =>
    by_cases hn : (y 1).val / 256 = N
    · subst hn
      refine View.read_writes_cons_unit_of_mem V f (inb_cols ((y 1).val / 256)) _ _ y
        (ix2 (y 0) (⟨(y 1).val % 256, Nat.mod_lt _ (by decide)⟩ : Fin 256)) rfl fun a => ?_
      match a with
      | ⟨0, _⟩ => exact (Nat.zero_add _).symm
      | ⟨1, _⟩ => show (y 1).val = 256 * ((y 1).val / 256 % 11) + (y 1).val % 256; omega
    · refine Eq.trans ?_ (ih (by omega) (by omega))
      refine View.read_writes_cons_unit_of_not_mem V f (inb_cols N) _ _ y rfl 1 ?_
      show (y 1).val < 256 * (N % 11) ∨ 256 * (N % 11) + 256 ≤ (y 1).val
      omega

end Mix.Block

end
-- ==== Proof.MixStored.lean ====
/-
  The arrays that the mixer's call prepares before its grid: the low-rank weights with rows of zeros below or above them,
  the gate's weights, and the matrix of ones where two positions of a half row belong to one head.
-/
module

public import proofs.«01_k».proof.Proof.MixMath
public import proofs.«01_k».proof.Proof.FfnRead
public import proofs.«01_k».proof.Proof.Gen.Kernel4Ideal.Frame
public import Idealize.ShloMosaic.Lib.KernelVsHost
public import Idealize.ShloMosaic.Lib.StableHlo.Run

@[expose] public section

noncomputable section

namespace Mix.Stored

open Ffn
open Idealize.ShloMosaic hiding ix1 ix2 ix3 ix4 eq_ix2 eq_ix3
open Idealize.ShloMosaic.ValueIdx (ix1 ix2 ix3 ix4 eq_ix2 eq_ix3)
open Idealize.ShloMosaic.TcCoe Idealize.ShloMosaic.StableHlo
open Cert.Kernel4Ideal Cert.Kernel4Ideal.Gen

variable (m : (ℓ : Loc nD τ sig) → Buf (Elt Ideal) ℓ) (c : Dev nD)

theorem pad_apply {a b : FVec Ideal S2x64x512 .f32} (l : Fin 2) (k : Fin 128) (n : Fin 512) :
    concatenate S2x128x512 1 [⟨S2x64x512, a⟩, ⟨S2x64x512, b⟩] concatenates_S2x64x512_S2x64x512_S2x128x512_d1 (ix3 l k n)
      = if h : k.val < 64 then a (ix3 l (⟨k.val, h⟩ : Fin 64) n) else b (ix3 l (⟨k.val - 64, by omega⟩ : Fin 64) n) := by
  split_ifs with h
  · refine concatenate_pair_apply_left (s₁ := S2x64x512) (s₂ := S2x64x512) (1 : Fin 3) a b concatenates_S2x64x512_S2x64x512_S2x128x512_d1 (ix3 l k n) rfl (ix3 l (⟨k.val, h⟩ : Fin 64) n) fun b => ?_
    match b with
    | ⟨0, _⟩ => rfl
    | ⟨1, _⟩ => rfl
    | ⟨2, _⟩ => rfl
  · refine concatenate_pair_apply_right (s₁ := S2x64x512) (s₂ := S2x64x512) (1 : Fin 3) a b concatenates_S2x64x512_S2x64x512_S2x128x512_d1 (ix3 l k n) rfl rfl (ix3 l (⟨k.val - 64, by omega⟩ : Fin 64) n) (fun b hb => ?_) ?_
    · match b with
      | ⟨0, _⟩ => rfl
      | ⟨1, _⟩ => exact absurd rfl hb
      | ⟨2, _⟩ => rfl
    · show k.val - 64 + 64 = k.val
      omega

/-- The zeros of the padding. -/
theorem zeros_apply (y : S2x64x512.Idx) :
    broadcastInDim S2x64x512 ![] bcast_S_S2x64x512 (constant (F := Ideal) S_ .f32 0x00000000#32) y = 0 := by
  simp only [pointwise]

theorem wup_stored : V m c main_v10
    = truncf (F := Ideal) .bf16 (concatenate S2x128x512 1 [⟨S2x64x512, m ((c : Thread nD τ).loc main_arg5)⟩,
        ⟨S2x64x512, broadcastInDim S2x64x512 ![] bcast_S_S2x64x512 (constant (F := Ideal) S_ .f32 0x00000000#32)⟩] concatenates_S2x64x512_S2x64x512_S2x128x512_d1) bitsLt_bf16_f32 := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem aup_stored : V m c main_v12
    = truncf (F := Ideal) .bf16 (concatenate S2x128x512 1 [⟨S2x64x512, broadcastInDim S2x64x512 ![] bcast_S_S2x64x512 (constant (F := Ideal) S_ .f32 0x00000000#32)⟩,
        ⟨S2x64x512, m ((c : Thread nD τ).loc main_arg7)⟩] concatenates_S2x64x512_S2x64x512_S2x128x512_d1) bitsLt_bf16_f32 := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem gup_stored : V m c main_v13
    = truncf (F := Ideal) .bf16 (m ((c : Thread nD τ).loc main_arg8)) bitsLt_bf16_f32 := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The head of each position of a half row, as the program's integers compute it. -/
def heads : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem heads_apply : ∀ i : Fin 256, heads (ix1 i) = BitVec.ofNat 32 (i.val / 64) := by
  decide +kernel

theorem same_stored : V m c main_v7
    = uitofp (F := Ideal) .bf16 (cmpi .eq (broadcastInDim S256x256 ![0, 1] bcast_S256x1_S256x256_0_1 (broadcastInDim S256x1 ![0] bcast_S256_S256x1_0 heads))
        (broadcastInDim S256x256 ![0, 1] bcast_S1x256_S256x256_0_1 (broadcastInDim S1x256 ![1] bcast_S256_S1x256_1 heads))) := by
  simp only [V, hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The decay's low-rank weights stand in the first 64 rows. -/
theorem wup_apply (k : Fin 128) (n : Fin 512) : (V m c main_v10 : Vec Ideal S2x128x512 .bf16) (ix3 (0 : Fin 2) k n)
    = if 0 ≤ k.val ∧ k.val < 0 + 64 then at3 (m ((c : Thread nD τ).loc main_arg5) : S2x64x512.Idx → EReal) 0 (k.val - 0) n.val else 0 := by
  rw [wup_stored]
  refine (pad_apply (0 : Fin 2) k n).trans ?_
  split_ifs with h h' h'
  · exact at3_eq (m ((c : Thread nD τ).loc main_arg5) : S2x64x512.Idx → EReal) _ rfl rfl rfl
  · omega
  · omega
  · exact zeros_apply _

/-- The rate's low-rank weights stand in the last 64 rows. -/
theorem aup_apply (k : Fin 128) (n : Fin 512) : (V m c main_v12 : Vec Ideal S2x128x512 .bf16) (ix3 (0 : Fin 2) k n)
    = if 64 ≤ k.val ∧ k.val < 64 + 64 then at3 (m ((c : Thread nD τ).loc main_arg7) : S2x64x512.Idx → EReal) 0 (k.val - 64) n.val else 0 := by
  rw [aup_stored]
  refine (pad_apply (0 : Fin 2) k n).trans ?_
  split_ifs with h h' h'
  · omega
  · exact zeros_apply _
  · exact at3_eq (m ((c : Thread nD τ).loc main_arg7) : S2x64x512.Idx → EReal) _ rfl rfl rfl
  · omega

theorem gup_apply (y : S2x128x512.Idx) : (V m c main_v13 : Vec Ideal S2x128x512 .bf16) y
    = (m ((c : Thread nD τ).loc main_arg8) : S2x128x512.Idx → EReal) y := by
  rw [gup_stored]
  rfl

/-- One where both positions belong to one head, zero elsewhere. -/
theorem same_apply (k n : Fin 256) : (V m c main_v7 : Vec Ideal S256x256 .bf16) (ix2 k n) = if k.val / 64 = n.val / 64 then (1 : EReal) else 0 := by
  rw [same_stored]
  show ((cmpi .eq (broadcastInDim S256x256 ![0, 1] bcast_S256x1_S256x256_0_1 (broadcastInDim S256x1 ![0] bcast_S256_S256x1_0 heads))
        (broadcastInDim S256x256 ![0, 1] bcast_S1x256_S256x256_0_1 (broadcastInDim S1x256 ![1] bcast_S256_S1x256_1 heads)) (ix2 k n)).toNat : EReal) = _
  have e : cmpi .eq (broadcastInDim S256x256 ![0, 1] bcast_S256x1_S256x256_0_1 (broadcastInDim S256x1 ![0] bcast_S256_S256x1_0 heads))
        (broadcastInDim S256x256 ![0, 1] bcast_S1x256_S256x256_0_1 (broadcastInDim S1x256 ![1] bcast_S256_S1x256_1 heads)) (ix2 k n)
      = BitVec.ofBool (BitVec.ofNat 32 (k.val / 64) == BitVec.ofNat 32 (n.val / 64)) := by
    rw [← heads_apply, ← heads_apply]
    simp only [pointwise]
    rfl
  have hb : (BitVec.ofNat 32 (k.val / 64) == BitVec.ofNat 32 (n.val / 64)) = decide (k.val / 64 = n.val / 64) := by
    rw [Bool.eq_iff_iff, beq_iff_eq, decide_eq_true_iff, ← BitVec.toNat_inj, BitVec.toNat_ofNat, BitVec.toNat_ofNat]
    omega
  rw [e, hb]
  split_ifs with h
  · simp [h]
  · simp [h]

end Mix.Stored

end
-- ==== Proof.MixRead.lean ====
/-
  What the blocks of a grid point of the mixer's inputs hold: parts of the arguments and of the prepared arrays.
-/
module

public import proofs.«01_k».proof.Proof.MixArgs
public import proofs.«01_k».proof.Proof.MixRun
public import proofs.«01_k».proof.Proof.MixStored

@[expose] public section

noncomputable section

namespace Mix.Read

open Ffn
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel4Ideal Cert.Kernel4Ideal.Gen

variable (m : (ℓ : Loc nD τ sig) → Buf (Elt Ideal) ℓ) (c : Dev nD)

/-- The call's arguments. -/
abbrev rows : (⟨2, ![16384, 1024]⟩ : Shape).Idx → EReal := m ((c : Thread nD τ).loc main_arg0)
abbrev arrays : Arrays where
  gains := m ((c : Thread nD τ).loc main_arg1)
  w := m ((c : Thread nD τ).loc main_arg2)
  mu := m ((c : Thread nD τ).loc main_arg3)
  w0 := m ((c : Thread nD τ).loc main_arg4)
  wup := m ((c : Thread nD τ).loc main_arg5)
  a0 := m ((c : Thread nD τ).loc main_arg6)
  aup := m ((c : Thread nD τ).loc main_arg7)
  gup := m ((c : Thread nD τ).loc main_arg8)
  kk := m ((c : Thread nD τ).loc main_arg9)
  ka := m ((c : Thread nD τ).loc main_arg10)
  rk := m ((c : Thread nD τ).loc main_arg11)

theorem index0 : ∀ t : Fin cfg0.N, win0_0.index t 0 = min t.val 31 ∧ win0_0.index t 1 = 0 :=
  (by decide +kernel : ∀ t : Fin grid0.N, win0_0.index t 0 = min t.val 31 ∧ win0_0.index t 1 = 0)
/-- The weights' blocks do not move. -/
theorem index2 : ∀ t : Fin cfg0.N, (∀ a, win0_2.index t a = 0) ∧ (∀ a, win0_3.index t a = 0) ∧ (∀ a, win0_4.index t a = 0) ∧ (∀ a, win0_6.index t a = 0)
    ∧ (∀ a, win0_9.index t a = 0) ∧ (∀ a, win0_10.index t a = 0) ∧ (∀ a, win0_11.index t a = 0) ∧ (∀ a, win0_12.index t a = 0) :=
  (by decide +kernel : ∀ t : Fin grid0.N, (∀ a, win0_2.index t a = 0) ∧ (∀ a, win0_3.index t a = 0) ∧ (∀ a, win0_4.index t a = 0) ∧ (∀ a, win0_6.index t a = 0)
    ∧ (∀ a, win0_9.index t a = 0) ∧ (∀ a, win0_10.index t a = 0) ∧ (∀ a, win0_11.index t a = 0) ∧ (∀ a, win0_12.index t a = 0))
theorem index3 : ∀ t : Fin cfg0.N, (∀ a, win0_1.index t a = 0) ∧ (∀ a, win0_5.index t a = 0) ∧ (∀ a, win0_7.index t a = 0) ∧ (∀ a, win0_8.index t a = 0) :=
  (by decide +kernel : ∀ t : Fin grid0.N, (∀ a, win0_1.index t a = 0) ∧ (∀ a, win0_5.index t a = 0) ∧ (∀ a, win0_7.index t a = 0) ∧ (∀ a, win0_8.index t a = 0))

variable (t : Fin cfg0.N)

/-- An index of a block that does not move is the array's. -/
theorem still {k n s : ℕ} (h : k = 0) : k * s + 1 * n = n := by
  rw [h, Nat.zero_mul, Nat.zero_add, Nat.one_mul]

theorem iblk0 (i : Fin 512) (k : Fin 1024) : (iblk m c 0 t : Vec Ideal S512x1024 .f32) (ix2 i k) = at2 (rows m c) (512 * min t.val 31 + i.val) k.val := by
  obtain ⟨e0, e1⟩ := index0 t
  unfold iblk
  rw [View.read_apply]
  refine (congrFun (V_main_arg0 m c) _).trans (at2_eq (rows m c) _ ?_ ?_)
  · show win0_0.index t 0 * 512 + 1 * i.val = _; omega
  · exact still e1

theorem iblk1 (n : Fin 6) (k : Fin 1024) : (iblk m c 1 t : Vec Ideal S1x6x1024 .f32) (ix3 (0 : Fin 1) n k) = at3 (arrays m c).gains 0 n.val k.val := by
  unfold iblk
  rw [View.read_apply]
  exact (congrFun (V_main_arg1 m c) _).trans (at3_eq (arrays m c).gains _ (still ((index3 t).1 0)) (still ((index3 t).1 1)) (still ((index3 t).1 2)))

theorem iblk2 (k : Fin 1024) (n : Fin 2816) : (X0_2 m c t : Vec Ideal S1024x2816 .bf16) (ix2 k n) = at2 (arrays m c).w k.val n.val := by
  unfold X0_2 Pipeline.Window.fill
  rw [dif_pos (moved0_2 t (ix2 k n))]
  unfold iblk
  rw [View.read_apply]
  exact (congrFun (V_main_arg2 m c) _).trans (at2_eq (arrays m c).w _ (still ((index2 t).1 0)) (still ((index2 t).1 1)))

theorem iblk3 (n : Fin 1792) : (iblk m c 3 t : Vec Ideal S2x1792 .f32) (ix2 (0 : Fin 2) n) = at2 (arrays m c).mu 0 n.val := by
  unfold iblk
  rw [View.read_apply]
  exact (congrFun (V_main_arg3 m c) _).trans (at2_eq (arrays m c).mu _ (still ((index2 t).2.1 0)) (still ((index2 t).2.1 1)))

theorem iblk4 (n : Fin 512) : (iblk m c 4 t : Vec Ideal S2x512 .f32) (ix2 (0 : Fin 2) n) = at2 (arrays m c).w0 0 n.val := by
  unfold iblk
  rw [View.read_apply]
  exact (congrFun (V_main_arg4 m c) _).trans (at2_eq (arrays m c).w0 _ (still ((index2 t).2.2.1 0)) (still ((index2 t).2.2.1 1)))

theorem iblk6 (n : Fin 512) : (iblk m c 6 t : Vec Ideal S2x512 .f32) (ix2 (0 : Fin 2) n) = at2 (arrays m c).a0 0 n.val := by
  unfold iblk
  rw [View.read_apply]
  exact (congrFun (V_main_arg6 m c) _).trans (at2_eq (arrays m c).a0 _ (still ((index2 t).2.2.2.1 0)) (still ((index2 t).2.2.2.1 1)))

theorem iblk9 (n : Fin 512) : (iblk m c 9 t : Vec Ideal S2x512 .f32) (ix2 (0 : Fin 2) n) = at2 (arrays m c).kk 0 n.val := by
  unfold iblk
  rw [View.read_apply]
  exact (congrFun (V_main_arg9 m c) _).trans (at2_eq (arrays m c).kk _ (still ((index2 t).2.2.2.2.1 0)) (still ((index2 t).2.2.2.2.1 1)))

theorem iblk10 (n : Fin 512) : (iblk m c 10 t : Vec Ideal S2x512 .f32) (ix2 (0 : Fin 2) n) = at2 (arrays m c).ka 0 n.val := by
  unfold iblk
  rw [View.read_apply]
  exact (congrFun (V_main_arg10 m c) _).trans (at2_eq (arrays m c).ka _ (still ((index2 t).2.2.2.2.2.1 0)) (still ((index2 t).2.2.2.2.2.1 1)))

theorem iblk11 (n : Fin 512) : (iblk m c 11 t : Vec Ideal S2x512 .f32) (ix2 (0 : Fin 2) n) = at2 (arrays m c).rk 0 n.val := by
  unfold iblk
  rw [View.read_apply]
  exact (congrFun (V_main_arg11 m c) _).trans (at2_eq (arrays m c).rk _ (still ((index2 t).2.2.2.2.2.2.1 0)) (still ((index2 t).2.2.2.2.2.2.1 1)))

theorem iblk5 (k : Fin 128) (n : Fin 512) : (iblk m c 5 t : Vec Ideal S1x128x512 .bf16) (ix3 (0 : Fin 1) k n)
    = if 0 ≤ k.val ∧ k.val < 0 + 64 then at3 (arrays m c).wup 0 (k.val - 0) n.val else 0 := by
  unfold iblk
  rw [View.read_apply]
  refine (congrArg (V m c main_v10 : Vec Ideal S2x128x512 .bf16) (funext fun a => Fin.ext ?_)).trans (Stored.wup_apply m c k n)
  match a with
  | ⟨0, _⟩ => exact still ((index3 t).2.1 0)
  | ⟨1, _⟩ => exact still ((index3 t).2.1 1)
  | ⟨2, _⟩ => exact still ((index3 t).2.1 2)

theorem iblk7 (k : Fin 128) (n : Fin 512) : (iblk m c 7 t : Vec Ideal S1x128x512 .bf16) (ix3 (0 : Fin 1) k n)
    = if 64 ≤ k.val ∧ k.val < 64 + 64 then at3 (arrays m c).aup 0 (k.val - 64) n.val else 0 := by
  unfold iblk
  rw [View.read_apply]
  refine (congrArg (V m c main_v12 : Vec Ideal S2x128x512 .bf16) (funext fun a => Fin.ext ?_)).trans (Stored.aup_apply m c k n)
  match a with
  | ⟨0, _⟩ => exact still ((index3 t).2.2.1 0)
  | ⟨1, _⟩ => exact still ((index3 t).2.2.1 1)
  | ⟨2, _⟩ => exact still ((index3 t).2.2.1 2)

theorem iblk8 (k : Fin 128) (n : Fin 512) : (iblk m c 8 t : Vec Ideal S1x128x512 .bf16) (ix3 (0 : Fin 1) k n)
    = at3 (arrays m c).gup 0 k.val n.val := by
  unfold iblk
  rw [View.read_apply]
  refine (congrArg (V m c main_v13 : Vec Ideal S2x128x512 .bf16) (funext fun a => Fin.ext ?_)).trans ((Stored.gup_apply m c (ix3 (0 : Fin 2) k n)).trans (at3_eq (arrays m c).gup (ix3 (0 : Fin 2) k n) rfl rfl rfl))
  match a with
  | ⟨0, _⟩ => exact still ((index3 t).2.2.2 0)
  | ⟨1, _⟩ => exact still ((index3 t).2.2.2 1)
  | ⟨2, _⟩ => exact still ((index3 t).2.2.2 2)

theorem iblk12 (k n : Fin 256) : (iblk m c 12 t : Vec Ideal S256x256 .bf16) (ix2 k n) = if k.val / 64 = n.val / 64 then (1 : EReal) else 0 := by
  unfold iblk
  rw [View.read_apply]
  refine (congrArg (V m c main_v7 : Vec Ideal S256x256 .bf16) (funext fun a => Fin.ext ?_)).trans (Stored.same_apply m c k n)
  match a with
  | ⟨0, _⟩ => exact still ((index2 t).2.2.2.2.2.2.2 0)
  | ⟨1, _⟩ => exact still ((index2 t).2.2.2.2.2.2.2 1)

end Mix.Read

end
-- ==== Proof.MixGood.lean ====
/-
  A point of the mixer's inputs whose loaded parts are the right ones stores the right rows.
-/
module

public import proofs.«01_k».proof.Proof.MixRead

@[expose] public section

noncomputable section

namespace Mix.Block

open Ffn
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel4Ideal Cert.Kernel4Ideal.Gen

/-- The loaded parts are those of the rows with the projections `P`, after the rows with the projections `Q`. -/
structure Good (L : Loads Ideal) (w : Weights) (P Q : ℕ → ℕ → EReal) : Prop where
  p : ∀ (i : Fin 512) (n : Fin 1792), L.p (ix2 i n) = P i.val n.val
  q : ∀ (i : Fin 512) (n : Fin 1792), k0_pay7 L.p L.c (ix2 i n) = Q i.val n.val
  mu : ∀ n : Fin 1792, L.mu (ix2 (0 : Fin 1) n) = w.mu n.val
  w0 : ∀ n : Fin 512, L.w0 (ix2 (0 : Fin 1) n) = w.w0 n.val
  wup : ∀ (k : Fin 128) (n : Fin 512), L.wup (ix3 (0 : Fin 1) k n) = if 0 ≤ k.val ∧ k.val < 0 + 64 then w.wup (k.val - 0) n.val else 0
  a0 : ∀ n : Fin 512, L.a0 (ix2 (0 : Fin 1) n) = w.a0 n.val
  aup : ∀ (k : Fin 128) (n : Fin 512), L.aup (ix3 (0 : Fin 1) k n) = if 64 ≤ k.val ∧ k.val < 64 + 64 then w.aup (k.val - 64) n.val else 0
  gup : ∀ (k : Fin 128) (n : Fin 512), L.gup (ix3 (0 : Fin 1) k n) = w.gup k.val n.val
  kk : ∀ n : Fin 512, L.kk (ix2 (0 : Fin 1) n) = w.kk n.val
  ka : ∀ n : Fin 512, L.ka (ix2 (0 : Fin 1) n) = w.ka n.val
  rk : ∀ n : Fin 512, L.rk (ix2 (0 : Fin 1) n) = w.rk n.val
  hs : ∀ k n : Fin 256, L.hs (ix2 k n) = if k.val / 64 = n.val / 64 then 1 else 0
  lru : ∀ (i : Fin 512) (n : Fin 1024), L.lru (ix2 i n) = P i.val (1792 + n.val)

namespace Good
variable {L : Loads Ideal} {w : Weights} {P Q : ℕ → ℕ → EReal} (G : Good L w P Q) (i n : Fin 512)
include G

theorem r_eq : L.r (ix2 i n) = shifted w.mu (P i.val) (Q i.val) n.val := r_apply G.p G.q G.mu i n
theorem k0_eq : L.k0 (ix2 i n) = shifted w.mu (P i.val) (Q i.val) (512 + n.val) := k_apply G.p G.q G.mu i n
theorem v_eq : L.v (ix2 i n) = shifted w.mu (P i.val) (Q i.val) (1024 + n.val) := v_apply G.p G.q G.mu i n
theorem lw_eq : L.lw (ix2 i n) = decay w (shifted w.mu (P i.val) (Q i.val)) n.val := decay_apply G.p G.q G.mu G.w0 G.wup i n
theorem a_eq : L.a (ix2 i n) = rate w (shifted w.mu (P i.val) (Q i.val)) n.val := rate_apply G.p G.q G.mu G.a0 G.aup i n
theorem gate_eq : L.gate (ix2 i n) = gate w (shifted w.mu (P i.val) (Q i.val)) n.val := gate_apply G.p G.q G.mu G.gup i n
theorem k1_eq : L.k1 (ix2 i n) = key1 w (shifted w.mu (P i.val) (Q i.val)) n.val :=
  key1_apply G.hs (S := fun i => shifted w.mu (P i) (Q i)) G.k0_eq G.kk i n
theorem k_eq : L.k (ix2 i n) = key w (shifted w.mu (P i.val) (Q i.val)) n.val :=
  key_apply (S := fun i => shifted w.mu (P i) (Q i)) G.k0_eq G.a_eq G.ka i n
theorem bonus_eq : L.bonus (ix2 i n) = bonus w (shifted w.mu (P i.val) (Q i.val)) n.val :=
  bonus_apply G.hs (S := fun i => shifted w.mu (P i) (Q i)) G.r_eq G.v_eq G.k_eq G.rk i n

end Good

section
open Mix.Read
variable (m : (ℓ : Loc nD τ sig) → Buf (Elt Ideal) ℓ) (c : Dev nD) (t : Fin cfg0.N)

/-- What point `t` loads, when the point before it kept the projections `b` and the rows before these are `q`. -/
def loads (arg : Memref sig .tc .vmem S512x2816 .f32) (harg : arg.IsWhole) (b : Vec Ideal S512x2816 .f32) (q : Vec Ideal S8x1792 .f32) : Loads Ideal :=
  ⟨ld arg harg b ![0, 0] S512x1792.size inb_S512x2816_S512x1792_0_0, q,
    ld (ms0_3 t) (hs0_3 t) (iblk m c 3 t) ![0, 0] S1x1792.size inb_S2x1792_S1x1792_0_0, ld (ms0_4 t) (hs0_4 t) (iblk m c 4 t) ![0, 0] S1x512.size inb_S2x512_S1x512_0_0,
    ld (ms0_5 t) (hs0_5 t) (iblk m c 5 t) ![0, 0, 0] S1x128x512.size inb_S1x128x512_S1x128x512_0_0_0, ld (ms0_6 t) (hs0_6 t) (iblk m c 6 t) ![0, 0] S1x512.size inb_S2x512_S1x512_0_0,
    ld (ms0_7 t) (hs0_7 t) (iblk m c 7 t) ![0, 0, 0] S1x128x512.size inb_S1x128x512_S1x128x512_0_0_0, ld (ms0_8 t) (hs0_8 t) (iblk m c 8 t) ![0, 0, 0] S1x128x512.size inb_S1x128x512_S1x128x512_0_0_0,
    ld (ms0_9 t) (hs0_9 t) (iblk m c 9 t) ![0, 0] S1x512.size inb_S2x512_S1x512_0_0, ld (ms0_10 t) (hs0_10 t) (iblk m c 10 t) ![0, 0] S1x512.size inb_S2x512_S1x512_0_0,
    ld (ms0_11 t) (hs0_11 t) (iblk m c 11 t) ![0, 0] S1x512.size inb_S2x512_S1x512_0_0, ld (ms0_12 t) (hs0_12 t) (iblk m c 12 t) ![0, 0] S256x256.size inb_S256x256_S256x256_0_0,
    ld arg harg b ![0, 1792] S512x1024.size inb_S512x2816_S512x1024_0_1792⟩

/-- A part of a matrix read at its positions. -/
theorem ld2 {R C : ℕ} {e : EltTy} (arg : Memref sig .tc .vmem (⟨2, ![R, C]⟩ : Shape) e) (harg : arg.IsWhole) (x : Vec Ideal (⟨2, ![R, C]⟩ : Shape) e)
    {o R' C' : ℕ} (h : ∀ a, (![0, o] : Fin 2 → ℕ) a + (![R', C'] : Fin 2 → ℕ) a ≤ (⟨2, ![R, C]⟩ : Shape).size a) (i' : Fin R') (n' : Fin C') (i : Fin R) (n : Fin C)
    (hi : i.val = i'.val) (hn : n.val = o + n'.val) :
    ld arg harg x ![0, o] ![R', C'] h (ix2 i' n') = x (ix2 i n) :=
  ld_apply arg harg x _ _ h _ _ fun a => by
    match a with
    | ⟨0, _⟩ => exact hi.trans (Nat.zero_add _).symm
    | ⟨1, _⟩ => exact hn

/-- An array with three axes, loaded whole. -/
theorem ld3 (arg : Memref sig .tc .vmem S1x128x512 .bf16) (harg : arg.IsWhole) (x : Vec Ideal S1x128x512 .bf16) (k : Fin 128) (n : Fin 512) :
    ld arg harg x ![0, 0, 0] S1x128x512.size inb_S1x128x512_S1x128x512_0_0_0 (ix3 (0 : Fin 1) k n) = x (ix3 (0 : Fin 1) k n) :=
  ld_apply arg harg x _ _ _ _ _ fun a => by
    match a with
    | ⟨0, _⟩ => rfl
    | ⟨1, _⟩ => exact (Nat.zero_add _).symm
    | ⟨2, _⟩ => exact (Nat.zero_add _).symm

/-- The first layer's row of an array with a row for each layer. -/
theorem ldRow (arg : Memref sig .tc .vmem S2x512 .f32) (harg : arg.IsWhole) (x : Vec Ideal S2x512 .f32) (n : Fin 512) :
    ld arg harg x ![0, 0] S1x512.size inb_S2x512_S1x512_0_0 (ix2 (0 : Fin 1) n) = x (ix2 (0 : Fin 2) n) :=
  ld2 arg harg x inb_S2x512_S1x512_0_0 0 n 0 n rfl (Nat.zero_add _).symm

/-- The rows before those with the projections `P`, when the carried block ends with the row `z`. -/
theorem prev_eq {p : Vec Ideal S512x1792 .f32} {q : Vec Ideal S8x1792 .f32} {P : ℕ → ℕ → EReal} {R : ℕ}
    (hp : ∀ (i : Fin 512) (n : Fin 1792), p (ix2 i n) = P (512 * R + i.val) n.val)
    (hq : ∀ n : Fin 1792, q (ix2 (7 : Fin 8) n) = before P (512 * R) n.val) (i : Fin 512) (n : Fin 1792) :
    k0_pay7 p q (ix2 i n) = before P (512 * R + i.val) n.val := by
  have hi := i.isLt
  rw [prev_apply]
  split_ifs with h
  · rw [hq, h, Nat.add_zero]
  · rw [hp]
    unfold before
    rw [if_neg (by omega)]
    show P (512 * R + (i.val - 1)) n.val = _
    rw [show 512 * R + (i.val - 1) = 512 * R + i.val - 1 by omega]

set_option maxHeartbeats 1600000 in
theorem good {arg : Memref sig .tc .vmem S512x2816 .f32} {harg : arg.IsWhole} {b : Vec Ideal S512x2816 .f32} {q : Vec Ideal S8x1792 .f32}
    {P : ℕ → ℕ → EReal} {R : ℕ} (hb : ∀ (i : Fin 512) (n : Fin 2816), b (ix2 i n) = P (512 * R + i.val) n.val)
    (hq : ∀ n : Fin 1792, q (ix2 (7 : Fin 8) n) = before P (512 * R) n.val) :
    Good (loads m c t arg harg b q) (weights (arrays m c)) (fun i => P (512 * R + i)) (fun i => before P (512 * R + i)) := by
  have hp : ∀ (i : Fin 512) (n : Fin 1792), (loads m c t arg harg b q).p (ix2 i n) = P (512 * R + i.val) n.val := fun i n =>
    (ld2 arg harg b inb_S512x2816_S512x1792_0_0 i n i (⟨n.val, by omega⟩ : Fin 2816) rfl (Nat.zero_add _).symm).trans (hb i _)
  refine ⟨hp, prev_eq hp hq, ?_, ?_, ?_, ?_, ?_, ?_, ?_, ?_, ?_, ?_, ?_⟩
  · exact fun n => (ld2 _ _ (iblk m c 3 t) inb_S2x1792_S1x1792_0_0 0 n (0 : Fin 2) n rfl (Nat.zero_add _).symm).trans (iblk3 m c t n)
  · exact fun n => (ldRow _ _ (iblk m c 4 t) n).trans (iblk4 m c t n)
  · exact fun k n => (ld3 _ _ (iblk m c 5 t) k n).trans (iblk5 m c t k n)
  · exact fun n => (ldRow _ _ (iblk m c 6 t) n).trans (iblk6 m c t n)
  · exact fun k n => (ld3 _ _ (iblk m c 7 t) k n).trans (iblk7 m c t k n)
  · exact fun k n => (ld3 _ _ (iblk m c 8 t) k n).trans (iblk8 m c t k n)
  · exact fun n => (ldRow _ _ (iblk m c 9 t) n).trans (iblk9 m c t n)
  · exact fun n => (ldRow _ _ (iblk m c 10 t) n).trans (iblk10 m c t n)
  · exact fun n => (ldRow _ _ (iblk m c 11 t) n).trans (iblk11 m c t n)
  · exact fun k n => (ld2 _ _ (iblk m c 12 t) inb_S256x256_S256x256_0_0 k n k n rfl (Nat.zero_add _).symm).trans (iblk12 m c t k n)
  · exact fun i n => (ld2 arg harg b inb_S512x2816_S512x1024_0_1792 i n i (⟨1792 + n.val, by omega⟩ : Fin 2816) rfl rfl).trans (hb i _)

end

end Mix.Block

end
-- ==== Proof.MixRunA.lean ====
/-
  The pieces that the generated run finds for the first point.
-/
module

public import proofs.«01_k».proof.Proof.MixRun
public import proofs.«01_k».proof.Proof.Gen.Kernel4Ideal.Frame.RunA

@[expose] public section

noncomputable section

namespace Mix.Block

open Idealize.ShloMosaic Idealize.ShloMosaic.TcCoe Idealize.ShloMosaic.Tactic Cert.Kernel4Ideal Cert.Kernel4Ideal.Gen

variable {F : FTy → Type} [FloatOps F] [Named F] {c : Dev nD} {i : grid0.Coords}
  {arg1 : Memref sig .tc .vmem S512x1024 .f32} {harg1 : arg1.IsWhole} {arg2 : Memref sig .tc .vmem S1x6x1024 .f32} {harg2 : arg2.IsWhole} {arg3 : Memref sig .tc .vmem S1024x2816 .bf16} {harg3 : arg3.IsWhole}
  {arg4 : Memref sig .tc .vmem S2x1792 .f32} {harg4 : arg4.IsWhole} {arg5 : Memref sig .tc .vmem S2x512 .f32} {harg5 : arg5.IsWhole} {arg6 : Memref sig .tc .vmem S1x128x512 .bf16} {harg6 : arg6.IsWhole}
  {arg7 : Memref sig .tc .vmem S2x512 .f32} {harg7 : arg7.IsWhole} {arg8 : Memref sig .tc .vmem S1x128x512 .bf16} {harg8 : arg8.IsWhole} {arg9 : Memref sig .tc .vmem S1x128x512 .bf16} {harg9 : arg9.IsWhole}
  {arg10 : Memref sig .tc .vmem S2x512 .f32} {harg10 : arg10.IsWhole} {arg11 : Memref sig .tc .vmem S2x512 .f32} {harg11 : arg11.IsWhole} {arg12 : Memref sig .tc .vmem S2x512 .f32} {harg12 : arg12.IsWhole}
  {arg13 : Memref sig .tc .vmem S256x256 .bf16} {harg13 : arg13.IsWhole} {arg14 : Memref sig .tc .vmem S512x512 .f32} {harg14 : arg14.IsWhole} {arg15 : Memref sig .tc .vmem S512x512 .f32} {harg15 : arg15.IsWhole}
  {arg16 : Memref sig .tc .vmem S512x512 .f32} {harg16 : arg16.IsWhole} {arg17 : Memref sig .tc .vmem S512x512 .f32} {harg17 : arg17.IsWhole} {arg18 : Memref sig .tc .vmem S512x512 .f32} {harg18 : arg18.IsWhole}
  {arg19 : Memref sig .tc .vmem S512x512 .f32} {harg19 : arg19.IsWhole} {arg20 : Memref sig .tc .vmem S512x512 .f32} {harg20 : arg20.IsWhole} {arg21 : Memref sig .tc .vmem S512x512 .f32} {harg21 : arg21.IsWhole}
  {arg22 : Memref sig .tc .vmem S512x1024 .f32} {harg22 : arg22.IsWhole} {arg23 : Memref sig .tc .vmem S512x2816 .f32} {harg23 : arg23.IsWhole} {arg24 : Memref sig .tc .vmem S512x2816 .f32} {harg24 : arg24.IsWhole}
  {arg25 : Memref sig .tc .vmem S8x1792 .f32} {harg25 : arg25.IsWhole}
  {hc0 : cond0_0 i} {hc1 : cond0_1 i} {hc2 : cond0_2 i} {hc3 : ¬cond0_3 i}
  {x0 : Vec F S512x1024 .f32} {x1 : Vec F S1x6x1024 .f32} {x2 : Vec F S1024x2816 .bf16} {x3 : Vec F S2x1792 .f32} {x4 x6 x9 x10 x11 : Vec F S2x512 .f32} {x5 x7 x8 : Vec F S1x128x512 .bf16} {x12 : Vec F S256x256 .bf16}

/-- The projections kept for the next point. -/
theorem projA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12).2.2.2.2.2.2.2.2.2.1
    = projPieces (k0_pay4 (ld arg1 harg1 x0 ![0, 0] S512x1024.size inb_S512x1024_S512x1024_0_0) (ld arg2 harg2 x1 ![0, 2, 0] S1x1x1024.size inb_S1x6x1024_S1x1x1024_0_2_0))
      (fun n => ld arg3 harg3 x2 ![0, 256 * (n % 11)] S1024x256.size (inb_wcols n)) [] 11 := by
  sl_kernel_rfl

end Mix.Block

end
-- ==== Proof.MixRunB.lean ====
/-
  The pieces that the generated run finds for the points after which a sequence's first results are known.
-/
module

public import proofs.«01_k».proof.Proof.MixRun
public import proofs.«01_k».proof.Proof.Gen.Kernel4Ideal.Frame.RunB

@[expose] public section

noncomputable section

namespace Mix.Block

open Idealize.ShloMosaic Idealize.ShloMosaic.TcCoe Idealize.ShloMosaic.Tactic Cert.Kernel4Ideal Cert.Kernel4Ideal.Gen

variable {F : FTy → Type} [FloatOps F] [Named F] {c : Dev nD} {i : grid0.Coords}
  {arg1 : Memref sig .tc .vmem S512x1024 .f32} {harg1 : arg1.IsWhole} {arg2 : Memref sig .tc .vmem S1x6x1024 .f32} {harg2 : arg2.IsWhole} {arg3 : Memref sig .tc .vmem S1024x2816 .bf16} {harg3 : arg3.IsWhole}
  {arg4 : Memref sig .tc .vmem S2x1792 .f32} {harg4 : arg4.IsWhole} {arg5 : Memref sig .tc .vmem S2x512 .f32} {harg5 : arg5.IsWhole} {arg6 : Memref sig .tc .vmem S1x128x512 .bf16} {harg6 : arg6.IsWhole}
  {arg7 : Memref sig .tc .vmem S2x512 .f32} {harg7 : arg7.IsWhole} {arg8 : Memref sig .tc .vmem S1x128x512 .bf16} {harg8 : arg8.IsWhole} {arg9 : Memref sig .tc .vmem S1x128x512 .bf16} {harg9 : arg9.IsWhole}
  {arg10 : Memref sig .tc .vmem S2x512 .f32} {harg10 : arg10.IsWhole} {arg11 : Memref sig .tc .vmem S2x512 .f32} {harg11 : arg11.IsWhole} {arg12 : Memref sig .tc .vmem S2x512 .f32} {harg12 : arg12.IsWhole}
  {arg13 : Memref sig .tc .vmem S256x256 .bf16} {harg13 : arg13.IsWhole} {arg14 : Memref sig .tc .vmem S512x512 .f32} {harg14 : arg14.IsWhole} {arg15 : Memref sig .tc .vmem S512x512 .f32} {harg15 : arg15.IsWhole}
  {arg16 : Memref sig .tc .vmem S512x512 .f32} {harg16 : arg16.IsWhole} {arg17 : Memref sig .tc .vmem S512x512 .f32} {harg17 : arg17.IsWhole} {arg18 : Memref sig .tc .vmem S512x512 .f32} {harg18 : arg18.IsWhole}
  {arg19 : Memref sig .tc .vmem S512x512 .f32} {harg19 : arg19.IsWhole} {arg20 : Memref sig .tc .vmem S512x512 .f32} {harg20 : arg20.IsWhole} {arg21 : Memref sig .tc .vmem S512x512 .f32} {harg21 : arg21.IsWhole}
  {arg22 : Memref sig .tc .vmem S512x1024 .f32} {harg22 : arg22.IsWhole} {arg23 : Memref sig .tc .vmem S512x2816 .f32} {harg23 : arg23.IsWhole} {arg24 : Memref sig .tc .vmem S512x2816 .f32} {harg24 : arg24.IsWhole}
  {arg25 : Memref sig .tc .vmem S8x1792 .f32} {harg25 : arg25.IsWhole}
  {hc0 : ¬cond0_0 i} {hc1 : cond0_1 i} {hc2 : ¬cond0_2 i} {hc3 : cond0_3 i}
  {x0 : Vec F S512x1024 .f32} {x1 : Vec F S1x6x1024 .f32} {x2 : Vec F S1024x2816 .bf16} {x3 : Vec F S2x1792 .f32} {x4 x6 x9 x10 x11 : Vec F S2x512 .f32} {x5 x7 x8 : Vec F S1x128x512 .bf16} {x12 : Vec F S256x256 .bf16}
  {xs0 : Vec F S512x2816 .f32}

/-- The projections kept for the next point. -/
theorem projB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs0).2.2.2.2.2.2.2.2.2.2.1
    = projPieces (k0_pay4 (ld arg1 harg1 x0 ![0, 0] S512x1024.size inb_S512x1024_S512x1024_0_0) (ld arg2 harg2 x1 ![0, 2, 0] S1x1x1024.size inb_S1x6x1024_S1x1x1024_0_2_0))
      (fun n => ld arg3 harg3 x2 ![0, 256 * (n % 11)] S1024x256.size (inb_wcols n)) [] 11 := by
  sl_kernel_rfl

/-- What the results are computed from. -/
theorem outsB :
    let r := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs0
    let L : Loads F := ⟨ld arg23 harg23 xs0 ![0, 0] S512x1792.size inb_S512x2816_S512x1792_0_0, zeros arg25,
      ld arg4 harg4 x3 ![0, 0] S1x1792.size inb_S2x1792_S1x1792_0_0, ld arg5 harg5 x4 ![0, 0] S1x512.size inb_S2x512_S1x512_0_0,
      ld arg6 harg6 x5 ![0, 0, 0] S1x128x512.size inb_S1x128x512_S1x128x512_0_0_0, ld arg7 harg7 x6 ![0, 0] S1x512.size inb_S2x512_S1x512_0_0,
      ld arg8 harg8 x7 ![0, 0, 0] S1x128x512.size inb_S1x128x512_S1x128x512_0_0_0, ld arg9 harg9 x8 ![0, 0, 0] S1x128x512.size inb_S1x128x512_S1x128x512_0_0_0,
      ld arg10 harg10 x9 ![0, 0] S1x512.size inb_S2x512_S1x512_0_0, ld arg11 harg11 x10 ![0, 0] S1x512.size inb_S2x512_S1x512_0_0,
      ld arg12 harg12 x11 ![0, 0] S1x512.size inb_S2x512_S1x512_0_0, ld arg13 harg13 x12 ![0, 0] S256x256.size inb_S256x256_S256x256_0_0,
      ld arg23 harg23 xs0 ![0, 1792] S512x1024.size inb_S512x2816_S512x1024_0_1792⟩
    r.1 = whole512 L.r ∧ r.2.1 = whole512 L.lw ∧ r.2.2.1 = whole512 L.k ∧ r.2.2.2.1 = whole512 L.v ∧ r.2.2.2.2.1 = whole512 L.k1
      ∧ r.2.2.2.2.2.1 = whole512 L.a ∧ r.2.2.2.2.2.2.1 = whole512 L.bonus ∧ r.2.2.2.2.2.2.2.1 = whole512 L.gate
      ∧ r.2.2.2.2.2.2.2.2.1 = whole1024 L.lru ∧ r.2.2.2.2.2.2.2.2.2.2.2.1 = whole8 L.last [⟨Rect.unit (s := S8x1792) ![0, 0] S8x1792.size inb_S8x1792_S8x1792_0_0, k0_pay69⟩] := by
  refine ⟨?_, ?_, ?_, ?_, ?_, ?_, ?_, ?_, ?_, ?_⟩
  all_goals sl_kernel_rfl

end Mix.Block

end
-- ==== Proof.MixRunC.lean ====
/-
  The pieces that the generated run finds for the points with an even number.
-/
module

public import proofs.«01_k».proof.Proof.MixRun
public import proofs.«01_k».proof.Proof.Gen.Kernel4Ideal.Frame.RunC

@[expose] public section

noncomputable section

namespace Mix.Block

open Idealize.ShloMosaic Idealize.ShloMosaic.TcCoe Idealize.ShloMosaic.Tactic Cert.Kernel4Ideal Cert.Kernel4Ideal.Gen

variable {F : FTy → Type} [FloatOps F] [Named F] {c : Dev nD} {i : grid0.Coords}
  {arg1 : Memref sig .tc .vmem S512x1024 .f32} {harg1 : arg1.IsWhole} {arg2 : Memref sig .tc .vmem S1x6x1024 .f32} {harg2 : arg2.IsWhole} {arg3 : Memref sig .tc .vmem S1024x2816 .bf16} {harg3 : arg3.IsWhole}
  {arg4 : Memref sig .tc .vmem S2x1792 .f32} {harg4 : arg4.IsWhole} {arg5 : Memref sig .tc .vmem S2x512 .f32} {harg5 : arg5.IsWhole} {arg6 : Memref sig .tc .vmem S1x128x512 .bf16} {harg6 : arg6.IsWhole}
  {arg7 : Memref sig .tc .vmem S2x512 .f32} {harg7 : arg7.IsWhole} {arg8 : Memref sig .tc .vmem S1x128x512 .bf16} {harg8 : arg8.IsWhole} {arg9 : Memref sig .tc .vmem S1x128x512 .bf16} {harg9 : arg9.IsWhole}
  {arg10 : Memref sig .tc .vmem S2x512 .f32} {harg10 : arg10.IsWhole} {arg11 : Memref sig .tc .vmem S2x512 .f32} {harg11 : arg11.IsWhole} {arg12 : Memref sig .tc .vmem S2x512 .f32} {harg12 : arg12.IsWhole}
  {arg13 : Memref sig .tc .vmem S256x256 .bf16} {harg13 : arg13.IsWhole} {arg14 : Memref sig .tc .vmem S512x512 .f32} {harg14 : arg14.IsWhole} {arg15 : Memref sig .tc .vmem S512x512 .f32} {harg15 : arg15.IsWhole}
  {arg16 : Memref sig .tc .vmem S512x512 .f32} {harg16 : arg16.IsWhole} {arg17 : Memref sig .tc .vmem S512x512 .f32} {harg17 : arg17.IsWhole} {arg18 : Memref sig .tc .vmem S512x512 .f32} {harg18 : arg18.IsWhole}
  {arg19 : Memref sig .tc .vmem S512x512 .f32} {harg19 : arg19.IsWhole} {arg20 : Memref sig .tc .vmem S512x512 .f32} {harg20 : arg20.IsWhole} {arg21 : Memref sig .tc .vmem S512x512 .f32} {harg21 : arg21.IsWhole}
  {arg22 : Memref sig .tc .vmem S512x1024 .f32} {harg22 : arg22.IsWhole} {arg23 : Memref sig .tc .vmem S512x2816 .f32} {harg23 : arg23.IsWhole} {arg24 : Memref sig .tc .vmem S512x2816 .f32} {harg24 : arg24.IsWhole}
  {arg25 : Memref sig .tc .vmem S8x1792 .f32} {harg25 : arg25.IsWhole}
  {hc0 : ¬cond0_0 i} {hc1 : ¬cond0_1 i} {hc2 : cond0_2 i} {hc3 : ¬cond0_3 i}
  {x0 : Vec F S512x1024 .f32} {x1 : Vec F S1x6x1024 .f32} {x2 : Vec F S1024x2816 .bf16} {x3 : Vec F S2x1792 .f32} {x4 x6 x9 x10 x11 : Vec F S2x512 .f32} {x5 x7 x8 : Vec F S1x128x512 .bf16} {x12 : Vec F S256x256 .bf16}
  {xs1 : Vec F S512x2816 .f32} {xs2 : Vec F S8x1792 .f32}

/-- The projections kept for the next point. -/
theorem projC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs1 xs2).2.2.2.2.2.2.2.2.2.1
    = projPieces (k0_pay4 (ld arg1 harg1 x0 ![0, 0] S512x1024.size inb_S512x1024_S512x1024_0_0) (ld arg2 harg2 x1 ![0, 2, 0] S1x1x1024.size inb_S1x6x1024_S1x1x1024_0_2_0))
      (fun n => ld arg3 harg3 x2 ![0, 256 * (n % 11)] S1024x256.size (inb_wcols n)) [] 11 := by
  sl_kernel_rfl

/-- What the results are computed from. -/
theorem outsC :
    let r := kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs1 xs2
    let L : Loads F := ⟨ld arg24 harg24 xs1 ![0, 0] S512x1792.size inb_S512x2816_S512x1792_0_0, ld arg25 harg25 xs2 ![0, 0] S8x1792.size inb_S8x1792_S8x1792_0_0,
      ld arg4 harg4 x3 ![0, 0] S1x1792.size inb_S2x1792_S1x1792_0_0, ld arg5 harg5 x4 ![0, 0] S1x512.size inb_S2x512_S1x512_0_0,
      ld arg6 harg6 x5 ![0, 0, 0] S1x128x512.size inb_S1x128x512_S1x128x512_0_0_0, ld arg7 harg7 x6 ![0, 0] S1x512.size inb_S2x512_S1x512_0_0,
      ld arg8 harg8 x7 ![0, 0, 0] S1x128x512.size inb_S1x128x512_S1x128x512_0_0_0, ld arg9 harg9 x8 ![0, 0, 0] S1x128x512.size inb_S1x128x512_S1x128x512_0_0_0,
      ld arg10 harg10 x9 ![0, 0] S1x512.size inb_S2x512_S1x512_0_0, ld arg11 harg11 x10 ![0, 0] S1x512.size inb_S2x512_S1x512_0_0,
      ld arg12 harg12 x11 ![0, 0] S1x512.size inb_S2x512_S1x512_0_0, ld arg13 harg13 x12 ![0, 0] S256x256.size inb_S256x256_S256x256_0_0,
      ld arg24 harg24 xs1 ![0, 1792] S512x1024.size inb_S512x2816_S512x1024_0_1792⟩
    r.1 = whole512 L.r ∧ r.2.1 = whole512 L.lw ∧ r.2.2.1 = whole512 L.k ∧ r.2.2.2.1 = whole512 L.v ∧ r.2.2.2.2.1 = whole512 L.k1
      ∧ r.2.2.2.2.2.1 = whole512 L.a ∧ r.2.2.2.2.2.2.1 = whole512 L.bonus ∧ r.2.2.2.2.2.2.2.1 = whole512 L.gate
      ∧ r.2.2.2.2.2.2.2.2.1 = whole1024 L.lru ∧ r.2.2.2.2.2.2.2.2.2.2.2.1 = whole8 L.last [] := by
  refine ⟨?_, ?_, ?_, ?_, ?_, ?_, ?_, ?_, ?_, ?_⟩
  all_goals sl_kernel_rfl

end Mix.Block

end
-- ==== Proof.MixRunD.lean ====
/-
  The pieces that the generated run finds for the other points with an odd number.
-/
module

public import proofs.«01_k».proof.Proof.MixRun
public import proofs.«01_k».proof.Proof.Gen.Kernel4Ideal.Frame.RunD

@[expose] public section

noncomputable section

namespace Mix.Block

open Idealize.ShloMosaic Idealize.ShloMosaic.TcCoe Idealize.ShloMosaic.Tactic Cert.Kernel4Ideal Cert.Kernel4Ideal.Gen

variable {F : FTy → Type} [FloatOps F] [Named F] {c : Dev nD} {i : grid0.Coords}
  {arg1 : Memref sig .tc .vmem S512x1024 .f32} {harg1 : arg1.IsWhole} {arg2 : Memref sig .tc .vmem S1x6x1024 .f32} {harg2 : arg2.IsWhole} {arg3 : Memref sig .tc .vmem S1024x2816 .bf16} {harg3 : arg3.IsWhole}
  {arg4 : Memref sig .tc .vmem S2x1792 .f32} {harg4 : arg4.IsWhole} {arg5 : Memref sig .tc .vmem S2x512 .f32} {harg5 : arg5.IsWhole} {arg6 : Memref sig .tc .vmem S1x128x512 .bf16} {harg6 : arg6.IsWhole}
  {arg7 : Memref sig .tc .vmem S2x512 .f32} {harg7 : arg7.IsWhole} {arg8 : Memref sig .tc .vmem S1x128x512 .bf16} {harg8 : arg8.IsWhole} {arg9 : Memref sig .tc .vmem S1x128x512 .bf16} {harg9 : arg9.IsWhole}
  {arg10 : Memref sig .tc .vmem S2x512 .f32} {harg10 : arg10.IsWhole} {arg11 : Memref sig .tc .vmem S2x512 .f32} {harg11 : arg11.IsWhole} {arg12 : Memref sig .tc .vmem S2x512 .f32} {harg12 : arg12.IsWhole}
  {arg13 : Memref sig .tc .vmem S256x256 .bf16} {harg13 : arg13.IsWhole} {arg14 : Memref sig .tc .vmem S512x512 .f32} {harg14 : arg14.IsWhole} {arg15 : Memref sig .tc .vmem S512x512 .f32} {harg15 : arg15.IsWhole}
  {arg16 : Memref sig .tc .vmem S512x512 .f32} {harg16 : arg16.IsWhole} {arg17 : Memref sig .tc .vmem S512x512 .f32} {harg17 : arg17.IsWhole} {arg18 : Memref sig .tc .vmem S512x512 .f32} {harg18 : arg18.IsWhole}
  {arg19 : Memref sig .tc .vmem S512x512 .f32} {harg19 : arg19.IsWhole} {arg20 : Memref sig .tc .vmem S512x512 .f32} {harg20 : arg20.IsWhole} {arg21 : Memref sig .tc .vmem S512x512 .f32} {harg21 : arg21.IsWhole}
  {arg22 : Memref sig .tc .vmem S512x1024 .f32} {harg22 : arg22.IsWhole} {arg23 : Memref sig .tc .vmem S512x2816 .f32} {harg23 : arg23.IsWhole} {arg24 : Memref sig .tc .vmem S512x2816 .f32} {harg24 : arg24.IsWhole}
  {arg25 : Memref sig .tc .vmem S8x1792 .f32} {harg25 : arg25.IsWhole}
  {hc0 : ¬cond0_0 i} {hc1 : ¬cond0_1 i} {hc2 : ¬cond0_2 i} {hc3 : cond0_3 i}
  {x0 : Vec F S512x1024 .f32} {x1 : Vec F S1x6x1024 .f32} {x2 : Vec F S1024x2816 .bf16} {x3 : Vec F S2x1792 .f32} {x4 x6 x9 x10 x11 : Vec F S2x512 .f32} {x5 x7 x8 : Vec F S1x128x512 .bf16} {x12 : Vec F S256x256 .bf16}
  {xs0 : Vec F S512x2816 .f32} {xs2 : Vec F S8x1792 .f32}

/-- The projections kept for the next point. -/
theorem projD : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs0 xs2).2.2.2.2.2.2.2.2.2.2.1
    = projPieces (k0_pay4 (ld arg1 harg1 x0 ![0, 0] S512x1024.size inb_S512x1024_S512x1024_0_0) (ld arg2 harg2 x1 ![0, 2, 0] S1x1x1024.size inb_S1x6x1024_S1x1x1024_0_2_0))
      (fun n => ld arg3 harg3 x2 ![0, 256 * (n % 11)] S1024x256.size (inb_wcols n)) [] 11 := by
  sl_kernel_rfl

/-- What the results are computed from. -/
theorem outsD :
    let r := kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 x0 x1 x2 x3 x4 x5 x6 x7 x8 x9 x10 x11 x12 xs0 xs2
    let L : Loads F := ⟨ld arg23 harg23 xs0 ![0, 0] S512x1792.size inb_S512x2816_S512x1792_0_0, ld arg25 harg25 xs2 ![0, 0] S8x1792.size inb_S8x1792_S8x1792_0_0,
      ld arg4 harg4 x3 ![0, 0] S1x1792.size inb_S2x1792_S1x1792_0_0, ld arg5 harg5 x4 ![0, 0] S1x512.size inb_S2x512_S1x512_0_0,
      ld arg6 harg6 x5 ![0, 0, 0] S1x128x512.size inb_S1x128x512_S1x128x512_0_0_0, ld arg7 harg7 x6 ![0, 0] S1x512.size inb_S2x512_S1x512_0_0,
      ld arg8 harg8 x7 ![0, 0, 0] S1x128x512.size inb_S1x128x512_S1x128x512_0_0_0, ld arg9 harg9 x8 ![0, 0, 0] S1x128x512.size inb_S1x128x512_S1x128x512_0_0_0,
      ld arg10 harg10 x9 ![0, 0] S1x512.size inb_S2x512_S1x512_0_0, ld arg11 harg11 x10 ![0, 0] S1x512.size inb_S2x512_S1x512_0_0,
      ld arg12 harg12 x11 ![0, 0] S1x512.size inb_S2x512_S1x512_0_0, ld arg13 harg13 x12 ![0, 0] S256x256.size inb_S256x256_S256x256_0_0,
      ld arg23 harg23 xs0 ![0, 1792] S512x1024.size inb_S512x2816_S512x1024_0_1792⟩
    r.1 = whole512 L.r ∧ r.2.1 = whole512 L.lw ∧ r.2.2.1 = whole512 L.k ∧ r.2.2.2.1 = whole512 L.v ∧ r.2.2.2.2.1 = whole512 L.k1
      ∧ r.2.2.2.2.2.1 = whole512 L.a ∧ r.2.2.2.2.2.2.1 = whole512 L.bonus ∧ r.2.2.2.2.2.2.2.1 = whole512 L.gate
      ∧ r.2.2.2.2.2.2.2.2.1 = whole1024 L.lru ∧ r.2.2.2.2.2.2.2.2.2.2.2.1 = whole8 L.last [] := by
  refine ⟨?_, ?_, ?_, ?_, ?_, ?_, ?_, ?_, ?_, ?_⟩
  all_goals sl_kernel_rfl

end Mix.Block

end
-- ==== Proof.MixPoint.lean ====
/-
  What every grid point of the mixer's inputs leaves: the projections of its rows, and the results of the rows before.
-/
module

public import proofs.«01_k».proof.Proof.MixGood
public import proofs.«01_k».proof.Proof.MixRunA
public import proofs.«01_k».proof.Proof.MixRunB
public import proofs.«01_k».proof.Proof.MixRunC
public import proofs.«01_k».proof.Proof.MixRunD

@[expose] public section

noncomputable section

namespace Mix.Block

open Ffn Mix.Read
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel4Ideal Cert.Kernel4Ideal.Gen

variable (m : (ℓ : Loc nD τ sig) → Buf (Elt Ideal) ℓ) (c : Dev nD) (t : Fin cfg0.N)

/-- The pieces of the results, read back. -/
theorem read_all {L : Loads Ideal} {l0 l1 l2 l3 l4 l5 l6 l7 : List (View.Piece (Elt Ideal) S512x512 .f32)}
    {l8 : List (View.Piece (Elt Ideal) S512x1024 .f32)} {l9 l : List (View.Piece (Elt Ideal) S8x1792 .f32)}
    (h : l0 = whole512 L.r ∧ l1 = whole512 L.lw ∧ l2 = whole512 L.k ∧ l3 = whole512 L.v ∧ l4 = whole512 L.k1 ∧ l5 = whole512 L.a
      ∧ l6 = whole512 L.bonus ∧ l7 = whole512 L.gate ∧ l8 = whole1024 L.lru ∧ l9 = whole8 L.last l) :
    VO0_13.read (Elt Ideal) (VO0_13.writes (Elt Ideal) VO0_13.junk l0) = L.r
      ∧ VO0_14.read (Elt Ideal) (VO0_14.writes (Elt Ideal) VO0_14.junk l1) = L.lw
      ∧ VO0_15.read (Elt Ideal) (VO0_15.writes (Elt Ideal) VO0_15.junk l2) = L.k
      ∧ VO0_16.read (Elt Ideal) (VO0_16.writes (Elt Ideal) VO0_16.junk l3) = L.v
      ∧ VO0_17.read (Elt Ideal) (VO0_17.writes (Elt Ideal) VO0_17.junk l4) = L.k1
      ∧ VO0_18.read (Elt Ideal) (VO0_18.writes (Elt Ideal) VO0_18.junk l5) = L.a
      ∧ VO0_19.read (Elt Ideal) (VO0_19.writes (Elt Ideal) VO0_19.junk l6) = L.bonus
      ∧ VO0_20.read (Elt Ideal) (VO0_20.writes (Elt Ideal) VO0_20.junk l7) = L.gate
      ∧ VO0_21.read (Elt Ideal) (VO0_21.writes (Elt Ideal) VO0_21.junk l8) = L.lru
      ∧ VS0_2.read (Elt Ideal) (VS0_2.writes (Elt Ideal) VS0_2.junk l9) = L.last := by
  obtain ⟨rfl, rfl, rfl, rfl, rfl, rfl, rfl, rfl, rfl, rfl⟩ := h
  refine ⟨?_, ?_, ?_, ?_, ?_, ?_, ?_, ?_, ?_, ?_⟩
  all_goals exact read_whole _ _ _ _ _

/-- The pieces of the projections, read back. -/
theorem read_proj (V : View sig .tc .vmem S512x2816 .f32) (i : Fin 512) (n : Fin 2816) :
    V.read (Elt Ideal) (V.writes (Elt Ideal) V.junk (projPieces (k0_pay4 (ld (ms0_0 t) (hs0_0 t) (iblk m c 0 t) ![0, 0] S512x1024.size inb_S512x1024_S512x1024_0_0)
        (ld (ms0_1 t) (hs0_1 t) (iblk m c 1 t) ![0, 2, 0] S1x1x1024.size inb_S1x6x1024_S1x1x1024_0_2_0))
      (fun n => ld (ms0_2 t) (hs0_2 t) (X0_2 m c t) ![0, 256 * (n % 11)] S1024x256.size (inb_wcols n)) [] 11)) (ix2 i n)
      = proj (weights (arrays m c)) (at2 (rows m c)) (512 * min t.val 31 + i.val) n.val := by
  have hn := n.isLt
  refine (read_projPieces V _ _ _ _ (ix2 i n) 11 le_rfl (show n.val / 256 < 11 by omega)).trans ?_
  refine (cols_apply _ _ _ (X := fun i => at2 (rows m c) (512 * min t.val 31 + i)) (w := weights (arrays m c)) (N := 256 * (n.val / 256)) ?_ ?_ ?_ i _).trans ?_
  · exact fun i k => (ld2 _ _ (iblk m c 0 t) inb_S512x1024_S512x1024_0_0 i k i k rfl (Nat.zero_add _).symm).trans (iblk0 m c t i k)
  · refine fun k => (ld_apply _ _ (iblk m c 1 t) _ _ inb_S1x6x1024_S1x1x1024_0_2_0 _ (ix3 (0 : Fin 1) (2 : Fin 6) k) fun a => ?_).trans (iblk1 m c t 2 k)
    match a with
    | ⟨0, _⟩ => rfl
    | ⟨1, _⟩ => rfl
    | ⟨2, _⟩ => exact (Nat.zero_add _).symm
  · refine fun k j => (ld2 _ _ (X0_2 m c t) (inb_wcols (n.val / 256)) k j k (⟨256 * (n.val / 256) + j.val, by omega⟩ : Fin 2816) rfl ?_).trans (iblk2 m c t k _)
    show 256 * (n.val / 256) + j.val = 256 * (n.val / 256 % 11) + j.val
    omega
  · show proj _ (at2 (rows m c)) _ (256 * (n.val / 256) + n.val % 256) = _
    rw [Nat.div_add_mod]

/-- The projections that an even point keeps. -/
theorem kept_even (h : t.val % 2 = 0) (i : Fin 512) (n : Fin 2816) :
    (outsAt0 m c t.val t.isLt).2.2.2.2.2.2.2.2.2.1 (ix2 i n) = proj (weights (arrays m c)) (at2 (rows m c)) (512 * min t.val 31 + i.val) n.val := by
  have ht : t.val < 33 := lt_of_lt_of_eq t.isLt N_0
  by_cases h0 : t.val % 33 = 0
  · rw [outsAt0_A m c t h0 (Or.inl h0) h (by omega)]
    refine Eq.trans ?_ (read_proj m c t VS0_0 i n)
    dsimp only
    refine congrFun ?_ _
    unfold sout0_A_0
    refine congrArg (fun l => VS0_0.read (Elt Ideal) (VS0_0.writes (Elt Ideal) VS0_0.junk l)) ?_
    exact projA
  · rw [outsAt0_C m c t h0 (by omega) h (by omega)]
    refine Eq.trans ?_ (read_proj m c t VS0_0 i n)
    dsimp only
    refine congrFun ?_ _
    unfold sout0_C_0
    refine congrArg (fun l => VS0_0.read (Elt Ideal) (VS0_0.writes (Elt Ideal) VS0_0.junk l)) ?_
    exact projC

/-- The projections that an odd point keeps. -/
theorem kept_odd (h : t.val % 2 = 1) (i : Fin 512) (n : Fin 2816) :
    (outsAt0 m c t.val t.isLt).2.2.2.2.2.2.2.2.2.2.1 (ix2 i n) = proj (weights (arrays m c)) (at2 (rows m c)) (512 * min t.val 31 + i.val) n.val := by
  have ht : t.val < 33 := lt_of_lt_of_eq t.isLt N_0
  by_cases h1 : t.val % 33 = 0 ∨ t.val % 33 = 1 ∨ t.val % 33 = 17
  · rw [outsAt0_B m c t (by omega) h1 (by omega) h]
    refine Eq.trans ?_ (read_proj m c t VS0_1 i n)
    dsimp only
    refine congrFun ?_ _
    unfold sout0_B_1
    refine congrArg (fun l => VS0_1.read (Elt Ideal) (VS0_1.writes (Elt Ideal) VS0_1.junk l)) ?_
    exact projB
  · rw [outsAt0_D m c t (by omega) h1 (by omega) h]
    refine Eq.trans ?_ (read_proj m c t VS0_1 i n)
    dsimp only
    refine congrFun ?_ _
    unfold sout0_D_1
    refine congrArg (fun l => VS0_1.read (Elt Ideal) (VS0_1.writes (Elt Ideal) VS0_1.junk l)) ?_
    exact projD

/-- Point `t` leaves the results that are computed from `L`. -/
def Leaves (L : Loads Ideal) : Prop :=
  (outsAt0 m c t.val t.isLt).1 = L.r
    ∧ (outsAt0 m c t.val t.isLt).2.1 = L.lw
    ∧ (outsAt0 m c t.val t.isLt).2.2.1 = L.k
    ∧ (outsAt0 m c t.val t.isLt).2.2.2.1 = L.v
    ∧ (outsAt0 m c t.val t.isLt).2.2.2.2.1 = L.k1
    ∧ (outsAt0 m c t.val t.isLt).2.2.2.2.2.1 = L.a
    ∧ (outsAt0 m c t.val t.isLt).2.2.2.2.2.2.1 = L.bonus
    ∧ (outsAt0 m c t.val t.isLt).2.2.2.2.2.2.2.1 = L.gate
    ∧ (outsAt0 m c t.val t.isLt).2.2.2.2.2.2.2.2.1 = L.lru
    ∧ (outsAt0 m c t.val t.isLt).2.2.2.2.2.2.2.2.2.2.2 = L.last

theorem leavesB (h0 : ¬t.val % 33 = 0) (h1 : (t.val % 33 = 0 ∨ t.val % 33 = 1 ∨ t.val % 33 = 17)) (h2 : ¬t.val % 2 = 0) (h3 : t.val % 2 = 1) :
    Leaves m c t (loads m c t scM0_0 (Memref.isWhole_whole _) (outsAt0 m c (t.val - 1) (Nat.lt_of_le_of_lt (Nat.sub_le _ _) t.isLt)).2.2.2.2.2.2.2.2.2.1
      (zeros scM0_2)) := by
  unfold Leaves
  rw [outsAt0_B m c t h0 h1 h2 h3]
  dsimp only
  unfold out0_B_13 out0_B_14 out0_B_15 out0_B_16 out0_B_17 out0_B_18 out0_B_19 out0_B_20 out0_B_21 sout0_B_2
  refine read_all (l := [⟨Rect.unit (s := S8x1792) ![0, 0] S8x1792.size inb_S8x1792_S8x1792_0_0, (k0_pay69 : FVec Ideal S8x1792 .f32)⟩]) ?_
  exact outsB

theorem leavesC (h0 : ¬t.val % 33 = 0) (h1 : ¬(t.val % 33 = 0 ∨ t.val % 33 = 1 ∨ t.val % 33 = 17)) (h2 : t.val % 2 = 0) (h3 : ¬t.val % 2 = 1) :
    Leaves m c t (loads m c t scM0_1 (Memref.isWhole_whole _) (outsAt0 m c (t.val - 1) (Nat.lt_of_le_of_lt (Nat.sub_le _ _) t.isLt)).2.2.2.2.2.2.2.2.2.2.1
      (ld scM0_2 (Memref.isWhole_whole _) (outsAt0 m c (t.val - 1) (Nat.lt_of_le_of_lt (Nat.sub_le _ _) t.isLt)).2.2.2.2.2.2.2.2.2.2.2 ![0, 0] S8x1792.size inb_S8x1792_S8x1792_0_0)) := by
  unfold Leaves
  rw [outsAt0_C m c t h0 h1 h2 h3]
  dsimp only
  unfold out0_C_13 out0_C_14 out0_C_15 out0_C_16 out0_C_17 out0_C_18 out0_C_19 out0_C_20 out0_C_21 sout0_C_2
  refine read_all (l := []) ?_
  exact outsC

theorem leavesD (h0 : ¬t.val % 33 = 0) (h1 : ¬(t.val % 33 = 0 ∨ t.val % 33 = 1 ∨ t.val % 33 = 17)) (h2 : ¬t.val % 2 = 0) (h3 : t.val % 2 = 1) :
    Leaves m c t (loads m c t scM0_0 (Memref.isWhole_whole _) (outsAt0 m c (t.val - 1) (Nat.lt_of_le_of_lt (Nat.sub_le _ _) t.isLt)).2.2.2.2.2.2.2.2.2.1
      (ld scM0_2 (Memref.isWhole_whole _) (outsAt0 m c (t.val - 1) (Nat.lt_of_le_of_lt (Nat.sub_le _ _) t.isLt)).2.2.2.2.2.2.2.2.2.2.2 ![0, 0] S8x1792.size inb_S8x1792_S8x1792_0_0)) := by
  unfold Leaves
  rw [outsAt0_D m c t h0 h1 h2 h3]
  dsimp only
  unfold out0_D_13 out0_D_14 out0_D_15 out0_D_16 out0_D_17 out0_D_18 out0_D_19 out0_D_20 out0_D_21 sout0_D_2
  refine read_all (l := []) ?_
  exact outsD

end Mix.Block

end
-- ==== Proof.MixTile.lean ====
/-
  The mixer's inputs over the whole grid: each of the nine result arrays, row by row.
-/
module

public import proofs.«01_k».proof.Proof.MixPoint
public import proofs.«01_k».proof.Proof.Gen.Kernel4Ideal.Value

@[expose] public section

noncomputable section

namespace Mix.Block

open Ffn Mix.Read
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel4Ideal Cert.Kernel4Ideal.Gen

variable (m : (ℓ : Loc nD τ sig) → Buf (Elt Ideal) ℓ) (c : Dev nD)

theorem zeros_apply (arg25 : Memref sig .tc .vmem S8x1792 .f32) (i : Fin 8) (n : Fin 1792) : zeros (F := Ideal) arg25 (ix2 i n) = 0 := by
  unfold zeros View.readCov
  rw [View.readAt_apply]
  refine (View.read_writes_cons_unit_of_mem arg25.view _ inb_S8x1792_S8x1792_0_0 _ [] _
    ((Rect.unit (s := S8x1792) ![0, 0] S8x1792.size inb_S8x1792_S8x1792_0_0).toLoadRect.idx (ix2 i n)) rfl fun a => ?_).trans ?_
  · match a with
    | ⟨0, _⟩ => exact (Nat.zero_add _).symm
    | ⟨1, _⟩ => exact (Nat.zero_add _).symm
  · unfold k0_pay69
    rw [shapeCast_self]
    exact Ideal.ofBits_zero_f32

/-- The projections of row `R`. -/
abbrev projs (R n : ℕ) : EReal := proj (weights (arrays m c)) (at2 (rows m c)) R n

/-- The last carried row of a point is the last row of the rows before. -/
theorem carry_eq {L : Loads Ideal} {w : Weights} {P Q : ℕ → ℕ → EReal} (G : Good L w P Q) (n : Fin 1792) :
    L.last (ix2 (7 : Fin 8) n) = P 511 n.val :=
  (last_apply L.p 7 n).trans (G.p _ n)

/-- Every point but the first leaves the results of the 512 rows before its own. -/
theorem point (k : ℕ) : ∀ hk : k + 1 < cfg0.N, ∃ L : Loads Ideal, Leaves m c ⟨k + 1, hk⟩ L
    ∧ Good L (weights (arrays m c)) (fun i => projs m c (512 * k + i)) (fun i => before (projs m c) (512 * k + i)) := by
  induction k with
  | zero =>
    intro hk
    refine ⟨_, leavesB m c ⟨1, hk⟩ (by show ¬1 % 33 = 0; decide) (by show 1 % 33 = 0 ∨ 1 % 33 = 1 ∨ 1 % 33 = 17; decide)
      (by show ¬1 % 2 = 0; decide) (by show 1 % 2 = 1; decide), good m c _ (P := projs m c) (R := 0) (fun i n => ?_) fun n => ?_⟩
    · exact kept_even m c ⟨0, by omega⟩ rfl i n
    · exact zeros_apply _ _ n
  | succ k ih =>
    intro hk
    have hN : k + 1 + 1 < 33 := lt_of_lt_of_eq hk N_0
    obtain ⟨L, hL, G⟩ := ih (by omega)
    have hcarry : ∀ n : Fin 1792, (k + 1) % 16 ≠ 0 →
        ld scM0_2 (Memref.isWhole_whole _) (outsAt0 m c (k + 1) (by omega)).2.2.2.2.2.2.2.2.2.2.2 ![0, 0] S8x1792.size inb_S8x1792_S8x1792_0_0 (ix2 (7 : Fin 8) n)
          = before (projs m c) (512 * (k + 1)) n.val := fun n h16 => by
      refine (ld2 _ _ _ inb_S8x1792_S8x1792_0_0 (7 : Fin 8) n (7 : Fin 8) n rfl (Nat.zero_add _).symm).trans ?_
      refine (congrFun hL.2.2.2.2.2.2.2.2.2 _).trans ((carry_eq G n).trans ?_)
      unfold before
      rw [if_neg (by omega), show 512 * (k + 1) - 1 = 512 * k + 511 by omega]
    have hmin : min (k + 1) 31 = k + 1 := by omega
    by_cases h2 : (k + 1 + 1) % 2 = 0
    · refine ⟨_, leavesC m c ⟨k + 1 + 1, hk⟩ (by show ¬(k + 1 + 1) % 33 = 0; omega) (by show ¬((k + 1 + 1) % 33 = 0 ∨ (k + 1 + 1) % 33 = 1 ∨ (k + 1 + 1) % 33 = 17); omega)
        h2 (by show ¬(k + 1 + 1) % 2 = 1; omega), good m c _ (P := projs m c) (R := k + 1) (fun i n => ?_) fun n => hcarry n (by omega)⟩
      refine (kept_odd m c ⟨k + 1, by omega⟩ (by show (k + 1) % 2 = 1; omega) i n).trans ?_
      show projs m c (512 * min (k + 1) 31 + i.val) n.val = _
      rw [hmin]
    · have kept : ∀ (i : Fin 512) (n : Fin 2816), (outsAt0 m c (k + 1) (by omega)).2.2.2.2.2.2.2.2.2.1 (ix2 i n) = projs m c (512 * (k + 1) + i.val) n.val := fun i n => by
        refine (kept_even m c ⟨k + 1, by omega⟩ (by show (k + 1) % 2 = 0; omega) i n).trans ?_
        show projs m c (512 * min (k + 1) 31 + i.val) n.val = _
        rw [hmin]
      by_cases h17 : k + 1 = 16
      · refine ⟨_, leavesB m c ⟨k + 1 + 1, hk⟩ (by show ¬(k + 1 + 1) % 33 = 0; omega) (by show (k + 1 + 1) % 33 = 0 ∨ (k + 1 + 1) % 33 = 1 ∨ (k + 1 + 1) % 33 = 17; omega)
          h2 (by show (k + 1 + 1) % 2 = 1; omega), good m c _ (P := projs m c) (R := k + 1) kept fun n => ?_⟩
        refine (zeros_apply _ _ n).trans ?_
        unfold before
        rw [if_pos (by omega)]
      · exact ⟨_, leavesD m c ⟨k + 1 + 1, hk⟩ (by show ¬(k + 1 + 1) % 33 = 0; omega) (by show ¬((k + 1 + 1) % 33 = 0 ∨ (k + 1 + 1) % 33 = 1 ∨ (k + 1 + 1) % 33 = 17); omega)
          h2 (by show (k + 1 + 1) % 2 = 1; omega), good m c _ (P := projs m c) (R := k + 1) kept fun n => hcarry n (by omega)⟩

/-- The results of every point but the first, at their positions. -/
theorem results (t : Fin cfg0.N) (ht : 1 ≤ t.val) (i : Fin 512) :
    let w := weights (arrays m c)
    let S := row (arrays m c) (rows m c) (512 * (t.val - 1) + i.val)
    let o := outsAt0 m c t.val t.isLt
    (∀ n : Fin 512, o.1 (ix2 i n) = S n.val ∧ o.2.1 (ix2 i n) = decay w S n.val ∧ o.2.2.1 (ix2 i n) = key w S n.val ∧ o.2.2.2.1 (ix2 i n) = S (1024 + n.val)
      ∧ o.2.2.2.2.1 (ix2 i n) = key1 w S n.val ∧ o.2.2.2.2.2.1 (ix2 i n) = rate w S n.val ∧ o.2.2.2.2.2.2.1 (ix2 i n) = bonus w S n.val
      ∧ o.2.2.2.2.2.2.2.1 (ix2 i n) = gate w S n.val)
    ∧ ∀ n : Fin 1024, o.2.2.2.2.2.2.2.2.1 (ix2 i n) = projs m c (512 * (t.val - 1) + i.val) (1792 + n.val) := by
  obtain ⟨t, hlt⟩ := t
  obtain ⟨k, rfl⟩ : ∃ k, t = k + 1 := ⟨t - 1, by have : 1 ≤ t := ht; omega⟩
  obtain ⟨L, ⟨e0, e1, e2, e3, e4, e5, e6, e7, e8, _⟩, G⟩ := point m c k hlt
  refine ⟨fun n => ⟨(congrFun e0 _).trans (G.r_eq i n), (congrFun e1 _).trans (G.lw_eq i n), (congrFun e2 _).trans (G.k_eq i n), (congrFun e3 _).trans (G.v_eq i n),
    (congrFun e4 _).trans (G.k1_eq i n), (congrFun e5 _).trans (G.a_eq i n), (congrFun e6 _).trans (G.bonus_eq i n), (congrFun e7 _).trans (G.gate_eq i n)⟩,
    fun n => (congrFun e8 _).trans (G.lru i n)⟩

end Mix.Block

end
-- ==== Proof.MixArray.lean ====
/-
  The nine result arrays of the mixer's inputs, as the call leaves them.
-/
module

public import proofs.«01_k».proof.Proof.MixTile
public import proofs.«01_k».proof.Proof.Rows

@[expose] public section

noncomputable section

namespace Mix.Block

open Ffn Mix.Read
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Kernel4Ideal Cert.Kernel4Ideal.Gen

variable (m : (ℓ : Loc nD τ sig) → Buf (Elt Ideal) ℓ) (c : Dev nD)

/-- Every result's block is written at every point but the first, -/
theorem writes_at : ∀ w : Fin cfg0.W, 13 ≤ w.val → ∀ t : Fin cfg0.N, (cfg0.win w).flush t = true ↔ 1 ≤ t.val := by
  decide +kernel
/-- to the 512 rows before the point's own. -/
theorem writes_to : ∀ t : Fin cfg0.N, (win0_13.index t 0 = t.val - 1 ∧ win0_13.index t 1 = 0) ∧ (win0_14.index t 0 = t.val - 1 ∧ win0_14.index t 1 = 0) ∧ (win0_15.index t 0 = t.val - 1 ∧ win0_15.index t 1 = 0) ∧ (win0_16.index t 0 = t.val - 1 ∧ win0_16.index t 1 = 0) ∧ (win0_17.index t 0 = t.val - 1 ∧ win0_17.index t 1 = 0) ∧ (win0_18.index t 0 = t.val - 1 ∧ win0_18.index t 1 = 0) ∧ (win0_19.index t 0 = t.val - 1 ∧ win0_19.index t 1 = 0) ∧ (win0_20.index t 0 = t.val - 1 ∧ win0_20.index t 1 = 0) ∧ (win0_21.index t 0 = t.val - 1 ∧ win0_21.index t 1 = 0) :=
  (by decide +kernel : ∀ t : Fin grid0.N, (win0_13.index t 0 = t.val - 1 ∧ win0_13.index t 1 = 0) ∧ (win0_14.index t 0 = t.val - 1 ∧ win0_14.index t 1 = 0) ∧ (win0_15.index t 0 = t.val - 1 ∧ win0_15.index t 1 = 0) ∧ (win0_16.index t 0 = t.val - 1 ∧ win0_16.index t 1 = 0) ∧ (win0_17.index t 0 = t.val - 1 ∧ win0_17.index t 1 = 0) ∧ (win0_18.index t 0 = t.val - 1 ∧ win0_18.index t 1 = 0) ∧ (win0_19.index t 0 = t.val - 1 ∧ win0_19.index t 1 = 0) ∧ (win0_20.index t 0 = t.val - 1 ∧ win0_20.index t 1 = 0) ∧ (win0_21.index t 0 = t.val - 1 ∧ win0_21.index t 1 = 0))

theorem point_of (q : ℕ) (h : q * 512 < 16384) : ∃ t : Fin cfg0.N, 1 ≤ t.val ∧ t.val - 1 = q :=
  ⟨⟨q + 1, by show _ < grid0.N; rw [N_0]; omega⟩, Nat.le_add_left _ _, rfl⟩

/-- A result's array, from its blocks at the points that write it. -/
theorem array_of (w : Fin cfg0.W) (hw : 13 ≤ w.val) (G : Buf (Elt Ideal) ((cfg0.win w).arr.view.loc (c.tc : Thread nD τ)))
    (hG : ∀ t : Fin cfg0.N, 1 ≤ t.val → (dats m 0 c).flushed w t = ((cfg0.win w).blk t).view.read (Elt Ideal) G)
    (hc : ∀ i : (cfg0.win w).arr.view.ty.Idx, ∃ t : Fin cfg0.N, 1 ≤ t.val ∧ ∃ y, ((cfg0.win w).blk t).view.emb y = i) : (dats m 0 c).arrAt w cfg0.N = G :=
  (dats m 0 c).arrAt_eq_of_cover w G (fun t hf => hG t ((writes_at w hw t).mp hf)) fun i => by
    obtain ⟨t, ht, y, rfl⟩ := hc i
    exact ⟨t, (writes_at w hw t).mpr ht, Finset.mem_map_of_mem _ (Finset.mem_univ _)⟩

theorem r_array : (dats m 0 c).arrAt 13 cfg0.N = rowsOf (row (arrays m c) (rows m c)) :=
  array_of m c 13 (by decide) _
    (fun t ht => Rows.read (o := (dats m 0 c).flushed 13 t) (G := rowsOf (row (arrays m c) (rows m c))) (writes_to t).1 ((cfg0.win 13).blk t).view.emb (fun _ => rfl) (fun _ => rfl)
      fun i n j hj => (congrFun (Cert.Kernel4Ideal.Value.flushed13 m c t) _).trans ((((results m c t ht i).1 n).1).trans (by rw [← hj]; rfl)))
    (Rows.cover (by decide) (fun t => (writes_to t).1) (fun t => ((cfg0.win 13).blk t).view.emb) (fun _ _ => rfl) (fun _ _ => rfl) point_of)

theorem lw_array : (dats m 0 c).arrAt 14 cfg0.N = rowsOf (fun R => decay (weights (arrays m c)) (row (arrays m c) (rows m c) R)) :=
  array_of m c 14 (by decide) _
    (fun t ht => Rows.read (o := (dats m 0 c).flushed 14 t) (G := rowsOf (fun R => decay (weights (arrays m c)) (row (arrays m c) (rows m c) R))) (writes_to t).2.1 ((cfg0.win 14).blk t).view.emb (fun _ => rfl) (fun _ => rfl)
      fun i n j hj => (congrFun (Cert.Kernel4Ideal.Value.flushed14 m c t) _).trans ((((results m c t ht i).1 n).2.1).trans (by rw [← hj]; rfl)))
    (Rows.cover (by decide) (fun t => (writes_to t).2.1) (fun t => ((cfg0.win 14).blk t).view.emb) (fun _ _ => rfl) (fun _ _ => rfl) point_of)

theorem k_array : (dats m 0 c).arrAt 15 cfg0.N = rowsOf (fun R => key (weights (arrays m c)) (row (arrays m c) (rows m c) R)) :=
  array_of m c 15 (by decide) _
    (fun t ht => Rows.read (o := (dats m 0 c).flushed 15 t) (G := rowsOf (fun R => key (weights (arrays m c)) (row (arrays m c) (rows m c) R))) (writes_to t).2.2.1 ((cfg0.win 15).blk t).view.emb (fun _ => rfl) (fun _ => rfl)
      fun i n j hj => (congrFun (Cert.Kernel4Ideal.Value.flushed15 m c t) _).trans ((((results m c t ht i).1 n).2.2.1).trans (by rw [← hj]; rfl)))
    (Rows.cover (by decide) (fun t => (writes_to t).2.2.1) (fun t => ((cfg0.win 15).blk t).view.emb) (fun _ _ => rfl) (fun _ _ => rfl) point_of)

theorem v_array : (dats m 0 c).arrAt 16 cfg0.N = rowsOf (fun R n => row (arrays m c) (rows m c) R (1024 + n)) :=
  array_of m c 16 (by decide) _
    (fun t ht => Rows.read (o := (dats m 0 c).flushed 16 t) (G := rowsOf (fun R n => row (arrays m c) (rows m c) R (1024 + n))) (writes_to t).2.2.2.1 ((cfg0.win 16).blk t).view.emb (fun _ => rfl) (fun _ => rfl)
      fun i n j hj => (congrFun (Cert.Kernel4Ideal.Value.flushed16 m c t) _).trans ((((results m c t ht i).1 n).2.2.2.1).trans (by rw [← hj]; rfl)))
    (Rows.cover (by decide) (fun t => (writes_to t).2.2.2.1) (fun t => ((cfg0.win 16).blk t).view.emb) (fun _ _ => rfl) (fun _ _ => rfl) point_of)

theorem kk_array : (dats m 0 c).arrAt 17 cfg0.N = rowsOf (fun R => key1 (weights (arrays m c)) (row (arrays m c) (rows m c) R)) :=
  array_of m c 17 (by decide) _
    (fun t ht => Rows.read (o := (dats m 0 c).flushed 17 t) (G := rowsOf (fun R => key1 (weights (arrays m c)) (row (arrays m c) (rows m c) R))) (writes_to t).2.2.2.2.1 ((cfg0.win 17).blk t).view.emb (fun _ => rfl) (fun _ => rfl)
      fun i n j hj => (congrFun (Cert.Kernel4Ideal.Value.flushed17 m c t) _).trans ((((results m c t ht i).1 n).2.2.2.2.1).trans (by rw [← hj]; rfl)))
    (Rows.cover (by decide) (fun t => (writes_to t).2.2.2.2.1) (fun t => ((cfg0.win 17).blk t).view.emb) (fun _ _ => rfl) (fun _ _ => rfl) point_of)

theorem a_array : (dats m 0 c).arrAt 18 cfg0.N = rowsOf (fun R => rate (weights (arrays m c)) (row (arrays m c) (rows m c) R)) :=
  array_of m c 18 (by decide) _
    (fun t ht => Rows.read (o := (dats m 0 c).flushed 18 t) (G := rowsOf (fun R => rate (weights (arrays m c)) (row (arrays m c) (rows m c) R))) (writes_to t).2.2.2.2.2.1 ((cfg0.win 18).blk t).view.emb (fun _ => rfl) (fun _ => rfl)
      fun i n j hj => (congrFun (Cert.Kernel4Ideal.Value.flushed18 m c t) _).trans ((((results m c t ht i).1 n).2.2.2.2.2.1).trans (by rw [← hj]; rfl)))
    (Rows.cover (by decide) (fun t => (writes_to t).2.2.2.2.2.1) (fun t => ((cfg0.win 18).blk t).view.emb) (fun _ _ => rfl) (fun _ _ => rfl) point_of)

theorem bonus_array : (dats m 0 c).arrAt 19 cfg0.N = rowsOf (fun R => bonus (weights (arrays m c)) (row (arrays m c) (rows m c) R)) :=
  array_of m c 19 (by decide) _
    (fun t ht => Rows.read (o := (dats m 0 c).flushed 19 t) (G := rowsOf (fun R => bonus (weights (arrays m c)) (row (arrays m c) (rows m c) R))) (writes_to t).2.2.2.2.2.2.1 ((cfg0.win 19).blk t).view.emb (fun _ => rfl) (fun _ => rfl)
      fun i n j hj => (congrFun (Cert.Kernel4Ideal.Value.flushed19 m c t) _).trans ((((results m c t ht i).1 n).2.2.2.2.2.2.1).trans (by rw [← hj]; rfl)))
    (Rows.cover (by decide) (fun t => (writes_to t).2.2.2.2.2.2.1) (fun t => ((cfg0.win 19).blk t).view.emb) (fun _ _ => rfl) (fun _ _ => rfl) point_of)

theorem gate_array : (dats m 0 c).arrAt 20 cfg0.N = rowsOf (fun R => gate (weights (arrays m c)) (row (arrays m c) (rows m c) R)) :=
  array_of m c 20 (by decide) _
    (fun t ht => Rows.read (o := (dats m 0 c).flushed 20 t) (G := rowsOf (fun R => gate (weights (arrays m c)) (row (arrays m c) (rows m c) R))) (writes_to t).2.2.2.2.2.2.2.1 ((cfg0.win 20).blk t).view.emb (fun _ => rfl) (fun _ => rfl)
      fun i n j hj => (congrFun (Cert.Kernel4Ideal.Value.flushed20 m c t) _).trans ((((results m c t ht i).1 n).2.2.2.2.2.2.2).trans (by rw [← hj]; rfl)))
    (Rows.cover (by decide) (fun t => (writes_to t).2.2.2.2.2.2.2.1) (fun t => ((cfg0.win 20).blk t).view.emb) (fun _ _ => rfl) (fun _ _ => rfl) point_of)

theorem lru_array : (dats m 0 c).arrAt 21 cfg0.N = lastCols (arrays m c) (rows m c) :=
  array_of m c 21 (by decide) _
    (fun t ht => Rows.read (o := (dats m 0 c).flushed 21 t) (G := lastCols (arrays m c) (rows m c)) (writes_to t).2.2.2.2.2.2.2.2 ((cfg0.win 21).blk t).view.emb (fun _ => rfl) (fun _ => rfl)
      fun i n j hj => (congrFun (Cert.Kernel4Ideal.Value.flushed21 m c t) _).trans (((results m c t ht i).2 n).trans (by rw [← hj]; rfl)))
    (Rows.cover (by decide) (fun t => (writes_to t).2.2.2.2.2.2.2.2) (fun t => ((cfg0.win 21).blk t).view.emb) (fun _ _ => rfl) (fun _ _ => rfl) point_of)

end Mix.Block

end
-- ==== Proof.MixRef4.lean ====
/-
  The parts of the reference of the mixer's inputs, read at a sequence, a position in it and a column. The reference
  keeps the rows as two sequences of 8192, and the heads of a row as an axis of their own.
-/
module

public import proofs.«01_k».proof.Proof.MixArgs
public import proofs.«01_k».proof.Proof.FfnRef2
public import proofs.«01_k».proof.Proof.FfnRef3
public import proofs.«01_k».proof.Proof.Gen.Reference4Ideal.Run
public import Idealize.ShloMosaic.Lib.KernelVsHost

@[expose] public section

noncomputable section

namespace Mix.Ref4

open Ffn
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Reference4Ideal Cert.Reference4Ideal.Gen

/-- An array over sequences, positions and columns whose row `8192 * b + s` is that of `f`. -/
def Is {N : ℕ} (f : ℕ → ℕ → EReal) (u : (⟨3, ![2, 8192, N]⟩ : Shape).Idx → EReal) : Prop :=
  ∀ (b : Fin 2) (s : Fin 8192) (n : Fin N), u (ix3 b s n) = f (8192 * b.val + s.val) n.val

/-- The same for an array with an axis for the heads. -/
def IsHeads (f : ℕ → ℕ → EReal) (u : S2x8192x8x64.Idx → EReal) : Prop :=
  ∀ (b : Fin 2) (s : Fin 8192) (h : Fin 8) (j : Fin 64), u (ix4 b s h j) = f (8192 * b.val + s.val) (64 * h.val + j.val)

/-! ## The reference's parts -/

def norm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf
    (Host.divf (broadcastInDim S2x8192x1 ![0, 1] bcast_S2x8192_S2x8192x1_0_1
        (Host.reduceAdd (mulf x x) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

def projections (h : FVec Ideal S2x8192x1024 .f32) (w : FVec Ideal S1024x4864 .f32) : FVec Ideal S2x8192x4864 .f32 :=
  Host.dotGeneral dot_S2x8192x1024_S1024x4864_S2x8192x4864_2_0_01_1_n_n none h w

/-- The positions shifted by one, with zeros before the first. -/
def shift (p : FVec Ideal S2x8192x1792 .f32) : FVec Ideal S2x8192x1792 .f32 :=
  pad S2x8192x1792 ![0, 1, 0] ![0, 0, 0] ![0, 0, 0] (extractStridedSlice S2x8191x1792 ![0, 0, 0] p slices_S2x8192x1792_S2x8191x1792_0_0_0)
    (sitofp (F := Ideal) .f32 (constantI S_ 32 0#32)) pads_S2x8191x1792_S2x8192x1792_000_100_000 h_S_

def mixed (p : FVec Ideal S2x8192x1792 .f32) (mu : FVec Ideal S2x1792 .f32) : FVec Ideal S2x8192x1792 .f32 :=
  addf p (mulf (broadcastInDim S2x8192x1792 ![0, 1, 2] bcast_S1x1x1792_S2x8192x1792_0_1_2 (broadcastInDim S1x1x1792 ![2] bcast_S1792_S1x1x1792_2
    (shapeCast S1792 (extractStridedSlice S1x1792 ![0, 0] mu slices_S2x1792_S1x1792_0_0) shapeCasts_S1x1792_S1792))) (subf (shift p) p))

/-- The first layer's row of an array, at every position. -/
def spread (a : FVec Ideal S2x512 .f32) : FVec Ideal S2x8192x512 .f32 :=
  broadcastInDim S2x8192x512 ![0, 1, 2] bcast_S1x1x512_S2x8192x512_0_1_2 (broadcastInDim S1x1x512 ![2] bcast_S512_S1x1x512_2
    (shapeCast S512 (extractStridedSlice S1x512 ![0, 0] a slices_S2x512_S1x512_0_0) shapeCasts_S1x512_S512))

def ones : FVec Ideal S2x8192x512 .f32 := broadcastInDim S2x8192x512 ![] bcast_S_S2x8192x512 (constant S_ .f32 0x3F800000#32)

def zeros : FVec Ideal S2x8192x512 .f32 := broadcastInDim S2x8192x512 ![] bcast_S_S2x8192x512 (constant S_ .f32 0x00000000#32)

def product64 (p : FVec Ideal S2x8192x64 .f32) (u : FVec Ideal S2x64x512 .f32) : FVec Ideal S2x8192x512 .f32 :=
  Host.dotGeneral dot_S2x8192x64_S64x512_S2x8192x512_2_0_01_1_n_n none p
    (shapeCast S64x512 (extractStridedSlice S1x64x512 ![0, 0, 0] u slices_S2x64x512_S1x64x512_0_0_0) shapeCasts_S1x64x512_S64x512)

def product128 (p : FVec Ideal S2x8192x128 .f32) (u : FVec Ideal S2x128x512 .f32) : FVec Ideal S2x8192x512 .f32 :=
  Host.dotGeneral dot_S2x8192x128_S128x512_S2x8192x512_2_0_01_1_n_n none p
    (shapeCast S128x512 (extractStridedSlice S1x128x512 ![0, 0, 0] u slices_S2x128x512_S1x128x512_0_0_0) shapeCasts_S1x128x512_S128x512)

def logaddexp (z : FVec Ideal S2x8192x512 .f32) : FVec Ideal S2x8192x512 .f32 :=
  select (cmpf .une (subf z zeros) (subf z zeros)) (addf z zeros)
    (addf (maximumf z zeros) (Host.log1p (Host.exp (Host.negf (Host.absf (subf z zeros))))))

def decays (p : FVec Ideal S2x8192x1792 .f32) (w0 : FVec Ideal S2x512 .f32) (u : FVec Ideal S2x64x512 .f32) : FVec Ideal S2x8192x512 .f32 :=
  Host.negf (Host.exp (subf (Host.negf (logaddexp (Host.negf (addf (spread w0)
    (product64 (Host.tanh (extractStridedSlice S2x8192x64 ![0, 0, 1536] p slices_S2x8192x1792_S2x8192x64_0_0_1536)) u)))))
    (broadcastInDim S2x8192x512 ![] bcast_S_S2x8192x512 (constant S_ .f32 0x3F000000#32))))

def rates (p : FVec Ideal S2x8192x1792 .f32) (a0 : FVec Ideal S2x512 .f32) (u : FVec Ideal S2x64x512 .f32) : FVec Ideal S2x8192x512 .f32 :=
  Host.divf ones (addf ones (Host.exp (Host.negf (addf (spread a0)
    (product64 (extractStridedSlice S2x8192x64 ![0, 0, 1600] p slices_S2x8192x1792_S2x8192x64_0_0_1600) u)))))

def gates (p : FVec Ideal S2x8192x1792 .f32) (u : FVec Ideal S2x128x512 .f32) : FVec Ideal S2x8192x512 .f32 :=
  product128 (Host.divf (broadcastInDim S2x8192x128 ![] bcast_S_S2x8192x128 (constant S_ .f32 0x3F800000#32))
    (addf (broadcastInDim S2x8192x128 ![] bcast_S_S2x8192x128 (constant S_ .f32 0x3F800000#32))
      (Host.exp (Host.negf (extractStridedSlice S2x8192x128 ![0, 0, 1664] p slices_S2x8192x1792_S2x8192x128_0_0_1664))))) u

def keys0 (k : FVec Ideal S2x8192x512 .f32) (kk : FVec Ideal S2x512 .f32) : FVec Ideal S2x8192x8x64 .f32 :=
  shapeCast S2x8192x8x64 (mulf k (spread kk)) shapeCasts_S2x8192x512_S2x8192x8x64

/-- The sum over each head, at each of its entries' positions. -/
def sums (v : FVec Ideal S2x8192x8x64 .f32) : FVec Ideal S2x8192x8x1 .f32 :=
  broadcastInDim S2x8192x8x1 ![0, 1, 2] bcast_S2x8192x8_S2x8192x8x1_0_1_2
    (Host.reduceAdd v (constant S_ .f32 0x00000000#32) reducesTo_S2x8192x8x64_S2x8192x8_d3 h_S_)

def units (v : FVec Ideal S2x8192x8x64 .f32) : FVec Ideal S2x8192x8x64 .f32 :=
  Host.divf v (broadcastInDim S2x8192x8x64 ![0, 1, 2, 3] bcast_S2x8192x8x1_S2x8192x8x64_0_1_2_3
    (maximumf (Host.sqrt (sums (mulf v v))) (broadcastInDim S2x8192x8x1 ![] bcast_S_S2x8192x8x1 (constant S_ .f32 0x2B8CBCCC#32))))

def keys (k a : FVec Ideal S2x8192x512 .f32) (ka : FVec Ideal S2x512 .f32) : FVec Ideal S2x8192x512 .f32 :=
  mulf k (addf ones (mulf (subf a ones) (spread ka)))

def bonuses (r k v : FVec Ideal S2x8192x512 .f32) (rk : FVec Ideal S2x512 .f32) : FVec Ideal S2x8192x8x64 .f32 :=
  mulf (broadcastInDim S2x8192x8x64 ![0, 1, 2, 3] bcast_S2x8192x8x1_S2x8192x8x64_0_1_2_3 (sums (mulf
      (mulf (shapeCast S2x8192x8x64 r shapeCasts_S2x8192x512_S2x8192x8x64) (shapeCast S2x8192x8x64 k shapeCasts_S2x8192x512_S2x8192x8x64))
      (broadcastInDim S2x8192x8x64 ![0, 1, 2, 3] bcast_S1x1x8x64_S2x8192x8x64_0_1_2_3 (broadcastInDim S1x1x8x64 ![2, 3] bcast_S8x64_S1x1x8x64_2_3
        (shapeCast S8x64 (shapeCast S512 (extractStridedSlice S1x512 ![0, 0] rk slices_S2x512_S1x512_0_0) shapeCasts_S1x512_S512) shapeCasts_S512_S8x64))))))
    (shapeCast S2x8192x8x64 v shapeCasts_S2x8192x512_S2x8192x8x64)

/-! ## Reshapes and slices -/

theorem rows_is (x : S16384x1024.Idx → EReal) : Is (at2 x) (shapeCast S2x8192x1024 x shapeCasts_S16384x1024_S2x8192x1024) := by
  intro b s n
  refine (shapeCast_apply _ _ (ix3 b s n) (ix2 (⟨8192 * b.val + s.val, by omega⟩ : Fin 16384) n) ?_).trans (at2_eq x _ rfl rfl)
  rw [Shape.rowMajor_val_three, Shape.rowMajor_val_two]
  show (8192 * b.val + s.val) * 1024 + n.val = (b.val * 8192 + s.val) * 1024 + n.val
  omega

theorem flat_eq {f : ℕ → ℕ → EReal} {u : S2x8192x512.Idx → EReal} (h : Is f u) :
    shapeCast S16384x512 u shapeCasts_S2x8192x512_S16384x512 = rowsOf f := by
  refine funext fun y => ?_
  have h0 : (y 0).val < 16384 := (y 0).isLt
  have h1 : (y 1).val < 512 := (y 1).isLt
  refine (shapeCast_apply _ _ y (ix3 (⟨(y 0).val / 8192, by omega⟩ : Fin 2) (⟨(y 0).val % 8192, by omega⟩ : Fin 8192) (⟨(y 1).val, h1⟩ : Fin 512)) ?_).trans ((h _ _ _).trans ?_)
  · rw [Shape.rowMajor_val_three, Shape.rowMajor_val_two]
    show ((y 0).val / 8192 * 8192 + (y 0).val % 8192) * 512 + (y 1).val = (y 0).val * 512 + (y 1).val
    omega
  · show f (8192 * ((y 0).val / 8192) + (y 0).val % 8192) (y 1).val = f (y 0).val (y 1).val
    rw [Nat.div_add_mod]

theorem flat_last_eq {f : ℕ → ℕ → EReal} {u : S2x8192x1024.Idx → EReal} (h : Is f u) (y : S16384x1024.Idx) :
    shapeCast S16384x1024 u shapeCasts_S2x8192x1024_S16384x1024 y = f (y 0).val (y 1).val := by
  have h0 : (y 0).val < 16384 := (y 0).isLt
  have h1 : (y 1).val < 1024 := (y 1).isLt
  refine (shapeCast_apply _ _ y (ix3 (⟨(y 0).val / 8192, by omega⟩ : Fin 2) (⟨(y 0).val % 8192, by omega⟩ : Fin 8192) (⟨(y 1).val, h1⟩ : Fin 1024)) ?_).trans ((h _ _ _).trans ?_)
  · rw [Shape.rowMajor_val_three, Shape.rowMajor_val_two]
    show ((y 0).val / 8192 * 8192 + (y 0).val % 8192) * 1024 + (y 1).val = (y 0).val * 1024 + (y 1).val
    omega
  · show f (8192 * ((y 0).val / 8192) + (y 0).val % 8192) (y 1).val = f (y 0).val (y 1).val
    rw [Nat.div_add_mod]

theorem heads_is {f : ℕ → ℕ → EReal} {u : S2x8192x512.Idx → EReal} (h : Is f u) :
    IsHeads f (shapeCast S2x8192x8x64 u shapeCasts_S2x8192x512_S2x8192x8x64) := by
  intro b s e j
  refine (shapeCast_apply _ _ (ix4 b s e j) (ix3 b s (⟨64 * e.val + j.val, by omega⟩ : Fin 512)) ?_).trans (h _ _ _)
  rw [Shape.rowMajor_val_three, Shape.rowMajor_val_four]
  show (b.val * 8192 + s.val) * 512 + (64 * e.val + j.val) = ((b.val * 8192 + s.val) * 8 + e.val) * 64 + j.val
  omega

theorem flat_heads_eq {f : ℕ → ℕ → EReal} {u : S2x8192x8x64.Idx → EReal} (h : IsHeads f u) :
    shapeCast S16384x512 u shapeCasts_S2x8192x8x64_S16384x512 = rowsOf f := by
  refine funext fun y => ?_
  have h0 : (y 0).val < 16384 := (y 0).isLt
  have h1 : (y 1).val < 512 := (y 1).isLt
  refine (shapeCast_apply _ _ y (ix4 (⟨(y 0).val / 8192, by omega⟩ : Fin 2) (⟨(y 0).val % 8192, by omega⟩ : Fin 8192)
    (⟨(y 1).val / 64, by omega⟩ : Fin 8) (⟨(y 1).val % 64, by omega⟩ : Fin 64)) ?_).trans ((h _ _ _ _).trans ?_)
  · rw [Shape.rowMajor_val_four, Shape.rowMajor_val_two]
    show (((y 0).val / 8192 * 8192 + (y 0).val % 8192) * 8 + (y 1).val / 64) * 64 + (y 1).val % 64 = (y 0).val * 512 + (y 1).val
    omega
  · show f (8192 * ((y 0).val / 8192) + (y 0).val % 8192) (64 * ((y 1).val / 64) + (y 1).val % 64) = f (y 0).val (y 1).val
    rw [Nat.div_add_mod, Nat.div_add_mod]

theorem slice_is {N M : ℕ} (o : ℕ) (ho : o + M ≤ N) {f : ℕ → ℕ → EReal} {u : (⟨3, ![2, 8192, N]⟩ : Shape).Idx → EReal} (h : Is f u)
    (hs : (⟨3, ![2, 8192, N]⟩ : Shape).Slices ![0, 0, o] ⟨3, ![2, 8192, M]⟩) :
    Is (fun R n => f R (o + n)) (extractStridedSlice ⟨3, ![2, 8192, M]⟩ ![0, 0, o] u hs) := by
  intro b s n
  refine (congrArg u (funext fun a => Fin.ext ?_)).trans (h b s (⟨o + n.val, by omega⟩ : Fin N))
  match a with
  | ⟨0, _⟩ => show 0 + b.val = b.val; omega
  | ⟨1, _⟩ => show 0 + s.val = s.val; omega
  | ⟨2, _⟩ => rfl

theorem gain_apply (g : S2x6x1024.Idx → EReal) (k : Fin 1024) :
    shapeCast S1024 (extractStridedSlice S1x1x1024 ![0, 2, 0] g slices_S2x6x1024_S1x1x1024_0_2_0) shapeCasts_S1x1x1024_S1024 (ix1 k)
      = at3 g 0 2 k.val := by
  refine (shapeCast_apply _ _ (ix1 k) (ix3 (0 : Fin 1) (0 : Fin 1) k) ?_).trans (at3_eq g _ rfl rfl (Nat.zero_add _))
  rw [Shape.rowMajor_val_three, Shape.rowMajor_val_one]
  show (0 * 1 + 0) * 1024 + k.val = k.val
  omega

theorem first_row {N : ℕ} [NeZero N] (a : (⟨2, ![2, N]⟩ : Shape).Idx → EReal) (hs : (⟨2, ![2, N]⟩ : Shape).Slices ![0, 0] ⟨2, ![1, N]⟩)
    (hc : (⟨2, ![1, N]⟩ : Shape).ShapeCasts ⟨1, ![N]⟩) (n : Fin N) :
    shapeCast ⟨1, ![N]⟩ (extractStridedSlice ⟨2, ![1, N]⟩ ![0, 0] a hs) hc (ix1 n) = at2 a 0 n.val := by
  refine (shapeCast_apply _ _ (ix1 n) (ix2 (0 : Fin 1) n) ?_).trans (at2_eq a _ rfl (Nat.zero_add _))
  rw [Shape.rowMajor_val_two, Shape.rowMajor_val_one]
  show 0 * N + n.val = n.val
  omega

end Mix.Ref4

end
-- ==== Proof.MixParts4.lean ====
/-
  The values of the parts of the reference of the mixer's inputs.
-/
module

public import proofs.«01_k».proof.Proof.MixRef4

@[expose] public section

noncomputable section

namespace Mix.Ref4

open Ffn
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Reference4Ideal Cert.Reference4Ideal.Gen

/-! ## The parts' values -/

theorem norm_is {X : ℕ → ℕ → EReal} {G : ℕ → EReal} {x : FVec Ideal S2x8192x1024 .f32} {g : FVec Ideal S1024 .f32} (hx : Is X x)
    (hg : ∀ k : Fin 1024, g (ix1 k) = G k.val) : Is (fun R => normed (X R) G) (norm x g) := by
  intro b s k
  unfold norm
  simp only [pointwise]
  show x (ix3 b s k) * Ideal.rsqrt (Ideal.div (0 + ∑ j : Fin 1024, x (ix3 b s j) * x (ix3 b s j)) cN + cE) * g (ix1 k) = _
  simp only [hx b s, hg, zero_add]
  rw [Block.sum_fin 1024 fun j => X (8192 * b.val + s.val) j * X (8192 * b.val + s.val) j]
  rfl

theorem projections_is {X W : ℕ → ℕ → EReal} {h : FVec Ideal S2x8192x1024 .f32} {w : FVec Ideal S1024x4864 .f32} (hx : Is X h)
    (hw : ∀ (k : Fin 1024) (n : Fin 4864), w (ix2 k n) = W k.val n.val) : Is (fun R => unit (X R) W) (projections h w) := by
  intro b s n
  unfold projections
  simp only [pointwise]
  show 0 + ∑ k : Fin 1024, h (ix3 b s k) * w (ix2 k n) = _
  simp only [hx b s, hw, zero_add]
  exact Block.sum_fin 1024 fun k => X (8192 * b.val + s.val) k * W k n.val

theorem shift_is {P : ℕ → ℕ → EReal} {p : FVec Ideal S2x8192x1792 .f32} (hp : Is P p) : Is (before P) (shift p) := by
  intro b s n
  unfold shift before
  by_cases h : s.val = 0
  · rw [if_pos (by omega)]
    refine (pad_apply_of_not_inside _ _ _ _ _ _ _ _ (1 : Fin 3) ?_).trans ?_
    · show ¬(1 ≤ s.val ∧ _)
      omega
    · show ((((0#32 : BitVec 32).toInt : ℤ) : ℝ) : EReal) = 0
      simp
  · have hs := s.isLt
    rw [if_neg (by omega)]
    refine (pad_apply_of_inside _ _ _ _ _ _ _ _ (ix3 b (⟨s.val - 1, by omega⟩ : Fin 8191) n) ?_).trans ?_
    · intro a
      match a with
      | ⟨0, _⟩ => show b.val = 0 + b.val * (0 + 1); omega
      | ⟨1, _⟩ => show s.val = 1 + (s.val - 1) * (0 + 1); omega
      | ⟨2, _⟩ => show n.val = 0 + n.val * (0 + 1); omega
    · refine (congrArg p (funext fun a => Fin.ext ?_)).trans ((hp b (⟨s.val - 1, by omega⟩ : Fin 8192) n).trans ?_)
      · match a with
        | ⟨0, _⟩ => show 0 + b.val = b.val; omega
        | ⟨1, _⟩ => show 0 + (s.val - 1) = s.val - 1; omega
        | ⟨2, _⟩ => show 0 + n.val = n.val; omega
      · show P (8192 * b.val + (s.val - 1)) n.val = P (8192 * b.val + s.val - 1) n.val
        rw [Nat.add_sub_assoc (by omega)]

theorem mixed_is {P : ℕ → ℕ → EReal} {p : FVec Ideal S2x8192x1792 .f32} (hp : Is P p) (mu : FVec Ideal S2x1792 .f32) :
    Is (fun R => shifted (at2 mu 0) (P R) (before P R)) (mixed p mu) := by
  intro b s n
  have h := first_row mu slices_S2x1792_S1x1792_0_0 shapeCasts_S1x1792_S1792 n
  have h' := shift_is hp b s n
  show p (ix3 b s n) + shapeCast S1792 (extractStridedSlice S1x1792 ![0, 0] mu slices_S2x1792_S1x1792_0_0) shapeCasts_S1x1792_S1792 (ix1 n)
    * (shift p (ix3 b s n) - p (ix3 b s n)) = _
  rw [h', hp b s n]
  exact congrArg (fun z => _ + z * _) h

theorem spread_is (a : FVec Ideal S2x512 .f32) : Is (fun _ => at2 a 0) (spread a) := by
  intro b s n
  exact first_row a slices_S2x512_S1x512_0_0 shapeCasts_S1x512_S512 n

theorem product64_is {P : ℕ → ℕ → EReal} {p : FVec Ideal S2x8192x64 .f32} (hp : Is P p) (u : FVec Ideal S2x64x512 .f32) :
    Is (fun R n => ∑ k ∈ Finset.range 64, P R k * at3 u 0 k n) (product64 p u) := by
  intro b s n
  unfold product64
  rw [Ref3.first_eq u slices_S2x64x512_S1x64x512_0_0_0 shapeCasts_S1x64x512_S64x512]
  simp only [pointwise]
  show 0 + ∑ k : Fin 64, p (ix3 b s k) * at3 u 0 k.val n.val = _
  simp only [hp b s, zero_add]
  exact Block.sum_fin 64 fun k => P (8192 * b.val + s.val) k * at3 u 0 k n.val

theorem product128_is {P : ℕ → ℕ → EReal} {p : FVec Ideal S2x8192x128 .f32} (hp : Is P p) (u : FVec Ideal S2x128x512 .f32) :
    Is (fun R n => ∑ k ∈ Finset.range 128, P R k * at3 u 0 k n) (product128 p u) := by
  intro b s n
  unfold product128
  rw [Ref3.first_eq u slices_S2x128x512_S1x128x512_0_0_0 shapeCasts_S1x128x512_S128x512]
  simp only [pointwise]
  show 0 + ∑ k : Fin 128, p (ix3 b s k) * at3 u 0 k.val n.val = _
  simp only [hp b s, zero_add]
  exact Block.sum_fin 128 fun k => P (8192 * b.val + s.val) k * at3 u 0 k n.val

theorem zero_word : Ideal.ofBits .f32 0x00000000#32 = 0 := by
  norm_num [Ideal.ofBits, Ideal.ieee]

theorem logaddexp_is {P : ℕ → ℕ → EReal} {z : FVec Ideal S2x8192x512 .f32} (hz : Is P z) : Is (fun R n => softplus (P R n)) (logaddexp z) := by
  intro b s n
  show Scalar.select (Ideal.cmp .une (z (ix3 b s n) - Ideal.ofBits .f32 0x00000000#32) (z (ix3 b s n) - Ideal.ofBits .f32 0x00000000#32))
    (z (ix3 b s n) + Ideal.ofBits .f32 0x00000000#32) (max (z (ix3 b s n)) (Ideal.ofBits .f32 0x00000000#32)
      + Ideal.log (1 + Ideal.exp (-(max (z (ix3 b s n) - Ideal.ofBits .f32 0x00000000#32) (-(z (ix3 b s n) - Ideal.ofBits .f32 0x00000000#32)))))) = _
  rw [zero_word, sub_zero, hz b s n]
  simp only [Scalar.select, Ideal.cmp]
  simp
  rfl

theorem decays_is {P : ℕ → ℕ → EReal} {p : FVec Ideal S2x8192x1792 .f32} (hp : Is P p) (w0 : FVec Ideal S2x512 .f32) (u : FVec Ideal S2x64x512 .f32) :
    Is (fun R n => -Ideal.exp (-softplus (-(at2 w0 0 n + ∑ k ∈ Finset.range 64, Ideal.tanh (P R (1536 + k)) * at3 u 0 k n)) - cH)) (decays p w0 u) := by
  intro b s n
  have ht : Is (fun R k => Ideal.tanh (P R (1536 + k))) (Host.tanh (extractStridedSlice S2x8192x64 ![0, 0, 1536] p slices_S2x8192x1792_S2x8192x64_0_0_1536)) :=
    fun b s k => congrArg Ideal.tanh (slice_is 1536 (by decide) hp slices_S2x8192x1792_S2x8192x64_0_0_1536 b s k)
  have hl := logaddexp_is (P := fun R n => -(at2 w0 0 n + ∑ k ∈ Finset.range 64, Ideal.tanh (P R (1536 + k)) * at3 u 0 k n))
    (z := Host.negf (addf (spread w0) (product64 (Host.tanh (extractStridedSlice S2x8192x64 ![0, 0, 1536] p slices_S2x8192x1792_S2x8192x64_0_0_1536)) u)))
    fun b s n => congrArg (fun z : EReal => -z) (congrArg₂ (· + ·) (spread_is w0 b s n) (product64_is ht u b s n))
  exact congrArg (fun z : EReal => -Ideal.exp (-z - cH)) (hl b s n)

theorem rates_is {P : ℕ → ℕ → EReal} {p : FVec Ideal S2x8192x1792 .f32} (hp : Is P p) (a0 : FVec Ideal S2x512 .f32) (u : FVec Ideal S2x64x512 .f32) :
    Is (fun R n => Ideal.logistic (at2 a0 0 n + ∑ k ∈ Finset.range 64, P R (1600 + k) * at3 u 0 k n)) (rates p a0 u) := by
  intro b s n
  have h := congrArg₂ (· + ·) (spread_is a0 b s n) (product64_is (slice_is 1600 (by decide) hp slices_S2x8192x1792_S2x8192x64_0_0_1600) u b s n)
  show Ideal.div (Ideal.ofBits .f32 0x3F800000#32) (Ideal.ofBits .f32 0x3F800000#32 + Ideal.exp (-(spread a0 (ix3 b s n)
    + product64 (extractStridedSlice S2x8192x64 ![0, 0, 1600] p slices_S2x8192x1792_S2x8192x64_0_0_1600) u (ix3 b s n)))) = _
  rw [Ref2.one_word]
  exact congrArg (fun z : EReal => Ideal.div 1 (1 + Ideal.exp (-z))) h

theorem gates_is {P : ℕ → ℕ → EReal} {p : FVec Ideal S2x8192x1792 .f32} (hp : Is P p) (u : FVec Ideal S2x128x512 .f32) :
    Is (fun R n => ∑ k ∈ Finset.range 128, Ideal.logistic (P R (1664 + k)) * at3 u 0 k n) (gates p u) := by
  refine product128_is (P := fun R k => Ideal.logistic (P R (1664 + k))) (fun b s k => ?_) u
  have h := slice_is 1664 (by decide) hp slices_S2x8192x1792_S2x8192x128_0_0_1664 b s k
  show Ideal.div (Ideal.ofBits .f32 0x3F800000#32) (Ideal.ofBits .f32 0x3F800000#32 + Ideal.exp
    (-(extractStridedSlice S2x8192x128 ![0, 0, 1664] p slices_S2x8192x1792_S2x8192x128_0_0_1664 (ix3 b s k)))) = _
  rw [Ref2.one_word]
  exact congrArg (fun z : EReal => Ideal.div 1 (1 + Ideal.exp (-z))) h

theorem keys0_is {K : ℕ → ℕ → EReal} {k : FVec Ideal S2x8192x512 .f32} (hk : Is K k) (kk : FVec Ideal S2x512 .f32) :
    IsHeads (fun R n => K R n * at2 kk 0 n) (keys0 k kk) :=
  heads_is fun b s n => congrArg₂ (· * ·) (hk b s n) (spread_is kk b s n)

theorem sums_apply {f : ℕ → ℕ → EReal} {v : FVec Ideal S2x8192x8x64 .f32} (hv : IsHeads f v) (b : Fin 2) (s : Fin 8192) (h : Fin 8) (j : Fin 64) :
    sums v (ix4 b s h (0 : Fin 1)) = head (f (8192 * b.val + s.val)) (64 * h.val + j.val) := by
  unfold sums
  simp only [pointwise]
  show 0 + ∑ i : Fin 64, v (ix4 b s h i) = _
  simp only [hv b s h, zero_add]
  unfold head
  rw [show (64 * h.val + j.val) / 64 = h.val by omega]
  exact Block.sum_fin 64 fun i => f (8192 * b.val + s.val) (64 * h.val + i)

theorem over_apply (v : FVec Ideal S2x8192x8x1 .f32) (b : Fin 2) (s : Fin 8192) (h : Fin 8) (j : Fin 64) :
    broadcastInDim S2x8192x8x64 ![0, 1, 2, 3] bcast_S2x8192x8x1_S2x8192x8x64_0_1_2_3 v (ix4 b s h j) = v (ix4 b s h (0 : Fin 1)) := by
  refine broadcastInDim_apply _ _ _ (ix4 b s h j) (ix4 b s h (0 : Fin 1)) fun a => ?_
  match a with
  | ⟨0, _⟩ => rfl
  | ⟨1, _⟩ => rfl
  | ⟨2, _⟩ => rfl
  | ⟨3, _⟩ => rfl

theorem square_nonneg (z : EReal) : 0 ≤ z * z := by
  rcases le_total 0 z with h | h
  · exact mul_nonneg h h
  · rw [← neg_mul_neg]
    exact mul_nonneg (EReal.neg_nonneg.mpr h) (EReal.neg_nonneg.mpr h)

theorem units_is {f : ℕ → ℕ → EReal} {v : FVec Ideal S2x8192x8x64 .f32} (hv : IsHeads f v) :
    IsHeads (fun R n => f R n * Ideal.rsqrt (max (head (fun j => f R j * f R j) n) tiny)) (units v) := by
  intro b s h j
  have hs := sums_apply (f := fun R n => f R n * f R n) (v := mulf v v) (fun b s h j => congrArg₂ (· * ·) (hv b s h j) (hv b s h j)) b s h j
  unfold units
  rw [Host.divf_apply, over_apply]
  rw [maximumf_apply, Host.sqrt_apply, hs, hv b s h j]
  exact (unit_length _ _ (Finset.sum_nonneg fun _ _ => square_nonneg _)).symm

theorem keys_is {K A : ℕ → ℕ → EReal} {k a : FVec Ideal S2x8192x512 .f32} (hk : Is K k) (ha : Is A a) (ka : FVec Ideal S2x512 .f32) :
    Is (fun R n => K R n * (1 + (A R n - 1) * at2 ka 0 n)) (keys k a ka) := by
  intro b s n
  have h := spread_is ka b s n
  show k (ix3 b s n) * (Ideal.ofBits .f32 0x3F800000#32 + (a (ix3 b s n) - Ideal.ofBits .f32 0x3F800000#32) * spread ka (ix3 b s n)) = _
  rw [Ref2.one_word, hk b s n, ha b s n]
  exact congrArg (fun z => _ * (1 + _ * z)) h

theorem factors_apply (rk : FVec Ideal S2x512 .f32) (b : Fin 2) (s : Fin 8192) (h : Fin 8) (j : Fin 64) :
    broadcastInDim S2x8192x8x64 ![0, 1, 2, 3] bcast_S1x1x8x64_S2x8192x8x64_0_1_2_3 (broadcastInDim S1x1x8x64 ![2, 3] bcast_S8x64_S1x1x8x64_2_3
      (shapeCast S8x64 (shapeCast S512 (extractStridedSlice S1x512 ![0, 0] rk slices_S2x512_S1x512_0_0) shapeCasts_S1x512_S512) shapeCasts_S512_S8x64))
      (ix4 b s h j) = at2 rk 0 (64 * h.val + j.val) := by
  show shapeCast S8x64 (shapeCast S512 (extractStridedSlice S1x512 ![0, 0] rk slices_S2x512_S1x512_0_0) shapeCasts_S1x512_S512) shapeCasts_S512_S8x64 (ix2 h j) = _
  refine (shapeCast_apply _ _ (ix2 h j) (ix1 (⟨64 * h.val + j.val, by omega⟩ : Fin 512)) ?_).trans (first_row rk _ _ _)
  rw [Shape.rowMajor_val_two, Shape.rowMajor_val_one]
  show 64 * h.val + j.val = h.val * 64 + j.val
  omega

theorem bonuses_is {P K V : ℕ → ℕ → EReal} {r k v : FVec Ideal S2x8192x512 .f32} (hr : Is P r) (hk : Is K k) (hv : Is V v) (rk : FVec Ideal S2x512 .f32) :
    IsHeads (fun R n => head (fun j => P R j * K R j * at2 rk 0 j) n * V R n) (bonuses r k v rk) := by
  intro b s h j
  exact congrArg₂ (· * ·) ((over_apply _ b s h j).trans <| sums_apply (f := fun R j => P R j * K R j * at2 rk 0 j)
    (fun b s h j => congrArg₂ (· * ·) (congrArg₂ (· * ·) (heads_is hr b s h j) (heads_is hk b s h j)) (factors_apply rk b s h j)) b s h j)
    (heads_is hv b s h j)

end Mix.Ref4

end
-- ==== Proof.MixWhole4.lean ====
/-
  The nine results of the reference of the mixer's inputs.
-/
module

public import proofs.«01_k».proof.Proof.MixParts4

@[expose] public section

noncomputable section

namespace Mix.Ref4

open Ffn
open Idealize.ShloMosaic hiding ix1 ix2 ix3 ix4 eq_ix2 eq_ix3
open Idealize.ShloMosaic.ValueIdx (ix1 ix2 ix3 ix4 eq_ix2 eq_ix3)
open Idealize.ShloMosaic.TcCoe
open Cert.Reference4Ideal Cert.Reference4Ideal.Gen Cert.Reference4Ideal.Value

variable (m : (ℓ : Loc nD τ sig) → Buf (Elt Ideal) ℓ) (c : Dev nD)

/-- The reference's arguments. -/
abbrev rows : (⟨2, ![16384, 1024]⟩ : Shape).Idx → EReal := m ((c : Thread nD τ).loc main_arg0)
abbrev arrays : Arrays where
  gains := m ((c : Thread nD τ).loc main_arg1)
  w := m ((c : Thread nD τ).loc main_arg2)
  mu := m ((c : Thread nD τ).loc main_arg3)
  w0 := m ((c : Thread nD τ).loc main_arg4)
  wup := m ((c : Thread nD τ).loc main_arg5)
  a0 := m ((c : Thread nD τ).loc main_arg6)
  aup := m ((c : Thread nD τ).loc main_arg7)
  gup := m ((c : Thread nD τ).loc main_arg8)
  kk := m ((c : Thread nD τ).loc main_arg9)
  ka := m ((c : Thread nD τ).loc main_arg10)
  rk := m ((c : Thread nD τ).loc main_arg11)

/-- All projections of every row. -/
def whole : FVec Ideal S2x8192x4864 .f32 :=
  projections (norm (shapeCast S2x8192x1024 (m ((c : Thread nD τ).loc main_arg0)) shapeCasts_S16384x1024_S2x8192x1024)
      (shapeCast S1024 (extractStridedSlice S1x1x1024 ![0, 2, 0] (m ((c : Thread nD τ).loc main_arg1)) slices_S2x6x1024_S1x1x1024_0_2_0)
        shapeCasts_S1x1x1024_S1024))
    (extf (F := Ideal) .f32 (m ((c : Thread nD τ).loc main_arg2)) bitsLt_bf16_f32)

/-- The first of them, mixed with those of the position before. -/
def mix : FVec Ideal S2x8192x1792 .f32 :=
  mixed (extractStridedSlice S2x8192x1792 ![0, 0, 0] (whole m c) slices_S2x8192x4864_S2x8192x1792_0_0_0) (m ((c : Thread nD τ).loc main_arg3))

def rOf : FVec Ideal S2x8192x512 .f32 := extractStridedSlice S2x8192x512 ![0, 0, 0] (mix m c) slices_S2x8192x1792_S2x8192x512_0_0_0
def kOf : FVec Ideal S2x8192x512 .f32 := extractStridedSlice S2x8192x512 ![0, 0, 512] (mix m c) slices_S2x8192x1792_S2x8192x512_0_0_512
def vOf : FVec Ideal S2x8192x512 .f32 := extractStridedSlice S2x8192x512 ![0, 0, 1024] (mix m c) slices_S2x8192x1792_S2x8192x512_0_0_1024
def aOf : FVec Ideal S2x8192x512 .f32 := rates (mix m c) (m ((c : Thread nD τ).loc main_arg6)) (m ((c : Thread nD τ).loc main_arg7))
def keyOf : FVec Ideal S2x8192x512 .f32 := keys (kOf m c) (aOf m c) (m ((c : Thread nD τ).loc main_arg10))

theorem whole_is : Is (proj (weights (arrays m c)) (at2 (rows m c))) (whole m c) :=
  projections_is (W := at2 (arrays m c).w) (norm_is (G := at3 (arrays m c).gains 0 2) (rows_is (rows m c)) (gain_apply (arrays m c).gains))
    fun _ _ => at2_eq (arrays m c).w _ rfl rfl

theorem mix_is : Is (row (arrays m c) (rows m c)) (mix m c) := by
  have h : Is (proj (weights (arrays m c)) (at2 (rows m c)))
      (extractStridedSlice S2x8192x1792 ![0, 0, 0] (whole m c) slices_S2x8192x4864_S2x8192x1792_0_0_0) := by
    have h := slice_is 0 (by decide) (whole_is m c) slices_S2x8192x4864_S2x8192x1792_0_0_0
    simp only [Nat.zero_add] at h
    exact h
  exact mixed_is h (arrays m c).mu

theorem r_is : Is (row (arrays m c) (rows m c)) (rOf m c) := by
  have h := slice_is 0 (by decide) (mix_is m c) slices_S2x8192x1792_S2x8192x512_0_0_0
  simp only [Nat.zero_add] at h
  exact h

theorem k_is : Is (fun R n => row (arrays m c) (rows m c) R (512 + n)) (kOf m c) :=
  slice_is 512 (by decide) (mix_is m c) slices_S2x8192x1792_S2x8192x512_0_0_512

theorem v_is : Is (fun R n => row (arrays m c) (rows m c) R (1024 + n)) (vOf m c) :=
  slice_is 1024 (by decide) (mix_is m c) slices_S2x8192x1792_S2x8192x512_0_0_1024

theorem a_is : Is (fun R => rate (weights (arrays m c)) (row (arrays m c) (rows m c) R)) (aOf m c) :=
  rates_is (mix_is m c) (arrays m c).a0 (arrays m c).aup

theorem key_is : Is (fun R => key (weights (arrays m c)) (row (arrays m c) (rows m c) R)) (keyOf m c) :=
  keys_is (k_is m c) (a_is m c) (arrays m c).ka

/-! ## The results -/

theorem r_result : res_out0 m c = rowsOf (row (arrays m c) (rows m c)) := by
  refine Eq.trans ?_ (flat_eq (r_is m c))
  rfl

theorem decay_result : res_out1 m c = rowsOf (fun R => decay (weights (arrays m c)) (row (arrays m c) (rows m c) R)) := by
  refine Eq.trans ?_ (flat_eq (decays_is (mix_is m c) (arrays m c).w0 (arrays m c).wup))
  rfl

theorem key_result : res_out2 m c = rowsOf (fun R => key (weights (arrays m c)) (row (arrays m c) (rows m c) R)) := by
  refine Eq.trans ?_ (flat_eq (key_is m c))
  rfl

theorem v_result : res_out3 m c = rowsOf (fun R n => row (arrays m c) (rows m c) R (1024 + n)) := by
  refine Eq.trans ?_ (flat_eq (v_is m c))
  rfl

theorem key1_result : res_out4 m c = rowsOf (fun R => key1 (weights (arrays m c)) (row (arrays m c) (rows m c) R)) := by
  refine Eq.trans ?_ (flat_heads_eq (units_is (keys0_is (k_is m c) (arrays m c).kk)))
  rfl

theorem rate_result : res_out5 m c = rowsOf (fun R => rate (weights (arrays m c)) (row (arrays m c) (rows m c) R)) := by
  refine Eq.trans ?_ (flat_eq (a_is m c))
  rfl

theorem bonus_result : res_out6 m c = rowsOf (fun R => bonus (weights (arrays m c)) (row (arrays m c) (rows m c) R)) := by
  refine Eq.trans ?_ (flat_heads_eq (bonuses_is (r_is m c) (key_is m c) (v_is m c) (arrays m c).rk))
  rfl

theorem gate_result : res_out7 m c = rowsOf (fun R => gate (weights (arrays m c)) (row (arrays m c) (rows m c) R)) := by
  refine Eq.trans ?_ (flat_eq (gates_is (mix_is m c) (arrays m c).gup))
  rfl

theorem last_result : shapeCast S16384x1024 (extractStridedSlice S2x8192x1024 ![0, 0, 1792] (whole m c) slices_S2x8192x4864_S2x8192x1024_0_0_1792)
    shapeCasts_S2x8192x1024_S16384x1024 = lastCols (arrays m c) (rows m c) :=
  funext fun y => flat_last_eq (slice_is 1792 (by decide) (whole_is m c) slices_S2x8192x4864_S2x8192x1024_0_0_1792) y

end Mix.Ref4

end
-- ==== Proof.lean ====
/-
  The certificate: the frames are the generated runs. The first value claim puts the recurrence kernel's outputs
  (`Rwkv.Body.kernel_eq`) beside the reference's (`Rwkv.Loop.reference_eq`): both are the outputs of the recurrence of
  `Rwkv.Inputs`, at the reals that the precondition says the six arguments hold. The next two put each feed-forward
  call's results beside its reference's: both are `Ffn.result` of the arguments, and the first layer's matrices. The last
  puts the nine results of the mixer's inputs beside the reference's: both are functions of `Mix.row`, row by row.
-/
module

public import proofs.«01_k».proof.Defs
public import proofs.«01_k».proof.Proof.Fold
public import proofs.«01_k».proof.Proof.Scan
public import proofs.«01_k».proof.Proof.Finite
public import proofs.«01_k».proof.Proof.FfnArray2
public import proofs.«01_k».proof.Proof.FfnArray3
public import proofs.«01_k».proof.Proof.FfnCast3
public import proofs.«01_k».proof.Proof.FfnRef2
public import proofs.«01_k».proof.Proof.FfnRef3
public import proofs.«01_k».proof.Proof.MixArray
public import proofs.«01_k».proof.Proof.MixWhole4
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

noncomputable section

namespace Cert.Proof

open Idealize.ShloMosaic Idealize.SL.Sem

theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5⟩ := Rwkv.Finite.all_real _ _ _ _ _ _ (hpre c)
  obtain ⟨e0, e1, e2, e3, e4, e5⟩ := hagree c
  refine (Rwkv.Loop.reference_eq (x := Rwkv.Finite.inputs _ _ _ _ _ _)
    ⟨e0.trans h0, e1.trans h1, e2.trans h2, e3.trans h3, e4.trans h4, e5.trans h5⟩).trans ?_
  exact (Rwkv.Body.kernel_eq (x := Rwkv.Finite.inputs _ _ _ _ _ _) ⟨h0, h1, h2, h3, h4, h5⟩).symm

theorem frame_reference2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨e0, e1, e2, e3⟩ := hagree c
  refine (Ffn.Ref2.reference_eq m' c).trans ?_
  rw [e0, e1, e2, e3]
  exact (Ffn.Array2.kernel_eq m c).symm

theorem frame_reference3 : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem value3 : algebraic_Kernel3Ideal_Reference3Ideal := by
  intro m ρ m' ρ' _ hagree
  refine ⟨_, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3, e4, e5, e6, e7, e8, e9⟩ := hagree c
  obtain ⟨r0, r1, r2, r3, r4, r5, r6, kept⟩ := h c
  refine ⟨r0.trans ?_, r1.trans ?_, r2.trans ?_, r3.trans ?_, r4.trans ?_, r5.trans ?_, r6.trans ?_, kept⟩
  · refine (Ffn.Ref3.reference_eq m' c).trans ?_
    rw [e0, e1, e2, e3]
    exact (Ffn.Array3.kernel_eq m c).symm
  · refine (Ffn.Ref3.first_eq _ Cert.Reference3Ideal.Gen.slices_S2x1024x4864_S1x1024x4864_0_0_0
      Cert.Reference3Ideal.Gen.shapeCasts_S1x1024x4864_S1024x4864).trans ?_
    rw [e4]
    exact (Ffn.Cast3.cast4 m c).symm
  · refine (Ffn.Ref3.first_eq _ Cert.Reference3Ideal.Gen.slices_S2x512x1024_S1x512x1024_0_0_0
      Cert.Reference3Ideal.Gen.shapeCasts_S1x512x1024_S512x1024).trans ?_
    rw [e5]
    exact (Ffn.Cast3.cast5 m c).symm
  · refine (Ffn.Ref3.first_eq _ Cert.Reference3Ideal.Gen.slices_S2x512x1024_S1x512x1024_0_0_0
      Cert.Reference3Ideal.Gen.shapeCasts_S1x512x1024_S512x1024).trans ?_
    rw [e6]
    exact (Ffn.Cast3.cast6 m c).symm
  · refine (Ffn.Ref3.first_eq _ Cert.Reference3Ideal.Gen.slices_S2x1024x1024_S1x1024x1024_0_0_0
      Cert.Reference3Ideal.Gen.shapeCasts_S1x1024x1024_S1024x1024).trans ?_
    rw [e7]
    exact (Ffn.Cast3.cast7 m c).symm
  · refine (Ffn.Ref3.first_eq _ Cert.Reference3Ideal.Gen.slices_S2x1024x5632_S1x1024x5632_0_0_0
      Cert.Reference3Ideal.Gen.shapeCasts_S1x1024x5632_S1024x5632).trans ?_
    rw [e8]
    exact (Ffn.Cast3.cast8 m c).symm
  · refine (Ffn.Ref3.first_eq _ Cert.Reference3Ideal.Gen.slices_S2x2816x1024_S1x2816x1024_0_0_0
      Cert.Reference3Ideal.Gen.shapeCasts_S1x2816x1024_S2816x1024).trans ?_
    rw [e9]
    exact (Ffn.Cast3.cast9 m c).symm

theorem frame_reference4 : quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run (F := Ideal) m ρ)

theorem preserves4 : preserves_Kernel4_Kernel4Ideal := IdealRules.named_const.statement _ _ _ _ _ rfl

set_option maxHeartbeats 1600000 in
theorem value4 : algebraic_Kernel4Ideal_Reference4Ideal := by
  intro m ρ m' ρ' _ hagree
  refine ⟨_, _, _, _, _, _, _, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1, e2, e3, e4, e5, e6, e7, e8, e9, e10, e11⟩ := hagree c
  have hx : Mix.Ref4.rows m' c = Mix.Read.rows m c := e0
  have hA : Mix.Ref4.arrays m' c = Mix.Read.arrays m c := by
    unfold Mix.Ref4.arrays Mix.Read.arrays
    rw [e1, e2, e3, e4, e5, e6, e7, e8, e9, e10, e11]
  obtain ⟨r0, r1, r2, r3, r4, r5, r6, r7, r8, kept⟩ := h c
  refine ⟨r0.trans ((Mix.Ref4.r_result m' c).trans ?_), r1.trans ((Mix.Ref4.decay_result m' c).trans ?_),
    r2.trans ((Mix.Ref4.key_result m' c).trans ?_), r3.trans ((Mix.Ref4.v_result m' c).trans ?_),
    r4.trans ((Mix.Ref4.key1_result m' c).trans ?_), r5.trans ((Mix.Ref4.rate_result m' c).trans ?_),
    r6.trans ((Mix.Ref4.bonus_result m' c).trans ?_), r7.trans ((Mix.Ref4.gate_result m' c).trans ?_),
    r8.trans ((Mix.Ref4.last_result m' c).trans ?_), kept⟩ <;> rw [hx, hA]
  · exact (Mix.Block.r_array m c).symm
  · exact (Mix.Block.lw_array m c).symm
  · exact (Mix.Block.k_array m c).symm
  · exact (Mix.Block.v_array m c).symm
  · exact (Mix.Block.kk_array m c).symm
  · exact (Mix.Block.a_array m c).symm
  · exact (Mix.Block.bonus_array m c).symm
  · exact (Mix.Block.gate_array m c).symm
  · exact (Mix.Block.lru_array m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Rwkv.Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  (trivial : preserves_Kernel_KernelIdeal), value, (trivial : preserves_Kernel2_Kernel2Ideal), value2,
  (trivial : preserves_Kernel3_Kernel3Ideal), value3, preserves4, value4⟩

end Cert.Proof

end
